-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_RetFinish (m : (ℓ : Loc Cert.RetFinish.nD Cert.RetFinish.τ Cert.RetFinish.sig) → Buf (Elt Bits) ℓ) : Prop :=
  True

def Pre_RetFinishIdeal (m : (ℓ : Loc Cert.RetFinishIdeal.nD Cert.RetFinishIdeal.τ Cert.RetFinishIdeal.sig) → Buf (Elt Ideal) ℓ) : Prop :=
  True

def Pre_RetFinishRefIdeal (m : (ℓ : Loc Cert.RetFinishRefIdeal.nD Cert.RetFinishRefIdeal.τ Cert.RetFinishRefIdeal.sig) → Buf (Elt Ideal) ℓ) : Prop :=
  True

def Pre_CtxMm (m : (ℓ : Loc Cert.CtxMm.nD Cert.CtxMm.τ Cert.CtxMm.sig) → Buf (Elt Bits) ℓ) : Prop :=
  True

def Pre_CtxMmIdeal (m : (ℓ : Loc Cert.CtxMmIdeal.nD Cert.CtxMmIdeal.τ Cert.CtxMmIdeal.sig) → Buf (Elt Ideal) ℓ) : Prop :=
  True

def Pre_CtxMmRefIdeal (m : (ℓ : Loc Cert.CtxMmRefIdeal.nD Cert.CtxMmRefIdeal.τ Cert.CtxMmRefIdeal.sig) → Buf (Elt Ideal) ℓ) : Prop :=
  True

def Pre_CtxNorm (m : (ℓ : Loc Cert.CtxNorm.nD Cert.CtxNorm.τ Cert.CtxNorm.sig) → Buf (Elt Bits) ℓ) : Prop :=
  True

def Pre_CtxNormIdeal (m : (ℓ : Loc Cert.CtxNormIdeal.nD Cert.CtxNormIdeal.τ Cert.CtxNormIdeal.sig) → Buf (Elt Ideal) ℓ) : Prop :=
  True

def Pre_CtxNormRefIdeal (m : (ℓ : Loc Cert.CtxNormRefIdeal.nD Cert.CtxNormRefIdeal.τ Cert.CtxNormRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).1 = (fun _ => 1#1)
    ∧ (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).2 = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_ada [hPre_finite_ada : Cert.Pre_finite_ada.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).1 = (fun _ => 1#1)
    ∧ (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).2 = (fun _ => 1#1)

def Pre_RwFinish (m : (ℓ : Loc Cert.RwFinish.nD Cert.RwFinish.τ Cert.RwFinish.sig) → Buf (Elt Bits) ℓ) : Prop :=
  True

def Pre_RwFinishIdeal (m : (ℓ : Loc Cert.RwFinishIdeal.nD Cert.RwFinishIdeal.τ Cert.RwFinishIdeal.sig) → Buf (Elt Ideal) ℓ) : Prop :=
  True

def Pre_RwFinishIdeal_finite_rwfin [hPre_finite_rwfin : Cert.Pre_finite_rwfin.Facts] (m : (ℓ : Loc Cert.RwFinishIdeal.nD Cert.RwFinishIdeal.τ Cert.RwFinishIdeal.sig) → Buf (Elt Ideal) ℓ) : Prop :=
  ∀ c : Dev Cert.RwFinishIdeal.nD,
    (Cert.Pre_finite_rwfin.fn (F := Ideal) (m ((c.tc : Thread Cert.RwFinishIdeal.nD Cert.RwFinishIdeal.τ).loc Cert.RwFinishIdeal.main_arg0)) (m ((c.tc : Thread Cert.RwFinishIdeal.nD Cert.RwFinishIdeal.τ).loc Cert.RwFinishIdeal.main_arg1)) (m ((c.tc : Thread Cert.RwFinishIdeal.nD Cert.RwFinishIdeal.τ).loc Cert.RwFinishIdeal.main_arg2)) (m ((c.tc : Thread Cert.RwFinishIdeal.nD Cert.RwFinishIdeal.τ).loc Cert.RwFinishIdeal.main_arg3)) (m ((c.tc : Thread Cert.RwFinishIdeal.nD Cert.RwFinishIdeal.τ).loc Cert.RwFinishIdeal.main_arg4)) (m ((c.tc : Thread Cert.RwFinishIdeal.nD Cert.RwFinishIdeal.τ).loc Cert.RwFinishIdeal.main_arg5))).1 = (fun _ => 1#1)
    ∧ (Cert.Pre_finite_rwfin.fn (F := Ideal) (m ((c.tc : Thread Cert.RwFinishIdeal.nD Cert.RwFinishIdeal.τ).loc Cert.RwFinishIdeal.main_arg0)) (m ((c.tc : Thread Cert.RwFinishIdeal.nD Cert.RwFinishIdeal.τ).loc Cert.RwFinishIdeal.main_arg1)) (m ((c.tc : Thread Cert.RwFinishIdeal.nD Cert.RwFinishIdeal.τ).loc Cert.RwFinishIdeal.main_arg2)) (m ((c.tc : Thread Cert.RwFinishIdeal.nD Cert.RwFinishIdeal.τ).loc Cert.RwFinishIdeal.main_arg3)) (m ((c.tc : Thread Cert.RwFinishIdeal.nD Cert.RwFinishIdeal.τ).loc Cert.RwFinishIdeal.main_arg4)) (m ((c.tc : Thread Cert.RwFinishIdeal.nD Cert.RwFinishIdeal.τ).loc Cert.RwFinishIdeal.main_arg5))).2 = (fun _ => 1#1)

def Pre_RwFinishRefIdeal (m : (ℓ : Loc Cert.RwFinishRefIdeal.nD Cert.RwFinishRefIdeal.τ Cert.RwFinishRefIdeal.sig) → Buf (Elt Ideal) ℓ) : Prop :=
  True

def Pre_RwFinishRefIdeal_finite_rwfin [hPre_finite_rwfin : Cert.Pre_finite_rwfin.Facts] (m : (ℓ : Loc Cert.RwFinishRefIdeal.nD Cert.RwFinishRefIdeal.τ Cert.RwFinishRefIdeal.sig) → Buf (Elt Ideal) ℓ) : Prop :=
  ∀ c : Dev Cert.RwFinishRefIdeal.nD,
    (Cert.Pre_finite_rwfin.fn (F := Ideal) (m ((c.tc : Thread Cert.RwFinishRefIdeal.nD Cert.RwFinishRefIdeal.τ).loc Cert.RwFinishRefIdeal.main_arg0)) (m ((c.tc : Thread Cert.RwFinishRefIdeal.nD Cert.RwFinishRefIdeal.τ).loc Cert.RwFinishRefIdeal.main_arg1)) (m ((c.tc : Thread Cert.RwFinishRefIdeal.nD Cert.RwFinishRefIdeal.τ).loc Cert.RwFinishRefIdeal.main_arg2)) (m ((c.tc : Thread Cert.RwFinishRefIdeal.nD Cert.RwFinishRefIdeal.τ).loc Cert.RwFinishRefIdeal.main_arg3)) (m ((c.tc : Thread Cert.RwFinishRefIdeal.nD Cert.RwFinishRefIdeal.τ).loc Cert.RwFinishRefIdeal.main_arg4)) (m ((c.tc : Thread Cert.RwFinishRefIdeal.nD Cert.RwFinishRefIdeal.τ).loc Cert.RwFinishRefIdeal.main_arg5))).1 = (fun _ => 1#1)
    ∧ (Cert.Pre_finite_rwfin.fn (F := Ideal) (m ((c.tc : Thread Cert.RwFinishRefIdeal.nD Cert.RwFinishRefIdeal.τ).loc Cert.RwFinishRefIdeal.main_arg0)) (m ((c.tc : Thread Cert.RwFinishRefIdeal.nD Cert.RwFinishRefIdeal.τ).loc Cert.RwFinishRefIdeal.main_arg1)) (m ((c.tc : Thread Cert.RwFinishRefIdeal.nD Cert.RwFinishRefIdeal.τ).loc Cert.RwFinishRefIdeal.main_arg2)) (m ((c.tc : Thread Cert.RwFinishRefIdeal.nD Cert.RwFinishRefIdeal.τ).loc Cert.RwFinishRefIdeal.main_arg3)) (m ((c.tc : Thread Cert.RwFinishRefIdeal.nD Cert.RwFinishRefIdeal.τ).loc Cert.RwFinishRefIdeal.main_arg4)) (m ((c.tc : Thread Cert.RwFinishRefIdeal.nD Cert.RwFinishRefIdeal.τ).loc Cert.RwFinishRefIdeal.main_arg5))).2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_RetFinish [hRetFinish : Cert.RetFinish.Facts] : Prop :=
  ∀ (m : (ℓ : Loc Cert.RetFinish.nD Cert.RetFinish.τ Cert.RetFinish.sig) → Buf (Elt Bits) ℓ) (g : Dev Cert.RetFinish.nD → PrngReg), Pre_RetFinish m →
    θ_run (Cert.RetFinish.defs (F := Bits)) (onTc (τ := Cert.RetFinish.τ) (Cert.RetFinish.main (F := Bits))) ⟨m, fun _ => 0, g⟩ (fun r => (∀ c : Dev Cert.RetFinish.nD,
      r.2.mem ((c.tc : Thread Cert.RetFinish.nD Cert.RetFinish.τ).loc Cert.RetFinish.main_arg0) = m ((c.tc : Thread Cert.RetFinish.nD Cert.RetFinish.τ).loc Cert.RetFinish.main_arg0)
      ∧ r.2.mem ((c.tc : Thread Cert.RetFinish.nD Cert.RetFinish.τ).loc Cert.RetFinish.main_arg1) = m ((c.tc : Thread Cert.RetFinish.nD Cert.RetFinish.τ).loc Cert.RetFinish.main_arg1)
      ∧ r.2.mem ((c.tc : Thread Cert.RetFinish.nD Cert.RetFinish.τ).loc Cert.RetFinish.main_arg2) = m ((c.tc : Thread Cert.RetFinish.nD Cert.RetFinish.τ).loc Cert.RetFinish.main_arg2))
      ∧ r.2.sem = fun _ => 0)

def quiescent_RetFinishIdeal [hRetFinishIdeal : Cert.RetFinishIdeal.Facts] : Prop :=
  ∀ (m : (ℓ : Loc Cert.RetFinishIdeal.nD Cert.RetFinishIdeal.τ Cert.RetFinishIdeal.sig) → Buf (Elt Ideal) ℓ) (g : Dev Cert.RetFinishIdeal.nD → PrngReg), Pre_RetFinishIdeal m →
    θ_run (Cert.RetFinishIdeal.defs (F := Ideal)) (onTc (τ := Cert.RetFinishIdeal.τ) (Cert.RetFinishIdeal.main (F := Ideal))) ⟨m, fun _ => 0, g⟩ (fun r => (∀ c : Dev Cert.RetFinishIdeal.nD,
      r.2.mem ((c.tc : Thread Cert.RetFinishIdeal.nD Cert.RetFinishIdeal.τ).loc Cert.RetFinishIdeal.main_arg0) = m ((c.tc : Thread Cert.RetFinishIdeal.nD Cert.RetFinishIdeal.τ).loc Cert.RetFinishIdeal.main_arg0)
      ∧ r.2.mem ((c.tc : Thread Cert.RetFinishIdeal.nD Cert.RetFinishIdeal.τ).loc Cert.RetFinishIdeal.main_arg1) = m ((c.tc : Thread Cert.RetFinishIdeal.nD Cert.RetFinishIdeal.τ).loc Cert.RetFinishIdeal.main_arg1)
      ∧ r.2.mem ((c.tc : Thread Cert.RetFinishIdeal.nD Cert.RetFinishIdeal.τ).loc Cert.RetFinishIdeal.main_arg2) = m ((c.tc : Thread Cert.RetFinishIdeal.nD Cert.RetFinishIdeal.τ).loc Cert.RetFinishIdeal.main_arg2))
      ∧ r.2.sem = fun _ => 0)

def quiescent_RetFinishRefIdeal [hRetFinishRefIdeal : Cert.RetFinishRefIdeal.Facts] : Prop :=
  ∀ (m : (ℓ : Loc Cert.RetFinishRefIdeal.nD Cert.RetFinishRefIdeal.τ Cert.RetFinishRefIdeal.sig) → Buf (Elt Ideal) ℓ) (g : Dev Cert.RetFinishRefIdeal.nD → PrngReg), Pre_RetFinishRefIdeal m →
    θ_run (Cert.RetFinishRefIdeal.defs (F := Ideal)) (onTc (τ := Cert.RetFinishRefIdeal.τ) (Cert.RetFinishRefIdeal.main (F := Ideal))) ⟨m, fun _ => 0, g⟩ (fun r => (∀ c : Dev Cert.RetFinishRefIdeal.nD,
      r.2.mem ((c.tc : Thread Cert.RetFinishRefIdeal.nD Cert.RetFinishRefIdeal.τ).loc Cert.RetFinishRefIdeal.main_arg0) = m ((c.tc : Thread Cert.RetFinishRefIdeal.nD Cert.RetFinishRefIdeal.τ).loc Cert.RetFinishRefIdeal.main_arg0)
      ∧ r.2.mem ((c.tc : Thread Cert.RetFinishRefIdeal.nD Cert.RetFinishRefIdeal.τ).loc Cert.RetFinishRefIdeal.main_arg1) = m ((c.tc : Thread Cert.RetFinishRefIdeal.nD Cert.RetFinishRefIdeal.τ).loc Cert.RetFinishRefIdeal.main_arg1)
      ∧ r.2.mem ((c.tc : Thread Cert.RetFinishRefIdeal.nD Cert.RetFinishRefIdeal.τ).loc Cert.RetFinishRefIdeal.main_arg2) = m ((c.tc : Thread Cert.RetFinishRefIdeal.nD Cert.RetFinishRefIdeal.τ).loc Cert.RetFinishRefIdeal.main_arg2))
      ∧ r.2.sem = fun _ => 0)

def quiescent_CtxMm [hCtxMm : Cert.CtxMm.Facts] : Prop :=
  ∀ (m : (ℓ : Loc Cert.CtxMm.nD Cert.CtxMm.τ Cert.CtxMm.sig) → Buf (Elt Bits) ℓ) (g : Dev Cert.CtxMm.nD → PrngReg), Pre_CtxMm m →
    θ_run (Cert.CtxMm.defs (F := Bits)) (onTc (τ := Cert.CtxMm.τ) (Cert.CtxMm.main (F := Bits))) ⟨m, fun _ => 0, g⟩ (fun r => (∀ c : Dev Cert.CtxMm.nD,
      r.2.mem ((c.tc : Thread Cert.CtxMm.nD Cert.CtxMm.τ).loc Cert.CtxMm.main_arg0) = m ((c.tc : Thread Cert.CtxMm.nD Cert.CtxMm.τ).loc Cert.CtxMm.main_arg0)
      ∧ r.2.mem ((c.tc : Thread Cert.CtxMm.nD Cert.CtxMm.τ).loc Cert.CtxMm.main_arg1) = m ((c.tc : Thread Cert.CtxMm.nD Cert.CtxMm.τ).loc Cert.CtxMm.main_arg1))
      ∧ r.2.sem = fun _ => 0)

def quiescent_CtxMmIdeal [hCtxMmIdeal : Cert.CtxMmIdeal.Facts] : Prop :=
  ∀ (m : (ℓ : Loc Cert.CtxMmIdeal.nD Cert.CtxMmIdeal.τ Cert.CtxMmIdeal.sig) → Buf (Elt Ideal) ℓ) (g : Dev Cert.CtxMmIdeal.nD → PrngReg), Pre_CtxMmIdeal m →
    θ_run (Cert.CtxMmIdeal.defs (F := Ideal)) (onTc (τ := Cert.CtxMmIdeal.τ) (Cert.CtxMmIdeal.main (F := Ideal))) ⟨m, fun _ => 0, g⟩ (fun r => (∀ c : Dev Cert.CtxMmIdeal.nD,
      r.2.mem ((c.tc : Thread Cert.CtxMmIdeal.nD Cert.CtxMmIdeal.τ).loc Cert.CtxMmIdeal.main_arg0) = m ((c.tc : Thread Cert.CtxMmIdeal.nD Cert.CtxMmIdeal.τ).loc Cert.CtxMmIdeal.main_arg0)
      ∧ r.2.mem ((c.tc : Thread Cert.CtxMmIdeal.nD Cert.CtxMmIdeal.τ).loc Cert.CtxMmIdeal.main_arg1) = m ((c.tc : Thread Cert.CtxMmIdeal.nD Cert.CtxMmIdeal.τ).loc Cert.CtxMmIdeal.main_arg1))
      ∧ r.2.sem = fun _ => 0)

def quiescent_CtxMmRefIdeal [hCtxMmRefIdeal : Cert.CtxMmRefIdeal.Facts] : Prop :=
  ∀ (m : (ℓ : Loc Cert.CtxMmRefIdeal.nD Cert.CtxMmRefIdeal.τ Cert.CtxMmRefIdeal.sig) → Buf (Elt Ideal) ℓ) (g : Dev Cert.CtxMmRefIdeal.nD → PrngReg), Pre_CtxMmRefIdeal m →
    θ_run (Cert.CtxMmRefIdeal.defs (F := Ideal)) (onTc (τ := Cert.CtxMmRefIdeal.τ) (Cert.CtxMmRefIdeal.main (F := Ideal))) ⟨m, fun _ => 0, g⟩ (fun r => (∀ c : Dev Cert.CtxMmRefIdeal.nD,
      r.2.mem ((c.tc : Thread Cert.CtxMmRefIdeal.nD Cert.CtxMmRefIdeal.τ).loc Cert.CtxMmRefIdeal.main_arg0) = m ((c.tc : Thread Cert.CtxMmRefIdeal.nD Cert.CtxMmRefIdeal.τ).loc Cert.CtxMmRefIdeal.main_arg0)
      ∧ r.2.mem ((c.tc : Thread Cert.CtxMmRefIdeal.nD Cert.CtxMmRefIdeal.τ).loc Cert.CtxMmRefIdeal.main_arg1) = m ((c.tc : Thread Cert.CtxMmRefIdeal.nD Cert.CtxMmRefIdeal.τ).loc Cert.CtxMmRefIdeal.main_arg1))
      ∧ r.2.sem = fun _ => 0)

def quiescent_CtxNorm [hCtxNorm : Cert.CtxNorm.Facts] : Prop :=
  ∀ (m : (ℓ : Loc Cert.CtxNorm.nD Cert.CtxNorm.τ Cert.CtxNorm.sig) → Buf (Elt Bits) ℓ) (g : Dev Cert.CtxNorm.nD → PrngReg), Pre_CtxNorm m →
    θ_run (Cert.CtxNorm.defs (F := Bits)) (onTc (τ := Cert.CtxNorm.τ) (Cert.CtxNorm.main (F := Bits))) ⟨m, fun _ => 0, g⟩ (fun r => (∀ c : Dev Cert.CtxNorm.nD,
      r.2.mem ((c.tc : Thread Cert.CtxNorm.nD Cert.CtxNorm.τ).loc Cert.CtxNorm.main_arg0) = m ((c.tc : Thread Cert.CtxNorm.nD Cert.CtxNorm.τ).loc Cert.CtxNorm.main_arg0)
      ∧ r.2.mem ((c.tc : Thread Cert.CtxNorm.nD Cert.CtxNorm.τ).loc Cert.CtxNorm.main_arg1) = m ((c.tc : Thread Cert.CtxNorm.nD Cert.CtxNorm.τ).loc Cert.CtxNorm.main_arg1)
      ∧ r.2.mem ((c.tc : Thread Cert.CtxNorm.nD Cert.CtxNorm.τ).loc Cert.CtxNorm.main_arg2) = m ((c.tc : Thread Cert.CtxNorm.nD Cert.CtxNorm.τ).loc Cert.CtxNorm.main_arg2)
      ∧ r.2.mem ((c.tc : Thread Cert.CtxNorm.nD Cert.CtxNorm.τ).loc Cert.CtxNorm.main_arg3) = m ((c.tc : Thread Cert.CtxNorm.nD Cert.CtxNorm.τ).loc Cert.CtxNorm.main_arg3)
      ∧ r.2.mem ((c.tc : Thread Cert.CtxNorm.nD Cert.CtxNorm.τ).loc Cert.CtxNorm.main_arg4) = m ((c.tc : Thread Cert.CtxNorm.nD Cert.CtxNorm.τ).loc Cert.CtxNorm.main_arg4))
      ∧ r.2.sem = fun _ => 0)

def quiescent_CtxNormIdeal [hCtxNormIdeal : Cert.CtxNormIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg), Pre_CtxNormIdeal m →
    θ_run (Cert.CtxNormIdeal.defs (F := Ideal)) (onTc (τ := Cert.CtxNormIdeal.τ) (Cert.CtxNormIdeal.main (F := Ideal))) ⟨m, fun _ => 0, g⟩ (fun r => (∀ c : Dev Cert.CtxNormIdeal.nD,
      r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
      ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
      ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2)
      ∧ r.2.mem ((c.tc : Thread Cert.CtxNormIdeal.nD Cert.CtxNormIdeal.τ).loc Cert.CtxNormIdeal.main_arg3) = m ((c.tc : Thread Cert.CtxNormIdeal.nD Cert.CtxNormIdeal.τ).loc Cert.CtxNormIdeal.main_arg3)
      ∧ r.2.mem ((c.tc : Thread Cert.CtxNormIdeal.nD Cert.CtxNormIdeal.τ).loc Cert.CtxNormIdeal.main_arg4) = m ((c.tc : Thread Cert.CtxNormIdeal.nD Cert.CtxNormIdeal.τ).loc Cert.CtxNormIdeal.main_arg4))
      ∧ r.2.sem = fun _ => 0)

def quiescent_CtxNormRefIdeal [hCtxNormRefIdeal : Cert.CtxNormRefIdeal.Facts] : Prop :=
  ∀ (m : (ℓ : Loc Cert.CtxNormRefIdeal.nD Cert.CtxNormRefIdeal.τ Cert.CtxNormRefIdeal.sig) → Buf (Elt Ideal) ℓ) (g : Dev Cert.CtxNormRefIdeal.nD → PrngReg), Pre_CtxNormRefIdeal m →
    θ_run (Cert.CtxNormRefIdeal.defs (F := Ideal)) (onTc (τ := Cert.CtxNormRefIdeal.τ) (Cert.CtxNormRefIdeal.main (F := Ideal))) ⟨m, fun _ => 0, g⟩ (fun r => (∀ c : Dev Cert.CtxNormRefIdeal.nD,
      r.2.mem ((c.tc : Thread Cert.CtxNormRefIdeal.nD Cert.CtxNormRefIdeal.τ).loc Cert.CtxNormRefIdeal.main_arg0) = m ((c.tc : Thread Cert.CtxNormRefIdeal.nD Cert.CtxNormRefIdeal.τ).loc Cert.CtxNormRefIdeal.main_arg0)
      ∧ r.2.mem ((c.tc : Thread Cert.CtxNormRefIdeal.nD Cert.CtxNormRefIdeal.τ).loc Cert.CtxNormRefIdeal.main_arg1) = m ((c.tc : Thread Cert.CtxNormRefIdeal.nD Cert.CtxNormRefIdeal.τ).loc Cert.CtxNormRefIdeal.main_arg1)
      ∧ r.2.mem ((c.tc : Thread Cert.CtxNormRefIdeal.nD Cert.CtxNormRefIdeal.τ).loc Cert.CtxNormRefIdeal.main_arg2) = m ((c.tc : Thread Cert.CtxNormRefIdeal.nD Cert.CtxNormRefIdeal.τ).loc Cert.CtxNormRefIdeal.main_arg2)
      ∧ r.2.mem ((c.tc : Thread Cert.CtxNormRefIdeal.nD Cert.CtxNormRefIdeal.τ).loc Cert.CtxNormRefIdeal.main_arg3) = m ((c.tc : Thread Cert.CtxNormRefIdeal.nD Cert.CtxNormRefIdeal.τ).loc Cert.CtxNormRefIdeal.main_arg3)
      ∧ r.2.mem ((c.tc : Thread Cert.CtxNormRefIdeal.nD Cert.CtxNormRefIdeal.τ).loc Cert.CtxNormRefIdeal.main_arg4) = m ((c.tc : Thread Cert.CtxNormRefIdeal.nD Cert.CtxNormRefIdeal.τ).loc Cert.CtxNormRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite_ada [hAdaRefIdeal : Cert.AdaRefIdeal.Facts] [hPre_finite_ada : Cert.Pre_finite_ada.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_ada m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_RwFinish [hRwFinish : Cert.RwFinish.Facts] : Prop :=
  ∀ (m : (ℓ : Loc Cert.RwFinish.nD Cert.RwFinish.τ Cert.RwFinish.sig) → Buf (Elt Bits) ℓ) (g : Dev Cert.RwFinish.nD → PrngReg), Pre_RwFinish m →
    θ_run (Cert.RwFinish.defs (F := Bits)) (onTc (τ := Cert.RwFinish.τ) (Cert.RwFinish.main (F := Bits))) ⟨m, fun _ => 0, g⟩ (fun r => (∀ c : Dev Cert.RwFinish.nD,
      r.2.mem ((c.tc : Thread Cert.RwFinish.nD Cert.RwFinish.τ).loc Cert.RwFinish.main_arg0) = m ((c.tc : Thread Cert.RwFinish.nD Cert.RwFinish.τ).loc Cert.RwFinish.main_arg0)
      ∧ r.2.mem ((c.tc : Thread Cert.RwFinish.nD Cert.RwFinish.τ).loc Cert.RwFinish.main_arg1) = m ((c.tc : Thread Cert.RwFinish.nD Cert.RwFinish.τ).loc Cert.RwFinish.main_arg1)
      ∧ r.2.mem ((c.tc : Thread Cert.RwFinish.nD Cert.RwFinish.τ).loc Cert.RwFinish.main_arg2) = m ((c.tc : Thread Cert.RwFinish.nD Cert.RwFinish.τ).loc Cert.RwFinish.main_arg2)
      ∧ r.2.mem ((c.tc : Thread Cert.RwFinish.nD Cert.RwFinish.τ).loc Cert.RwFinish.main_arg3) = m ((c.tc : Thread Cert.RwFinish.nD Cert.RwFinish.τ).loc Cert.RwFinish.main_arg3)
      ∧ r.2.mem ((c.tc : Thread Cert.RwFinish.nD Cert.RwFinish.τ).loc Cert.RwFinish.main_arg4) = m ((c.tc : Thread Cert.RwFinish.nD Cert.RwFinish.τ).loc Cert.RwFinish.main_arg4)
      ∧ r.2.mem ((c.tc : Thread Cert.RwFinish.nD Cert.RwFinish.τ).loc Cert.RwFinish.main_arg5) = m ((c.tc : Thread Cert.RwFinish.nD Cert.RwFinish.τ).loc Cert.RwFinish.main_arg5))
      ∧ r.2.sem = fun _ => 0)

def quiescent_RwFinishIdeal [hRwFinishIdeal : Cert.RwFinishIdeal.Facts] : Prop :=
  ∀ (m : (ℓ : Loc Cert.RwFinishIdeal.nD Cert.RwFinishIdeal.τ Cert.RwFinishIdeal.sig) → Buf (Elt Ideal) ℓ) (g : Dev Cert.RwFinishIdeal.nD → PrngReg), Pre_RwFinishIdeal m →
    θ_run (Cert.RwFinishIdeal.defs (F := Ideal)) (onTc (τ := Cert.RwFinishIdeal.τ) (Cert.RwFinishIdeal.main (F := Ideal))) ⟨m, fun _ => 0, g⟩ (fun r => (∀ c : Dev Cert.RwFinishIdeal.nD,
      r.2.mem ((c.tc : Thread Cert.RwFinishIdeal.nD Cert.RwFinishIdeal.τ).loc Cert.RwFinishIdeal.main_arg0) = m ((c.tc : Thread Cert.RwFinishIdeal.nD Cert.RwFinishIdeal.τ).loc Cert.RwFinishIdeal.main_arg0)
      ∧ r.2.mem ((c.tc : Thread Cert.RwFinishIdeal.nD Cert.RwFinishIdeal.τ).loc Cert.RwFinishIdeal.main_arg1) = m ((c.tc : Thread Cert.RwFinishIdeal.nD Cert.RwFinishIdeal.τ).loc Cert.RwFinishIdeal.main_arg1)
      ∧ r.2.mem ((c.tc : Thread Cert.RwFinishIdeal.nD Cert.RwFinishIdeal.τ).loc Cert.RwFinishIdeal.main_arg2) = m ((c.tc : Thread Cert.RwFinishIdeal.nD Cert.RwFinishIdeal.τ).loc Cert.RwFinishIdeal.main_arg2)
      ∧ r.2.mem ((c.tc : Thread Cert.RwFinishIdeal.nD Cert.RwFinishIdeal.τ).loc Cert.RwFinishIdeal.main_arg3) = m ((c.tc : Thread Cert.RwFinishIdeal.nD Cert.RwFinishIdeal.τ).loc Cert.RwFinishIdeal.main_arg3)
      ∧ r.2.mem ((c.tc : Thread Cert.RwFinishIdeal.nD Cert.RwFinishIdeal.τ).loc Cert.RwFinishIdeal.main_arg4) = m ((c.tc : Thread Cert.RwFinishIdeal.nD Cert.RwFinishIdeal.τ).loc Cert.RwFinishIdeal.main_arg4)
      ∧ r.2.mem ((c.tc : Thread Cert.RwFinishIdeal.nD Cert.RwFinishIdeal.τ).loc Cert.RwFinishIdeal.main_arg5) = m ((c.tc : Thread Cert.RwFinishIdeal.nD Cert.RwFinishIdeal.τ).loc Cert.RwFinishIdeal.main_arg5))
      ∧ r.2.sem = fun _ => 0)

def quiescent_RwFinishIdeal_pre_finite_rwfin [hRwFinishIdeal : Cert.RwFinishIdeal.Facts] [hPre_finite_rwfin : Cert.Pre_finite_rwfin.Facts] : Prop :=
  ∀ (m : (ℓ : Loc Cert.RwFinishIdeal.nD Cert.RwFinishIdeal.τ Cert.RwFinishIdeal.sig) → Buf (Elt Ideal) ℓ) (g : Dev Cert.RwFinishIdeal.nD → PrngReg), Pre_RwFinishIdeal_finite_rwfin m →
    θ_run (Cert.RwFinishIdeal.defs (F := Ideal)) (onTc (τ := Cert.RwFinishIdeal.τ) (Cert.RwFinishIdeal.main (F := Ideal))) ⟨m, fun _ => 0, g⟩ (fun r => (∀ c : Dev Cert.RwFinishIdeal.nD,
      r.2.mem ((c.tc : Thread Cert.RwFinishIdeal.nD Cert.RwFinishIdeal.τ).loc Cert.RwFinishIdeal.main_arg0) = m ((c.tc : Thread Cert.RwFinishIdeal.nD Cert.RwFinishIdeal.τ).loc Cert.RwFinishIdeal.main_arg0)
      ∧ r.2.mem ((c.tc : Thread Cert.RwFinishIdeal.nD Cert.RwFinishIdeal.τ).loc Cert.RwFinishIdeal.main_arg1) = m ((c.tc : Thread Cert.RwFinishIdeal.nD Cert.RwFinishIdeal.τ).loc Cert.RwFinishIdeal.main_arg1)
      ∧ r.2.mem ((c.tc : Thread Cert.RwFinishIdeal.nD Cert.RwFinishIdeal.τ).loc Cert.RwFinishIdeal.main_arg2) = m ((c.tc : Thread Cert.RwFinishIdeal.nD Cert.RwFinishIdeal.τ).loc Cert.RwFinishIdeal.main_arg2)
      ∧ r.2.mem ((c.tc : Thread Cert.RwFinishIdeal.nD Cert.RwFinishIdeal.τ).loc Cert.RwFinishIdeal.main_arg3) = m ((c.tc : Thread Cert.RwFinishIdeal.nD Cert.RwFinishIdeal.τ).loc Cert.RwFinishIdeal.main_arg3)
      ∧ r.2.mem ((c.tc : Thread Cert.RwFinishIdeal.nD Cert.RwFinishIdeal.τ).loc Cert.RwFinishIdeal.main_arg4) = m ((c.tc : Thread Cert.RwFinishIdeal.nD Cert.RwFinishIdeal.τ).loc Cert.RwFinishIdeal.main_arg4)
      ∧ r.2.mem ((c.tc : Thread Cert.RwFinishIdeal.nD Cert.RwFinishIdeal.τ).loc Cert.RwFinishIdeal.main_arg5) = m ((c.tc : Thread Cert.RwFinishIdeal.nD Cert.RwFinishIdeal.τ).loc Cert.RwFinishIdeal.main_arg5))
      ∧ r.2.sem = fun _ => 0)

def quiescent_RwFinishRefIdeal [hRwFinishRefIdeal : Cert.RwFinishRefIdeal.Facts] : Prop :=
  ∀ (m : (ℓ : Loc Cert.RwFinishRefIdeal.nD Cert.RwFinishRefIdeal.τ Cert.RwFinishRefIdeal.sig) → Buf (Elt Ideal) ℓ) (g : Dev Cert.RwFinishRefIdeal.nD → PrngReg), Pre_RwFinishRefIdeal m →
    θ_run (Cert.RwFinishRefIdeal.defs (F := Ideal)) (onTc (τ := Cert.RwFinishRefIdeal.τ) (Cert.RwFinishRefIdeal.main (F := Ideal))) ⟨m, fun _ => 0, g⟩ (fun r => (∀ c : Dev Cert.RwFinishRefIdeal.nD,
      r.2.mem ((c.tc : Thread Cert.RwFinishRefIdeal.nD Cert.RwFinishRefIdeal.τ).loc Cert.RwFinishRefIdeal.main_arg0) = m ((c.tc : Thread Cert.RwFinishRefIdeal.nD Cert.RwFinishRefIdeal.τ).loc Cert.RwFinishRefIdeal.main_arg0)
      ∧ r.2.mem ((c.tc : Thread Cert.RwFinishRefIdeal.nD Cert.RwFinishRefIdeal.τ).loc Cert.RwFinishRefIdeal.main_arg1) = m ((c.tc : Thread Cert.RwFinishRefIdeal.nD Cert.RwFinishRefIdeal.τ).loc Cert.RwFinishRefIdeal.main_arg1)
      ∧ r.2.mem ((c.tc : Thread Cert.RwFinishRefIdeal.nD Cert.RwFinishRefIdeal.τ).loc Cert.RwFinishRefIdeal.main_arg2) = m ((c.tc : Thread Cert.RwFinishRefIdeal.nD Cert.RwFinishRefIdeal.τ).loc Cert.RwFinishRefIdeal.main_arg2)
      ∧ r.2.mem ((c.tc : Thread Cert.RwFinishRefIdeal.nD Cert.RwFinishRefIdeal.τ).loc Cert.RwFinishRefIdeal.main_arg3) = m ((c.tc : Thread Cert.RwFinishRefIdeal.nD Cert.RwFinishRefIdeal.τ).loc Cert.RwFinishRefIdeal.main_arg3)
      ∧ r.2.mem ((c.tc : Thread Cert.RwFinishRefIdeal.nD Cert.RwFinishRefIdeal.τ).loc Cert.RwFinishRefIdeal.main_arg4) = m ((c.tc : Thread Cert.RwFinishRefIdeal.nD Cert.RwFinishRefIdeal.τ).loc Cert.RwFinishRefIdeal.main_arg4)
      ∧ r.2.mem ((c.tc : Thread Cert.RwFinishRefIdeal.nD Cert.RwFinishRefIdeal.τ).loc Cert.RwFinishRefIdeal.main_arg5) = m ((c.tc : Thread Cert.RwFinishRefIdeal.nD Cert.RwFinishRefIdeal.τ).loc Cert.RwFinishRefIdeal.main_arg5))
      ∧ r.2.sem = fun _ => 0)

def quiescent_RwFinishRefIdeal_pre_finite_rwfin [hRwFinishRefIdeal : Cert.RwFinishRefIdeal.Facts] [hPre_finite_rwfin : Cert.Pre_finite_rwfin.Facts] : Prop :=
  ∀ (m : (ℓ : Loc Cert.RwFinishRefIdeal.nD Cert.RwFinishRefIdeal.τ Cert.RwFinishRefIdeal.sig) → Buf (Elt Ideal) ℓ) (g : Dev Cert.RwFinishRefIdeal.nD → PrngReg), Pre_RwFinishRefIdeal_finite_rwfin m →
    θ_run (Cert.RwFinishRefIdeal.defs (F := Ideal)) (onTc (τ := Cert.RwFinishRefIdeal.τ) (Cert.RwFinishRefIdeal.main (F := Ideal))) ⟨m, fun _ => 0, g⟩ (fun r => (∀ c : Dev Cert.RwFinishRefIdeal.nD,
      r.2.mem ((c.tc : Thread Cert.RwFinishRefIdeal.nD Cert.RwFinishRefIdeal.τ).loc Cert.RwFinishRefIdeal.main_arg0) = m ((c.tc : Thread Cert.RwFinishRefIdeal.nD Cert.RwFinishRefIdeal.τ).loc Cert.RwFinishRefIdeal.main_arg0)
      ∧ r.2.mem ((c.tc : Thread Cert.RwFinishRefIdeal.nD Cert.RwFinishRefIdeal.τ).loc Cert.RwFinishRefIdeal.main_arg1) = m ((c.tc : Thread Cert.RwFinishRefIdeal.nD Cert.RwFinishRefIdeal.τ).loc Cert.RwFinishRefIdeal.main_arg1)
      ∧ r.2.mem ((c.tc : Thread Cert.RwFinishRefIdeal.nD Cert.RwFinishRefIdeal.τ).loc Cert.RwFinishRefIdeal.main_arg2) = m ((c.tc : Thread Cert.RwFinishRefIdeal.nD Cert.RwFinishRefIdeal.τ).loc Cert.RwFinishRefIdeal.main_arg2)
      ∧ r.2.mem ((c.tc : Thread Cert.RwFinishRefIdeal.nD Cert.RwFinishRefIdeal.τ).loc Cert.RwFinishRefIdeal.main_arg3) = m ((c.tc : Thread Cert.RwFinishRefIdeal.nD Cert.RwFinishRefIdeal.τ).loc Cert.RwFinishRefIdeal.main_arg3)
      ∧ r.2.mem ((c.tc : Thread Cert.RwFinishRefIdeal.nD Cert.RwFinishRefIdeal.τ).loc Cert.RwFinishRefIdeal.main_arg4) = m ((c.tc : Thread Cert.RwFinishRefIdeal.nD Cert.RwFinishRefIdeal.τ).loc Cert.RwFinishRefIdeal.main_arg4)
      ∧ r.2.mem ((c.tc : Thread Cert.RwFinishRefIdeal.nD Cert.RwFinishRefIdeal.τ).loc Cert.RwFinishRefIdeal.main_arg5) = m ((c.tc : Thread Cert.RwFinishRefIdeal.nD Cert.RwFinishRefIdeal.τ).loc Cert.RwFinishRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v23) = v0 c
          ∧ r.2.mem ((c.tc : Thread Cert.NormRefIdeal.nD Cert.NormRefIdeal.τ).loc Cert.NormRefIdeal.main_v24) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v42) = v0 c
          ∧ r.2.mem ((c.tc : Thread Cert.OutProjRefIdeal.nD Cert.OutProjRefIdeal.τ).loc Cert.OutProjRefIdeal.main_v44) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v6)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v6) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v78) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v22) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_RetFinish_RetFinishIdeal : Prop :=
  True

def algebraic_RetFinishIdeal_RetFinishRefIdeal [hRetFinishIdeal : Cert.RetFinishIdeal.Facts] [hRetFinishRefIdeal : Cert.RetFinishRefIdeal.Facts] : Prop :=
  ∀ (m : (ℓ : Loc Cert.RetFinishIdeal.nD Cert.RetFinishIdeal.τ Cert.RetFinishIdeal.sig) → Buf (Elt Ideal) ℓ) (g : Dev Cert.RetFinishIdeal.nD → PrngReg)
    (m' : (ℓ : Loc Cert.RetFinishRefIdeal.nD Cert.RetFinishRefIdeal.τ Cert.RetFinishRefIdeal.sig) → Buf (Elt Ideal) ℓ) (g' : Dev Cert.RetFinishRefIdeal.nD → PrngReg), Pre_RetFinishIdeal m →
    (∀ c : Dev Cert.RetFinishIdeal.nD,
      m' ((c.tc : Thread Cert.RetFinishRefIdeal.nD Cert.RetFinishRefIdeal.τ).loc Cert.RetFinishRefIdeal.main_arg0) = m ((c.tc : Thread Cert.RetFinishIdeal.nD Cert.RetFinishIdeal.τ).loc Cert.RetFinishIdeal.main_arg0)
      ∧ m' ((c.tc : Thread Cert.RetFinishRefIdeal.nD Cert.RetFinishRefIdeal.τ).loc Cert.RetFinishRefIdeal.main_arg1) = m ((c.tc : Thread Cert.RetFinishIdeal.nD Cert.RetFinishIdeal.τ).loc Cert.RetFinishIdeal.main_arg1)
      ∧ m' ((c.tc : Thread Cert.RetFinishRefIdeal.nD Cert.RetFinishRefIdeal.τ).loc Cert.RetFinishRefIdeal.main_arg2) = m ((c.tc : Thread Cert.RetFinishIdeal.nD Cert.RetFinishIdeal.τ).loc Cert.RetFinishIdeal.main_arg2)) →
    ∃ (v0 : (c : Dev Cert.RetFinishIdeal.nD) → Buf (Elt Ideal) ((c.tc : Thread Cert.RetFinishIdeal.nD Cert.RetFinishIdeal.τ).loc Cert.RetFinishIdeal.main_v0)),
      θ_run (Cert.RetFinishIdeal.defs (F := Ideal)) (onTc (τ := Cert.RetFinishIdeal.τ) (Cert.RetFinishIdeal.main (F := Ideal))) ⟨m, fun _ => 0, g⟩ (fun r => ∀ c : Dev Cert.RetFinishIdeal.nD,
          r.2.mem ((c.tc : Thread Cert.RetFinishIdeal.nD Cert.RetFinishIdeal.τ).loc Cert.RetFinishIdeal.main_v0) = v0 c
          ∧ r.2.mem ((c.tc : Thread Cert.RetFinishIdeal.nD Cert.RetFinishIdeal.τ).loc Cert.RetFinishIdeal.main_arg0) = m ((c.tc : Thread Cert.RetFinishIdeal.nD Cert.RetFinishIdeal.τ).loc Cert.RetFinishIdeal.main_arg0)
          ∧ r.2.mem ((c.tc : Thread Cert.RetFinishIdeal.nD Cert.RetFinishIdeal.τ).loc Cert.RetFinishIdeal.main_arg1) = m ((c.tc : Thread Cert.RetFinishIdeal.nD Cert.RetFinishIdeal.τ).loc Cert.RetFinishIdeal.main_arg1)
          ∧ r.2.mem ((c.tc : Thread Cert.RetFinishIdeal.nD Cert.RetFinishIdeal.τ).loc Cert.RetFinishIdeal.main_arg2) = m ((c.tc : Thread Cert.RetFinishIdeal.nD Cert.RetFinishIdeal.τ).loc Cert.RetFinishIdeal.main_arg2))
      ∧ θ_run (Cert.RetFinishRefIdeal.defs (F := Ideal)) (onTc (τ := Cert.RetFinishRefIdeal.τ) (Cert.RetFinishRefIdeal.main (F := Ideal))) ⟨m', fun _ => 0, g'⟩ (fun r => ∀ c : Dev Cert.RetFinishRefIdeal.nD,
          r.2.mem ((c.tc : Thread Cert.RetFinishRefIdeal.nD Cert.RetFinishRefIdeal.τ).loc Cert.RetFinishRefIdeal.main_v19) = v0 c
          ∧ r.2.mem ((c.tc : Thread Cert.RetFinishRefIdeal.nD Cert.RetFinishRefIdeal.τ).loc Cert.RetFinishRefIdeal.main_arg0) = m' ((c.tc : Thread Cert.RetFinishRefIdeal.nD Cert.RetFinishRefIdeal.τ).loc Cert.RetFinishRefIdeal.main_arg0)
          ∧ r.2.mem ((c.tc : Thread Cert.RetFinishRefIdeal.nD Cert.RetFinishRefIdeal.τ).loc Cert.RetFinishRefIdeal.main_arg1) = m' ((c.tc : Thread Cert.RetFinishRefIdeal.nD Cert.RetFinishRefIdeal.τ).loc Cert.RetFinishRefIdeal.main_arg1)
          ∧ r.2.mem ((c.tc : Thread Cert.RetFinishRefIdeal.nD Cert.RetFinishRefIdeal.τ).loc Cert.RetFinishRefIdeal.main_arg2) = m' ((c.tc : Thread Cert.RetFinishRefIdeal.nD Cert.RetFinishRefIdeal.τ).loc Cert.RetFinishRefIdeal.main_arg2))

def preserves_CtxMm_CtxMmIdeal : Prop :=
  True

def algebraic_CtxMmIdeal_CtxMmRefIdeal [hCtxMmIdeal : Cert.CtxMmIdeal.Facts] [hCtxMmRefIdeal : Cert.CtxMmRefIdeal.Facts] : Prop :=
  ∀ (m : (ℓ : Loc Cert.CtxMmIdeal.nD Cert.CtxMmIdeal.τ Cert.CtxMmIdeal.sig) → Buf (Elt Ideal) ℓ) (g : Dev Cert.CtxMmIdeal.nD → PrngReg)
    (m' : (ℓ : Loc Cert.CtxMmRefIdeal.nD Cert.CtxMmRefIdeal.τ Cert.CtxMmRefIdeal.sig) → Buf (Elt Ideal) ℓ) (g' : Dev Cert.CtxMmRefIdeal.nD → PrngReg), Pre_CtxMmIdeal m →
    (∀ c : Dev Cert.CtxMmIdeal.nD,
      m' ((c.tc : Thread Cert.CtxMmRefIdeal.nD Cert.CtxMmRefIdeal.τ).loc Cert.CtxMmRefIdeal.main_arg0) = m ((c.tc : Thread Cert.CtxMmIdeal.nD Cert.CtxMmIdeal.τ).loc Cert.CtxMmIdeal.main_arg0)
      ∧ m' ((c.tc : Thread Cert.CtxMmRefIdeal.nD Cert.CtxMmRefIdeal.τ).loc Cert.CtxMmRefIdeal.main_arg1) = m ((c.tc : Thread Cert.CtxMmIdeal.nD Cert.CtxMmIdeal.τ).loc Cert.CtxMmIdeal.main_arg1)) →
    ∃ (v0 : (c : Dev Cert.CtxMmIdeal.nD) → Buf (Elt Ideal) ((c.tc : Thread Cert.CtxMmIdeal.nD Cert.CtxMmIdeal.τ).loc Cert.CtxMmIdeal.main_v3)),
      θ_run (Cert.CtxMmIdeal.defs (F := Ideal)) (onTc (τ := Cert.CtxMmIdeal.τ) (Cert.CtxMmIdeal.main (F := Ideal))) ⟨m, fun _ => 0, g⟩ (fun r => ∀ c : Dev Cert.CtxMmIdeal.nD,
          r.2.mem ((c.tc : Thread Cert.CtxMmIdeal.nD Cert.CtxMmIdeal.τ).loc Cert.CtxMmIdeal.main_v3) = v0 c
          ∧ r.2.mem ((c.tc : Thread Cert.CtxMmIdeal.nD Cert.CtxMmIdeal.τ).loc Cert.CtxMmIdeal.main_arg0) = m ((c.tc : Thread Cert.CtxMmIdeal.nD Cert.CtxMmIdeal.τ).loc Cert.CtxMmIdeal.main_arg0)
          ∧ r.2.mem ((c.tc : Thread Cert.CtxMmIdeal.nD Cert.CtxMmIdeal.τ).loc Cert.CtxMmIdeal.main_arg1) = m ((c.tc : Thread Cert.CtxMmIdeal.nD Cert.CtxMmIdeal.τ).loc Cert.CtxMmIdeal.main_arg1))
      ∧ θ_run (Cert.CtxMmRefIdeal.defs (F := Ideal)) (onTc (τ := Cert.CtxMmRefIdeal.τ) (Cert.CtxMmRefIdeal.main (F := Ideal))) ⟨m', fun _ => 0, g'⟩ (fun r => ∀ c : Dev Cert.CtxMmRefIdeal.nD,
          r.2.mem ((c.tc : Thread Cert.CtxMmRefIdeal.nD Cert.CtxMmRefIdeal.τ).loc Cert.CtxMmRefIdeal.main_v4) = v0 c
          ∧ r.2.mem ((c.tc : Thread Cert.CtxMmRefIdeal.nD Cert.CtxMmRefIdeal.τ).loc Cert.CtxMmRefIdeal.main_arg0) = m' ((c.tc : Thread Cert.CtxMmRefIdeal.nD Cert.CtxMmRefIdeal.τ).loc Cert.CtxMmRefIdeal.main_arg0)
          ∧ r.2.mem ((c.tc : Thread Cert.CtxMmRefIdeal.nD Cert.CtxMmRefIdeal.τ).loc Cert.CtxMmRefIdeal.main_arg1) = m' ((c.tc : Thread Cert.CtxMmRefIdeal.nD Cert.CtxMmRefIdeal.τ).loc Cert.CtxMmRefIdeal.main_arg1))

def preserves_CtxNorm_CtxNormIdeal : Prop :=
  True

def algebraic_CtxNormIdeal_CtxNormRefIdeal [hCtxNormIdeal : Cert.CtxNormIdeal.Facts] [hCtxNormRefIdeal : Cert.CtxNormRefIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg)
    (m' : (ℓ : Loc Cert.CtxNormRefIdeal.nD Cert.CtxNormRefIdeal.τ Cert.CtxNormRefIdeal.sig) → Buf (Elt Ideal) ℓ) (g' : Dev Cert.CtxNormRefIdeal.nD → PrngReg), Pre_CtxNormIdeal m →
    (∀ c : Dev Cert.CtxNormIdeal.nD,
      m' ((c.tc : Thread Cert.CtxNormRefIdeal.nD Cert.CtxNormRefIdeal.τ).loc Cert.CtxNormRefIdeal.main_arg0) = m ((c.tc : Thread Cert.CtxNormIdeal.nD Cert.CtxNormIdeal.τ).loc Cert.CtxNormIdeal.main_arg0)
      ∧ m' ((c.tc : Thread Cert.CtxNormRefIdeal.nD Cert.CtxNormRefIdeal.τ).loc Cert.CtxNormRefIdeal.main_arg1) = m ((c.tc : Thread Cert.CtxNormIdeal.nD Cert.CtxNormIdeal.τ).loc Cert.CtxNormIdeal.main_arg1)
      ∧ m' ((c.tc : Thread Cert.CtxNormRefIdeal.nD Cert.CtxNormRefIdeal.τ).loc Cert.CtxNormRefIdeal.main_arg2) = m ((c.tc : Thread Cert.CtxNormIdeal.nD Cert.CtxNormIdeal.τ).loc Cert.CtxNormIdeal.main_arg2)
      ∧ m' ((c.tc : Thread Cert.CtxNormRefIdeal.nD Cert.CtxNormRefIdeal.τ).loc Cert.CtxNormRefIdeal.main_arg3) = m ((c.tc : Thread Cert.CtxNormIdeal.nD Cert.CtxNormIdeal.τ).loc Cert.CtxNormIdeal.main_arg3)
      ∧ m' ((c.tc : Thread Cert.CtxNormRefIdeal.nD Cert.CtxNormRefIdeal.τ).loc Cert.CtxNormRefIdeal.main_arg4) = m ((c.tc : Thread Cert.CtxNormIdeal.nD Cert.CtxNormIdeal.τ).loc Cert.CtxNormIdeal.main_arg4)) →
    ∃ (v0 : (c : Dev Cert.CtxNormIdeal.nD) → Buf (Elt Ideal) ((c.tc : Thread Cert.CtxNormIdeal.nD Cert.CtxNormIdeal.τ).loc Cert.CtxNormIdeal.main_v4_0)) (v1 : (c : Dev Cert.CtxNormIdeal.nD) → Buf (Elt Ideal) ((c.tc : Thread Cert.CtxNormIdeal.nD Cert.CtxNormIdeal.τ).loc Cert.CtxNormIdeal.main_v4_1)),
      θ_run (Cert.CtxNormIdeal.defs (F := Ideal)) (onTc (τ := Cert.CtxNormIdeal.τ) (Cert.CtxNormIdeal.main (F := Ideal))) ⟨m, fun _ => 0, g⟩ (fun r => ∀ c : Dev Cert.CtxNormIdeal.nD,
          r.2.mem ((c.tc : Thread Cert.CtxNormIdeal.nD Cert.CtxNormIdeal.τ).loc Cert.CtxNormIdeal.main_v4_0) = v0 c
          ∧ r.2.mem ((c.tc : Thread Cert.CtxNormIdeal.nD Cert.CtxNormIdeal.τ).loc Cert.CtxNormIdeal.main_v4_1) = v1 c
          ∧ r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
          ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
          ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2)
          ∧ r.2.mem ((c.tc : Thread Cert.CtxNormIdeal.nD Cert.CtxNormIdeal.τ).loc Cert.CtxNormIdeal.main_arg3) = m ((c.tc : Thread Cert.CtxNormIdeal.nD Cert.CtxNormIdeal.τ).loc Cert.CtxNormIdeal.main_arg3)
          ∧ r.2.mem ((c.tc : Thread Cert.CtxNormIdeal.nD Cert.CtxNormIdeal.τ).loc Cert.CtxNormIdeal.main_arg4) = m ((c.tc : Thread Cert.CtxNormIdeal.nD Cert.CtxNormIdeal.τ).loc Cert.CtxNormIdeal.main_arg4))
      ∧ θ_run (Cert.CtxNormRefIdeal.defs (F := Ideal)) (onTc (τ := Cert.CtxNormRefIdeal.τ) (Cert.CtxNormRefIdeal.main (F := Ideal))) ⟨m', fun _ => 0, g'⟩ (fun r => ∀ c : Dev Cert.CtxNormRefIdeal.nD,
          r.2.mem ((c.tc : Thread Cert.CtxNormRefIdeal.nD Cert.CtxNormRefIdeal.τ).loc Cert.CtxNormRefIdeal.main_v23) = v0 c
          ∧ r.2.mem ((c.tc : Thread Cert.CtxNormRefIdeal.nD Cert.CtxNormRefIdeal.τ).loc Cert.CtxNormRefIdeal.main_v24) = v1 c
          ∧ r.2.mem ((c.tc : Thread Cert.CtxNormRefIdeal.nD Cert.CtxNormRefIdeal.τ).loc Cert.CtxNormRefIdeal.main_arg0) = m' ((c.tc : Thread Cert.CtxNormRefIdeal.nD Cert.CtxNormRefIdeal.τ).loc Cert.CtxNormRefIdeal.main_arg0)
          ∧ r.2.mem ((c.tc : Thread Cert.CtxNormRefIdeal.nD Cert.CtxNormRefIdeal.τ).loc Cert.CtxNormRefIdeal.main_arg1) = m' ((c.tc : Thread Cert.CtxNormRefIdeal.nD Cert.CtxNormRefIdeal.τ).loc Cert.CtxNormRefIdeal.main_arg1)
          ∧ r.2.mem ((c.tc : Thread Cert.CtxNormRefIdeal.nD Cert.CtxNormRefIdeal.τ).loc Cert.CtxNormRefIdeal.main_arg2) = m' ((c.tc : Thread Cert.CtxNormRefIdeal.nD Cert.CtxNormRefIdeal.τ).loc Cert.CtxNormRefIdeal.main_arg2)
          ∧ r.2.mem ((c.tc : Thread Cert.CtxNormRefIdeal.nD Cert.CtxNormRefIdeal.τ).loc Cert.CtxNormRefIdeal.main_arg3) = m' ((c.tc : Thread Cert.CtxNormRefIdeal.nD Cert.CtxNormRefIdeal.τ).loc Cert.CtxNormRefIdeal.main_arg3)
          ∧ r.2.mem ((c.tc : Thread Cert.CtxNormRefIdeal.nD Cert.CtxNormRefIdeal.τ).loc Cert.CtxNormRefIdeal.main_arg4) = m' ((c.tc : Thread Cert.CtxNormRefIdeal.nD Cert.CtxNormRefIdeal.τ).loc Cert.CtxNormRefIdeal.main_arg4))

def preserves_Ada_AdaIdeal : Prop :=
  True

def algebraic_AdaIdeal_AdaRefIdeal_pre_finite_ada [hAdaIdeal : Cert.AdaIdeal.Facts] [hAdaRefIdeal : Cert.AdaRefIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_ada m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_RwFinish_RwFinishIdeal : Prop :=
  True

def algebraic_RwFinishIdeal_RwFinishRefIdeal_pre_finite_rwfin [hRwFinishIdeal : Cert.RwFinishIdeal.Facts] [hRwFinishRefIdeal : Cert.RwFinishRefIdeal.Facts] [hPre_finite_rwfin : Cert.Pre_finite_rwfin.Facts] : Prop :=
  ∀ (m : (ℓ : Loc Cert.RwFinishIdeal.nD Cert.RwFinishIdeal.τ Cert.RwFinishIdeal.sig) → Buf (Elt Ideal) ℓ) (g : Dev Cert.RwFinishIdeal.nD → PrngReg)
    (m' : (ℓ : Loc Cert.RwFinishRefIdeal.nD Cert.RwFinishRefIdeal.τ Cert.RwFinishRefIdeal.sig) → Buf (Elt Ideal) ℓ) (g' : Dev Cert.RwFinishRefIdeal.nD → PrngReg), Pre_RwFinishIdeal_finite_rwfin m →
    (∀ c : Dev Cert.RwFinishIdeal.nD,
      m' ((c.tc : Thread Cert.RwFinishRefIdeal.nD Cert.RwFinishRefIdeal.τ).loc Cert.RwFinishRefIdeal.main_arg0) = m ((c.tc : Thread Cert.RwFinishIdeal.nD Cert.RwFinishIdeal.τ).loc Cert.RwFinishIdeal.main_arg0)
      ∧ m' ((c.tc : Thread Cert.RwFinishRefIdeal.nD Cert.RwFinishRefIdeal.τ).loc Cert.RwFinishRefIdeal.main_arg1) = m ((c.tc : Thread Cert.RwFinishIdeal.nD Cert.RwFinishIdeal.τ).loc Cert.RwFinishIdeal.main_arg1)
      ∧ m' ((c.tc : Thread Cert.RwFinishRefIdeal.nD Cert.RwFinishRefIdeal.τ).loc Cert.RwFinishRefIdeal.main_arg2) = m ((c.tc : Thread Cert.RwFinishIdeal.nD Cert.RwFinishIdeal.τ).loc Cert.RwFinishIdeal.main_arg2)
      ∧ m' ((c.tc : Thread Cert.RwFinishRefIdeal.nD Cert.RwFinishRefIdeal.τ).loc Cert.RwFinishRefIdeal.main_arg3) = m ((c.tc : Thread Cert.RwFinishIdeal.nD Cert.RwFinishIdeal.τ).loc Cert.RwFinishIdeal.main_arg3)
      ∧ m' ((c.tc : Thread Cert.RwFinishRefIdeal.nD Cert.RwFinishRefIdeal.τ).loc Cert.RwFinishRefIdeal.main_arg4) = m ((c.tc : Thread Cert.RwFinishIdeal.nD Cert.RwFinishIdeal.τ).loc Cert.RwFinishIdeal.main_arg4)
      ∧ m' ((c.tc : Thread Cert.RwFinishRefIdeal.nD Cert.RwFinishRefIdeal.τ).loc Cert.RwFinishRefIdeal.main_arg5) = m ((c.tc : Thread Cert.RwFinishIdeal.nD Cert.RwFinishIdeal.τ).loc Cert.RwFinishIdeal.main_arg5)) →
    ∃ (v0 : (c : Dev Cert.RwFinishIdeal.nD) → Buf (Elt Ideal) ((c.tc : Thread Cert.RwFinishIdeal.nD Cert.RwFinishIdeal.τ).loc Cert.RwFinishIdeal.main_v10)),
      θ_run (Cert.RwFinishIdeal.defs (F := Ideal)) (onTc (τ := Cert.RwFinishIdeal.τ) (Cert.RwFinishIdeal.main (F := Ideal))) ⟨m, fun _ => 0, g⟩ (fun r => ∀ c : Dev Cert.RwFinishIdeal.nD,
          r.2.mem ((c.tc : Thread Cert.RwFinishIdeal.nD Cert.RwFinishIdeal.τ).loc Cert.RwFinishIdeal.main_v10) = v0 c
          ∧ r.2.mem ((c.tc : Thread Cert.RwFinishIdeal.nD Cert.RwFinishIdeal.τ).loc Cert.RwFinishIdeal.main_arg0) = m ((c.tc : Thread Cert.RwFinishIdeal.nD Cert.RwFinishIdeal.τ).loc Cert.RwFinishIdeal.main_arg0)
          ∧ r.2.mem ((c.tc : Thread Cert.RwFinishIdeal.nD Cert.RwFinishIdeal.τ).loc Cert.RwFinishIdeal.main_arg1) = m ((c.tc : Thread Cert.RwFinishIdeal.nD Cert.RwFinishIdeal.τ).loc Cert.RwFinishIdeal.main_arg1)
          ∧ r.2.mem ((c.tc : Thread Cert.RwFinishIdeal.nD Cert.RwFinishIdeal.τ).loc Cert.RwFinishIdeal.main_arg2) = m ((c.tc : Thread Cert.RwFinishIdeal.nD Cert.RwFinishIdeal.τ).loc Cert.RwFinishIdeal.main_arg2)
          ∧ r.2.mem ((c.tc : Thread Cert.RwFinishIdeal.nD Cert.RwFinishIdeal.τ).loc Cert.RwFinishIdeal.main_arg3) = m ((c.tc : Thread Cert.RwFinishIdeal.nD Cert.RwFinishIdeal.τ).loc Cert.RwFinishIdeal.main_arg3)
          ∧ r.2.mem ((c.tc : Thread Cert.RwFinishIdeal.nD Cert.RwFinishIdeal.τ).loc Cert.RwFinishIdeal.main_arg4) = m ((c.tc : Thread Cert.RwFinishIdeal.nD Cert.RwFinishIdeal.τ).loc Cert.RwFinishIdeal.main_arg4)
          ∧ r.2.mem ((c.tc : Thread Cert.RwFinishIdeal.nD Cert.RwFinishIdeal.τ).loc Cert.RwFinishIdeal.main_arg5) = m ((c.tc : Thread Cert.RwFinishIdeal.nD Cert.RwFinishIdeal.τ).loc Cert.RwFinishIdeal.main_arg5))
      ∧ θ_run (Cert.RwFinishRefIdeal.defs (F := Ideal)) (onTc (τ := Cert.RwFinishRefIdeal.τ) (Cert.RwFinishRefIdeal.main (F := Ideal))) ⟨m', fun _ => 0, g'⟩ (fun r => ∀ c : Dev Cert.RwFinishRefIdeal.nD,
          r.2.mem ((c.tc : Thread Cert.RwFinishRefIdeal.nD Cert.RwFinishRefIdeal.τ).loc Cert.RwFinishRefIdeal.main_v33) = v0 c
          ∧ r.2.mem ((c.tc : Thread Cert.RwFinishRefIdeal.nD Cert.RwFinishRefIdeal.τ).loc Cert.RwFinishRefIdeal.main_arg0) = m' ((c.tc : Thread Cert.RwFinishRefIdeal.nD Cert.RwFinishRefIdeal.τ).loc Cert.RwFinishRefIdeal.main_arg0)
          ∧ r.2.mem ((c.tc : Thread Cert.RwFinishRefIdeal.nD Cert.RwFinishRefIdeal.τ).loc Cert.RwFinishRefIdeal.main_arg1) = m' ((c.tc : Thread Cert.RwFinishRefIdeal.nD Cert.RwFinishRefIdeal.τ).loc Cert.RwFinishRefIdeal.main_arg1)
          ∧ r.2.mem ((c.tc : Thread Cert.RwFinishRefIdeal.nD Cert.RwFinishRefIdeal.τ).loc Cert.RwFinishRefIdeal.main_arg2) = m' ((c.tc : Thread Cert.RwFinishRefIdeal.nD Cert.RwFinishRefIdeal.τ).loc Cert.RwFinishRefIdeal.main_arg2)
          ∧ r.2.mem ((c.tc : Thread Cert.RwFinishRefIdeal.nD Cert.RwFinishRefIdeal.τ).loc Cert.RwFinishRefIdeal.main_arg3) = m' ((c.tc : Thread Cert.RwFinishRefIdeal.nD Cert.RwFinishRefIdeal.τ).loc Cert.RwFinishRefIdeal.main_arg3)
          ∧ r.2.mem ((c.tc : Thread Cert.RwFinishRefIdeal.nD Cert.RwFinishRefIdeal.τ).loc Cert.RwFinishRefIdeal.main_arg4) = m' ((c.tc : Thread Cert.RwFinishRefIdeal.nD Cert.RwFinishRefIdeal.τ).loc Cert.RwFinishRefIdeal.main_arg4)
          ∧ r.2.mem ((c.tc : Thread Cert.RwFinishRefIdeal.nD Cert.RwFinishRefIdeal.τ).loc Cert.RwFinishRefIdeal.main_arg5) = m' ((c.tc : Thread Cert.RwFinishRefIdeal.nD Cert.RwFinishRefIdeal.τ).loc Cert.RwFinishRefIdeal.main_arg5))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v83_10)) (v1 : (c : Dev Cert.PrepIdeal.nD) → Buf (Elt Ideal) ((c.tc : Thread Cert.PrepIdeal.nD Cert.PrepIdeal.τ).loc Cert.PrepIdeal.main_v83_12)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v83_10) = v0 c
          ∧ r.2.mem ((c.tc : Thread Cert.PrepIdeal.nD Cert.PrepIdeal.τ).loc Cert.PrepIdeal.main_v83_12) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v32) = v0 c
          ∧ r.2.mem ((c.tc : Thread Cert.PrepRefIdeal.nD Cert.PrepRefIdeal.τ).loc Cert.PrepRefIdeal.main_v31) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hDown : Cert.Down.Facts) (hDownIdeal : Cert.DownIdeal.Facts) (hDownRefIdeal : Cert.DownRefIdeal.Facts) (hRetFinish : Cert.RetFinish.Facts) (hRetFinishIdeal : Cert.RetFinishIdeal.Facts) (hRetFinishRefIdeal : Cert.RetFinishRefIdeal.Facts) (hCtxMm : Cert.CtxMm.Facts) (hCtxMmIdeal : Cert.CtxMmIdeal.Facts) (hCtxMmRefIdeal : Cert.CtxMmRefIdeal.Facts) (hCtxNorm : Cert.CtxNorm.Facts) (hCtxNormIdeal : Cert.CtxNormIdeal.Facts) (hCtxNormRefIdeal : Cert.CtxNormRefIdeal.Facts) (hAda : Cert.Ada.Facts) (hAdaIdeal : Cert.AdaIdeal.Facts) (hAdaRefIdeal : Cert.AdaRefIdeal.Facts) (hRwFinish : Cert.RwFinish.Facts) (hRwFinishIdeal : Cert.RwFinishIdeal.Facts) (hRwFinishRefIdeal : Cert.RwFinishRefIdeal.Facts) (hPrep : Cert.Prep.Facts) (hPrepIdeal : Cert.PrepIdeal.Facts) (hPrepRefIdeal : Cert.PrepRefIdeal.Facts) (hPre_finite_ada : Cert.Pre_finite_ada.Facts) (hPre_finite_rwfin : Cert.Pre_finite_rwfin.Facts) (hPre_finite_prep : Cert.Pre_finite_prep.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormRefIdeal (hNormRefIdeal := hNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Down (hDown := hDown)
    ∧ quiescent_DownIdeal (hDownIdeal := hDownIdeal)
    ∧ quiescent_DownRefIdeal (hDownRefIdeal := hDownRefIdeal)
    ∧ quiescent_RetFinish (hRetFinish := hRetFinish)
    ∧ quiescent_RetFinishIdeal (hRetFinishIdeal := hRetFinishIdeal)
    ∧ quiescent_RetFinishRefIdeal (hRetFinishRefIdeal := hRetFinishRefIdeal)
    ∧ quiescent_CtxMm (hCtxMm := hCtxMm)
    ∧ quiescent_CtxMmIdeal (hCtxMmIdeal := hCtxMmIdeal)
    ∧ quiescent_CtxMmRefIdeal (hCtxMmRefIdeal := hCtxMmRefIdeal)
    ∧ quiescent_CtxNorm (hCtxNorm := hCtxNorm)
    ∧ quiescent_CtxNormIdeal (hCtxNormIdeal := hCtxNormIdeal)
    ∧ quiescent_CtxNormRefIdeal (hCtxNormRefIdeal := hCtxNormRefIdeal)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaRefIdeal (hAdaRefIdeal := hAdaRefIdeal)
    ∧ quiescent_AdaRefIdeal_pre_finite_ada (hAdaRefIdeal := hAdaRefIdeal) (hPre_finite_ada := hPre_finite_ada)
    ∧ quiescent_RwFinish (hRwFinish := hRwFinish)
    ∧ quiescent_RwFinishIdeal (hRwFinishIdeal := hRwFinishIdeal)
    ∧ quiescent_RwFinishIdeal_pre_finite_rwfin (hRwFinishIdeal := hRwFinishIdeal) (hPre_finite_rwfin := hPre_finite_rwfin)
    ∧ quiescent_RwFinishRefIdeal (hRwFinishRefIdeal := hRwFinishRefIdeal)
    ∧ quiescent_RwFinishRefIdeal_pre_finite_rwfin (hRwFinishRefIdeal := hRwFinishRefIdeal) (hPre_finite_rwfin := hPre_finite_rwfin)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormRefIdeal (hNormIdeal := hNormIdeal) (hNormRefIdeal := hNormRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Down_DownIdeal
    ∧ algebraic_DownIdeal_DownRefIdeal (hDownIdeal := hDownIdeal) (hDownRefIdeal := hDownRefIdeal)
    ∧ preserves_RetFinish_RetFinishIdeal
    ∧ algebraic_RetFinishIdeal_RetFinishRefIdeal (hRetFinishIdeal := hRetFinishIdeal) (hRetFinishRefIdeal := hRetFinishRefIdeal)
    ∧ preserves_CtxMm_CtxMmIdeal
    ∧ algebraic_CtxMmIdeal_CtxMmRefIdeal (hCtxMmIdeal := hCtxMmIdeal) (hCtxMmRefIdeal := hCtxMmRefIdeal)
    ∧ preserves_CtxNorm_CtxNormIdeal
    ∧ algebraic_CtxNormIdeal_CtxNormRefIdeal (hCtxNormIdeal := hCtxNormIdeal) (hCtxNormRefIdeal := hCtxNormRefIdeal)
    ∧ preserves_Ada_AdaIdeal
    ∧ algebraic_AdaIdeal_AdaRefIdeal_pre_finite_ada (hAdaIdeal := hAdaIdeal) (hAdaRefIdeal := hAdaRefIdeal) (hPre_finite_ada := hPre_finite_ada)
    ∧ preserves_RwFinish_RwFinishIdeal
    ∧ algebraic_RwFinishIdeal_RwFinishRefIdeal_pre_finite_rwfin (hRwFinishIdeal := hRwFinishIdeal) (hRwFinishRefIdeal := hRwFinishRefIdeal) (hPre_finite_rwfin := hPre_finite_rwfin)
    ∧ preserves_Prep_PrepIdeal
    ∧ algebraic_PrepIdeal_PrepRefIdeal_pre_finite_prep (hPrepIdeal := hPrepIdeal) (hPrepRefIdeal := hPrepRefIdeal) (hPre_finite_prep := hPre_finite_prep)
-- ==== Pre_finite_ada.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩

class Facts : Prop where
  bcast_S_S8x2048 : S_.BroadcastsInDim S8x2048 (![] : Fin 0 → Fin S8x2048.rank)
  bcast_S_S1x2048x12288 : S_.BroadcastsInDim S1x2048x12288 (![] : Fin 0 → Fin S1x2048x12288.rank)

variable [Facts]

def fn {F : FTy → Type} [FloatOps F] (main_arg0 : FVec F S8x2048 .f32) (main_arg1 : FVec F S1x2048x12288 .f32) (main_arg2 : FVec F S1x12288 .f32) : IVec S8x2048 1 × IVec S1x2048x12288 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_v3 : FVec F S1x2048x12288 .f32 := Host.absf main_arg1
  let main_cst_0 : FVec F S_ .f32 := constant S_ .f32 0x7F800000#32
  let main_v4 : FVec F S1x2048x12288 .f32 := broadcastInDim S1x2048x12288 ![] bcast_S_S1x2048x12288 main_cst_0
  let main_v5 : IVec S1x2048x12288 1 := cmpf .olt main_v3 main_v4
  (main_v2, main_v5)
-- ==== Pre_finite_prep.lean ====
abbrev S2x4096x3584 : Shape := ⟨3, ![2, 4096, 3584]⟩
abbrev S1x3x3488 : Shape := ⟨3, ![1, 3, 3488]⟩
abbrev S1x2x1024 : Shape := ⟨3, ![1, 2, 1024]⟩
abbrev S1x2x64x1024 : Shape := ⟨4, ![1, 2, 64, 1024]⟩
abbrev S1x160x1024 : Shape := ⟨3, ![1, 160, 1024]⟩
abbrev S1x1024 : Shape := ⟨2, ![1, 1024]⟩
abbrev S1x16x64 : Shape := ⟨3, ![1, 16, 64]⟩
abbrev S_ : Shape := ⟨0, ![]⟩

class Facts : Prop where
  bcast_S_S1x160x1024 : S_.BroadcastsInDim S1x160x1024 (![] : Fin 0 → Fin S1x160x1024.rank)

variable [Facts]

def fn {F : FTy → Type} [FloatOps F] (main_arg0 : FVec F S2x4096x3584 .f32) (main_arg1 : FVec F S1x3x3488 .f32) (main_arg2 : FVec F S1x2x1024 .f32) (main_arg3 : FVec F S1x2x64x1024 .f32) (main_arg4 : FVec F S1x2x1024 .f32) (main_arg5 : FVec F S1x2x64x1024 .f32) (main_arg6 : FVec F S1x160x1024 .f32) (main_arg7 : FVec F S1x1024 .f32) (main_arg8 : FVec F S1x1024 .f32) (main_arg9 : FVec F S1x16x64 .f32) : IVec S1x160x1024 1 :=
  let main_v0 : FVec F S1x160x1024 .f32 := Host.absf main_arg6
  let main_cst : FVec F S_ .f32 := constant S_ .f32 0x7F800000#32
  let main_v1 : FVec F S1x160x1024 .f32 := broadcastInDim S1x160x1024 ![] bcast_S_S1x160x1024 main_cst
  let main_v2 : IVec S1x160x1024 1 := cmpf .olt main_v0 main_v1
  main_v2
-- ==== Pre_finite_rwfin.lean ====
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x1024 .f32) (main_arg3 : FVec F S8192x1024 .f32) (main_arg4 : FVec F S1x1024 .f32) (main_arg5 : FVec F S1x1024 .f32) : IVec S8192x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  (main_v3, main_v7)
-- ==== Kernel.lean ====
abbrev S8192x2048 : Shape := ⟨2, ![8192, 2048]⟩
abbrev S1x2048x7584 : Shape := ⟨3, ![1, 2048, 7584]⟩
abbrev S2048x7584 : Shape := ⟨2, ![2048, 7584]⟩
abbrev S7584x2048 : Shape := ⟨2, ![7584, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x7584, .f32⟩
  | .hbm, ⟨2, _⟩ => ⟨S2048x7584, .f32⟩
  | .hbm, ⟨3, _⟩ => ⟨S7584x2048, .f32⟩
  | .hbm, ⟨4, _⟩ => ⟨S7584x2048, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c3488_i32 : BitVec 32 := 3488#32
  let arg1 : BitVec 32 := BitVec.ofNat 32 (i 1).val
  let c1024_i32 : BitVec 32 := 1024#32
  let v0 : BitVec 32 := Scalar.muli arg1 c1024_i32
  let v1 : BitVec 32 := Scalar.addi c3488_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3488_i32 : BitVec 32 := 3488#32
  let v1 : BitVec 32 := Scalar.addi c3488_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x2048 : Shape := ⟨2, ![8192, 2048]⟩
abbrev S1x2048x7584 : Shape := ⟨3, ![1, 2048, 7584]⟩
abbrev S2048x7584 : Shape := ⟨2, ![2048, 7584]⟩
abbrev S8192x7584 : Shape := ⟨2, ![8192, 7584]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x7584, .f32⟩
  | .hbm, ⟨2, _⟩ => ⟨S8192x2048, .f32⟩
  | .hbm, ⟨3, _⟩ => ⟨S2048x7584, .f32⟩
  | .hbm, ⟨4, _⟩ => ⟨S8192x7584, .f32⟩
  | .hbm, ⟨5, _⟩ => ⟨S8192x4096, .f32⟩
  | .hbm, ⟨6, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Norm.lean ====
abbrev S2x4096x2048 : Shape := ⟨3, ![2, 4096, 2048]⟩
abbrev S1x2048 : Shape := ⟨2, ![1, 2048]⟩
abbrev S2x1x2048 : Shape := ⟨3, ![2, 1, 2048]⟩
abbrev S1x2048x7584 : Shape := ⟨3, ![1, 2048, 7584]⟩
abbrev S2048x7584 : Shape := ⟨2, ![2048, 7584]⟩
abbrev S7584x2048 : Shape := ⟨2, ![7584, 2048]⟩
abbrev S8192x2048 : Shape := ⟨2, ![8192, 2048]⟩
abbrev S8192x3584 : Shape := ⟨2, ![8192, 3584]⟩
abbrev S1024x2048 : Shape := ⟨2, ![1024, 2048]⟩
abbrev S1x1x2048 : Shape := ⟨3, ![1, 1, 2048]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x7584, .f32⟩
  | .hbm, ⟨5, _⟩ => ⟨S2048x7584, .f32⟩
  | .hbm, ⟨6, _⟩ => ⟨S7584x2048, .f32⟩
  | .hbm, ⟨7, _⟩ => ⟨S7584x2048, .bf16⟩
  | .hbm, ⟨8, _⟩ => ⟨S8192x2048, .f32⟩
  | .hbm, ⟨9, _⟩ => ⟨S8192x3584, .f32⟩
  | .hbm, ⟨10, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | .local _ .vmem, ⟨12, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .sgt arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== NormRefIdeal.lean ====
abbrev S2x4096x2048 : Shape := ⟨3, ![2, 4096, 2048]⟩
abbrev S1x2048 : Shape := ⟨2, ![1, 2048]⟩
abbrev S2x1x2048 : Shape := ⟨3, ![2, 1, 2048]⟩
abbrev S1x2048x7584 : Shape := ⟨3, ![1, 2048, 7584]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x7584 : Shape := ⟨2, ![2048, 7584]⟩
abbrev S8192x7584 : Shape := ⟨2, ![8192, 7584]⟩
abbrev S8192x3584 : Shape := ⟨2, ![8192, 3584]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x7584, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | .hbm, ⟨30, _⟩ => ⟨S2048x7584, .f32⟩
  | .hbm, ⟨31, _⟩ => ⟨S8192x7584, .f32⟩
  | .hbm, ⟨32, _⟩ => ⟨S8192x3584, .f32⟩
  | .hbm, ⟨33, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutProj.lean ====
abbrev S8192x1024 : Shape := ⟨2, ![8192, 1024]⟩
abbrev S1x2048x2048 : Shape := ⟨3, ![1, 2048, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S2048x2048 : Shape := ⟨2, ![2048, 2048]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩
abbrev S1x1x2048 : Shape := ⟨3, ![1, 1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S2x4096x2048, .f32⟩
  | .hbm, ⟨4, _⟩ => ⟨S2x1x2048, .f32⟩
  | .hbm, ⟨5, _⟩ => ⟨S1x2048, .f32⟩
  | .hbm, ⟨6, _⟩ => ⟨S1x2048, .f32⟩
  | .hbm, ⟨7, _⟩ => ⟨S2x1x2048, .f32⟩
  | .hbm, ⟨8, _⟩ => ⟨S2x1x2048, .f32⟩
  | .hbm, ⟨9, _⟩ => ⟨S2048x2048, .f32⟩
  | .hbm, ⟨10, _⟩ => ⟨S2048x2048, .bf16⟩
  | .hbm, ⟨11, _⟩ => ⟨S1024x2048, .bf16⟩
  | .hbm, ⟨12, _⟩ => ⟨S1024x2048, .bf16⟩
  | .hbm, ⟨13, _⟩ => ⟨S8192x2048, .f32⟩
  | .hbm, ⟨14, _⟩ => ⟨S8192x2048, .f32⟩
  | .hbm, ⟨15, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjRefIdeal.lean ====
abbrev S8192x1024 : Shape := ⟨2, ![8192, 1024]⟩
abbrev S1x2048x2048 : Shape := ⟨3, ![1, 2048, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S2x4096x2048, .f32⟩
  | .hbm, ⟨4, _⟩ => ⟨S2x1x2048, .f32⟩
  | .hbm, ⟨5, _⟩ => ⟨S1x2048, .f32⟩
  | .hbm, ⟨6, _⟩ => ⟨S1x2048, .f32⟩
  | .hbm, ⟨7, _⟩ => ⟨S2x1x2048, .f32⟩
  | .hbm, ⟨8, _⟩ => ⟨S2x1x2048, .f32⟩
  | .hbm, ⟨9, _⟩ => ⟨S8192x2048, .bf16⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S2x4096x2048, .f32⟩
  | .hbm, ⟨14, _⟩ => ⟨S2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2048, .f32⟩
  | .hbm, ⟨35, _⟩ => ⟨S2x4096x2048, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x2048, .f32⟩
  | .hbm, ⟨47, _⟩ => ⟨S2x4096x2048, .f32⟩
  | .hbm, ⟨48, _⟩ => ⟨S1x1x2048, .f32⟩
  | .hbm, ⟨49, _⟩ => ⟨S2x4096x2048, .f32⟩
  | .hbm, ⟨50, _⟩ => ⟨S2x4096x2048, .f32⟩
  | .hbm, ⟨51, _⟩ => ⟨S_, .f32⟩
  | .hbm, ⟨52, _⟩ => ⟨S2x1x2048, .f32⟩
  | .hbm, ⟨53, _⟩ => ⟨S2x1x2048, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S2x4096x2048, .f32⟩
  | .hbm, ⟨58, _⟩ => ⟨S8192x2048, .f32⟩
  | .hbm, ⟨59, _⟩ => ⟨S8192x2048, .f32⟩
  | .hbm, ⟨60, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== FfnUp.lean ====
abbrev S8192x2048 : Shape := ⟨2, ![8192, 2048]⟩
abbrev S1x2048x5632 : Shape := ⟨3, ![1, 2048, 5632]⟩
abbrev S1x3x3x5632 : Shape := ⟨4, ![1, 3, 3, 5632]⟩
abbrev S1x5632 : Shape := ⟨2, ![1, 5632]⟩
abbrev S2048x5632 : Shape := ⟨2, ![2048, 5632]⟩
abbrev S3x3x5632 : Shape := ⟨3, ![3, 3, 5632]⟩
abbrev S9x5632 : Shape := ⟨2, ![9, 5632]⟩
abbrev S5632 : Shape := ⟨1, ![5632]⟩
abbrev S8192x5632 : Shape := ⟨2, ![8192, 5632]⟩
abbrev S64x2048 : Shape := ⟨2, ![64, 2048]⟩
abbrev S1024x2048 : Shape := ⟨2, ![1024, 2048]⟩
abbrev S2048x512 : Shape := ⟨2, ![2048, 512]⟩
abbrev S9x512 : Shape := ⟨2, ![9, 512]⟩
abbrev S1x512 : Shape := ⟨2, ![1, 512]⟩
abbrev S1024x512 : Shape := ⟨2, ![1024, 512]⟩
abbrev S1152x2048 : Shape := ⟨2, ![1152, 2048]⟩
abbrev S1152x512 : Shape := ⟨2, ![1152, 512]⟩
abbrev S64x512 : Shape := ⟨2, ![64, 512]⟩
abbrev S960x512 : Shape := ⟨2, ![960, 512]⟩

abbrev nBuf : Space → Nat
  | .hbm => 12
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x3x3x5632, .f32⟩
  | .hbm, ⟨4, _⟩ => ⟨S1x5632, .f32⟩
  | .hbm, ⟨5, _⟩ => ⟨S2048x5632, .f32⟩
  | .hbm, ⟨6, _⟩ => ⟨S2048x5632, .f32⟩
  | .hbm, ⟨7, _⟩ => ⟨S3x3x5632, .f32⟩
  | .hbm, ⟨8, _⟩ => ⟨S9x5632, .f32⟩
  | .hbm, ⟨9, _⟩ => ⟨S5632, .f32⟩
  | .hbm, ⟨10, _⟩ => ⟨S1x5632, .f32⟩
  | .hbm, ⟨11, _⟩ => ⟨S8192x5632, .bf16⟩
  | .local _ .vmem, ⟨0, _⟩ => ⟨S64x2048, .bf16⟩
  | .local _ .vmem, ⟨1, _⟩ => ⟨S64x2048, .bf16⟩
  | .local _ .vmem, ⟨2, _⟩ => ⟨S1024x2048, .bf16⟩
  | .local _ .vmem, ⟨3, _⟩ => ⟨S1024x2048, .bf16⟩
  | .local _ .vmem, ⟨4, _⟩ => ⟨S64x2048, .bf16⟩
  | .local _ .vmem, ⟨5, _⟩ => ⟨S64x2048, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S9x512, .f32⟩
  | .local _ .vmem, ⟨11, _⟩ => ⟨S9x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1152x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c16_i32 : BitVec 32 := 16#32
  let v1 : BitVec 32 := Scalar.muli arg1 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg1 c1_i32
  let c16_i32 : BitVec 32 := 16#32
  let v2 : BitVec 32 := Scalar.muli v1 c16_i32
  let c63_i32 : BitVec 32 := 63#32
  let v3 : BitVec 32 := Scalar.minsi v2 c63_i32
  let v4 : BitVec 32 := Scalar.addi v0 v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S9x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FfnUpRefIdeal.lean ====
abbrev S8192x2048 : Shape := ⟨2, ![8192, 2048]⟩
abbrev S1x2048x5632 : Shape := ⟨3, ![1, 2048, 5632]⟩
abbrev S1x3x3x5632 : Shape := ⟨4, ![1, 3, 3, 5632]⟩
abbrev S1x5632 : Shape := ⟨2, ![1, 5632]⟩
abbrev S2048x5632 : Shape := ⟨2, ![2048, 5632]⟩
abbrev S8192x5632 : Shape := ⟨2, ![8192, 5632]⟩
abbrev S2x64x64x5632 : Shape := ⟨4, ![2, 64, 64, 5632]⟩
abbrev S_ : Shape := ⟨0, ![]⟩
abbrev S2x66x66x5632 : Shape := ⟨4, ![2, 66, 66, 5632]⟩
abbrev S1x1x1x5632 : Shape := ⟨4, ![1, 1, 1, 5632]⟩
abbrev S5632 : Shape := ⟨1, ![5632]⟩

abbrev nBuf : Space → Nat
  | .hbm => 95
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x3x3x5632, .f32⟩
  | .hbm, ⟨4, _⟩ => ⟨S1x5632, .f32⟩
  | .hbm, ⟨5, _⟩ => ⟨S8192x2048, .f32⟩
  | .hbm, ⟨6, _⟩ => ⟨S2048x5632, .f32⟩
  | .hbm, ⟨7, _⟩ => ⟨S8192x5632, .f32⟩
  | .hbm, ⟨8, _⟩ => ⟨S2x64x64x5632, .f32⟩
  | .hbm, ⟨9, _⟩ => ⟨S_, .i32⟩
  | .hbm, ⟨10, _⟩ => ⟨S_, .f32⟩
  | .hbm, ⟨11, _⟩ => ⟨S2x66x66x5632, .f32⟩
  | .hbm, ⟨12, _⟩ => ⟨S2x64x64x5632, .f32⟩
  | .hbm, ⟨13, _⟩ => ⟨S1x1x1x5632, .f32⟩
  | .hbm, ⟨14, _⟩ => ⟨S5632, .f32⟩
  | .hbm, ⟨15, _⟩ => ⟨S1x1x1x5632, .f32⟩
  | .hbm, ⟨16, _⟩ => ⟨S2x64x64x5632, .f32⟩
  | .hbm, ⟨17, _⟩ => ⟨S2x64x64x5632, .f32⟩
  | .hbm, ⟨18, _⟩ => ⟨S_, .f32⟩
  | .hbm, ⟨19, _⟩ => ⟨S2x64x64x5632, .f32⟩
  | .hbm, ⟨20, _⟩ => ⟨S2x64x64x5632, .f32⟩
  | .hbm, ⟨21, _⟩ => ⟨S2x64x64x5632, .f32⟩
  | .hbm, ⟨22, _⟩ => ⟨S1x1x1x5632, .f32⟩
  | .hbm, ⟨23, _⟩ => ⟨S5632, .f32⟩
  | .hbm, ⟨24, _⟩ => ⟨S1x1x1x5632, .f32⟩
  | .hbm, ⟨25, _⟩ => ⟨S2x64x64x5632, .f32⟩
  | .hbm, ⟨26, _⟩ => ⟨S2x64x64x5632, .f32⟩
  | .hbm, ⟨27, _⟩ => ⟨S2x64x64x5632, .f32⟩
  | .hbm, ⟨28, _⟩ => ⟨S2x64x64x5632, .f32⟩
  | .hbm, ⟨29, _⟩ => ⟨S1x1x1x5632, .f32⟩
  | .hbm, ⟨30, _⟩ => ⟨S5632, .f32⟩
  | .hbm, ⟨31, _⟩ => ⟨S1x1x1x5632, .f32⟩
  | .hbm, ⟨32, _⟩ => ⟨S2x64x64x5632, .f32⟩
  | .hbm, ⟨33, _⟩ => ⟨S2x64x64x5632, .f32⟩
  | .hbm, ⟨34, _⟩ => ⟨S2x64x64x5632, .f32⟩
  | .hbm, ⟨35, _⟩ => ⟨S2x64x64x5632, .f32⟩
  | .hbm, ⟨36, _⟩ => ⟨S1x1x1x5632, .f32⟩
  | .hbm, ⟨37, _⟩ => ⟨S5632, .f32⟩
  | .hbm, ⟨38, _⟩ => ⟨S1x1x1x5632, .f32⟩
  | .hbm, ⟨39, _⟩ => ⟨S2x64x64x5632, .f32⟩
  | .hbm, ⟨40, _⟩ => ⟨S2x64x64x5632, .f32⟩
  | .hbm, ⟨41, _⟩ => ⟨S2x64x64x5632, .f32⟩
  | .hbm, ⟨42, _⟩ => ⟨S2x64x64x5632, .f32⟩
  | .hbm, ⟨43, _⟩ => ⟨S1x1x1x5632, .f32⟩
  | .hbm, ⟨44, _⟩ => ⟨S5632, .f32⟩
  | .hbm, ⟨45, _⟩ => ⟨S1x1x1x5632, .f32⟩
  | .hbm, ⟨46, _⟩ => ⟨S2x64x64x5632, .f32⟩
  | .hbm, ⟨47, _⟩ => ⟨S2x64x64x5632, .f32⟩
  | .hbm, ⟨48, _⟩ => ⟨S2x64x64x5632, .f32⟩
  | .hbm, ⟨49, _⟩ => ⟨S2x64x64x5632, .f32⟩
  | .hbm, ⟨50, _⟩ => ⟨S1x1x1x5632, .f32⟩
  | .hbm, ⟨51, _⟩ => ⟨S5632, .f32⟩
  | .hbm, ⟨52, _⟩ => ⟨S1x1x1x5632, .f32⟩
  | .hbm, ⟨53, _⟩ => ⟨S2x64x64x5632, .f32⟩
  | .hbm, ⟨54, _⟩ => ⟨S2x64x64x5632, .f32⟩
  | .hbm, ⟨55, _⟩ => ⟨S2x64x64x5632, .f32⟩
  | .hbm, ⟨56, _⟩ => ⟨S2x64x64x5632, .f32⟩
  | .hbm, ⟨57, _⟩ => ⟨S1x1x1x5632, .f32⟩
  | .hbm, ⟨58, _⟩ => ⟨S5632, .f32⟩
  | .hbm, ⟨59, _⟩ => ⟨S1x1x1x5632, .f32⟩
  | .hbm, ⟨60, _⟩ => ⟨S2x64x64x5632, .f32⟩
  | .hbm, ⟨61, _⟩ => ⟨S2x64x64x5632, .f32⟩
  | .hbm, ⟨62, _⟩ => ⟨S2x64x64x5632, .f32⟩
  | .hbm, ⟨63, _⟩ => ⟨S2x64x64x5632, .f32⟩
  | .hbm, ⟨64, _⟩ => ⟨S1x1x1x5632, .f32⟩
  | .hbm, ⟨65, _⟩ => ⟨S5632, .f32⟩
  | .hbm, ⟨66, _⟩ => ⟨S1x1x1x5632, .f32⟩
  | .hbm, ⟨67, _⟩ => ⟨S2x64x64x5632, .f32⟩
  | .hbm, ⟨68, _⟩ => ⟨S2x64x64x5632, .f32⟩
  | .hbm, ⟨69, _⟩ => ⟨S2x64x64x5632, .f32⟩
  | .hbm, ⟨70, _⟩ => ⟨S2x64x64x5632, .f32⟩
  | .hbm, ⟨71, _⟩ => ⟨S1x1x1x5632, .f32⟩
  | .hbm, ⟨72, _⟩ => ⟨S5632, .f32⟩
  | .hbm, ⟨73, _⟩ => ⟨S1x1x1x5632, .f32⟩
  | .hbm, ⟨74, _⟩ => ⟨S2x64x64x5632, .f32⟩
  | .hbm, ⟨75, _⟩ => ⟨S2x64x64x5632, .f32⟩
  | .hbm, ⟨76, _⟩ => ⟨S2x64x64x5632, .f32⟩
  | .hbm, ⟨77, _⟩ => ⟨S8192x5632, .f32⟩
  | .hbm, ⟨78, _⟩ => ⟨S5632, .f32⟩
  | .hbm, ⟨79, _⟩ => ⟨S1x5632, .f32⟩
  | .hbm, ⟨80, _⟩ => ⟨S8192x5632, .f32⟩
  | .hbm, ⟨81, _⟩ => ⟨S8192x5632, .f32⟩
  | .hbm, ⟨82, _⟩ => ⟨S8192x5632, .f32⟩
  | .hbm, ⟨83, _⟩ => ⟨S8192x5632, .f32⟩
  | .hbm, ⟨84, _⟩ => ⟨S_, .f32⟩
  | .hbm, ⟨85, _⟩ => ⟨S8192x5632, .f32⟩
  | .hbm, ⟨86, _⟩ => ⟨S8192x5632, .f32⟩
  | .hbm, ⟨87, _⟩ => ⟨S_, .f32⟩
  | .hbm, ⟨88, _⟩ => ⟨S8192x5632, .f32⟩
  | .hbm, ⟨89, _⟩ => ⟨S8192x5632, .f32⟩
  | .hbm, ⟨90, _⟩ => ⟨S8192x5632, .f32⟩
  | .hbm, ⟨91, _⟩ => ⟨S2048x5632, .f32⟩
  | .hbm, ⟨92, _⟩ => ⟨S8192x5632, .f32⟩
  | .hbm, ⟨93, _⟩ => ⟨S8192x5632, .f32⟩
  | .hbm, ⟨94, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== Down.lean ====
abbrev S8192x5632 : Shape := ⟨2, ![8192, 5632]⟩
abbrev S1x5632x2048 : Shape := ⟨3, ![1, 5632, 2048]⟩
abbrev S8192x2048 : Shape := ⟨2, ![8192, 2048]⟩
abbrev S2x1x2048 : Shape := ⟨3, ![2, 1, 2048]⟩
abbrev S1x2048 : Shape := ⟨2, ![1, 2048]⟩
abbrev S5632x2048 : Shape := ⟨2, ![5632, 2048]⟩
abbrev S1024x1408 : Shape := ⟨2, ![1024, 1408]⟩
abbrev S1408x2048 : Shape := ⟨2, ![1408, 2048]⟩
abbrev S1024x2048 : Shape := ⟨2, ![1024, 2048]⟩
abbrev S1x1x2048 : Shape := ⟨3, ![1, 1, 2048]⟩
abbrev S512x2048 : Shape := ⟨2, ![512, 2048]⟩
abbrev S512x1408 : Shape := ⟨2, ![512, 1408]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S2x1x2048, .f32⟩
  | .hbm, ⟨4, _⟩ => ⟨S1x2048, .f32⟩
  | .hbm, ⟨5, _⟩ => ⟨S5632x2048, .f32⟩
  | .hbm, ⟨6, _⟩ => ⟨S5632x2048, .bf16⟩
  | .hbm, ⟨7, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S2x1x2048 : Shape := ⟨3, ![2, 1, 2048]⟩
abbrev S1x2048 : Shape := ⟨2, ![1, 2048]⟩
abbrev S5632x2048 : Shape := ⟨2, ![5632, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S2x1x2048, .f32⟩
  | .hbm, ⟨4, _⟩ => ⟨S1x2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== RetFinish.lean ====
abbrev S8192x1024 : Shape := ⟨2, ![8192, 1024]⟩
abbrev S8192x4096 : Shape := ⟨2, ![8192, 4096]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RetFinishRefIdeal.lean ====
abbrev S8192x1024 : Shape := ⟨2, ![8192, 1024]⟩
abbrev S8192x4096 : Shape := ⟨2, ![8192, 4096]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x128, .f32⟩
  | .hbm, ⟨19, _⟩ => ⟨S8192x8x128, .f32⟩
  | .hbm, ⟨20, _⟩ => ⟨S8192x1024, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== CtxMm.lean ====
abbrev S512x2048 : Shape := ⟨2, ![512, 2048]⟩
abbrev S1x2048x7584 : Shape := ⟨3, ![1, 2048, 7584]⟩
abbrev S2048x7584 : Shape := ⟨2, ![2048, 7584]⟩
abbrev S7584x2048 : Shape := ⟨2, ![7584, 2048]⟩
abbrev S512x4096 : Shape := ⟨2, ![512, 4096]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S1x2048x7584, .f32⟩
  | .hbm, ⟨2, _⟩ => ⟨S2048x7584, .f32⟩
  | .hbm, ⟨3, _⟩ => ⟨S7584x2048, .f32⟩
  | .hbm, ⟨4, _⟩ => ⟨S7584x2048, .bf16⟩
  | .hbm, ⟨5, _⟩ => ⟨S512x4096, .bf16⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c3488_i32 : BitVec 32 := 3488#32
  let arg1 : BitVec 32 := BitVec.ofNat 32 (i 1).val
  let c1024_i32 : BitVec 32 := 1024#32
  let v0 : BitVec 32 := Scalar.muli arg1 c1024_i32
  let v1 : BitVec 32 := Scalar.addi c3488_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3488_i32 : BitVec 32 := 3488#32
  let v1 : BitVec 32 := Scalar.addi c3488_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxMmRefIdeal.lean ====
abbrev S512x2048 : Shape := ⟨2, ![512, 2048]⟩
abbrev S1x2048x7584 : Shape := ⟨3, ![1, 2048, 7584]⟩
abbrev S2048x7584 : Shape := ⟨2, ![2048, 7584]⟩
abbrev S512x7584 : Shape := ⟨2, ![512, 7584]⟩
abbrev S512x4096 : Shape := ⟨2, ![512, 4096]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x7584, .f32⟩
  | .hbm, ⟨2, _⟩ => ⟨S512x2048, .f32⟩
  | .hbm, ⟨3, _⟩ => ⟨S2048x7584, .f32⟩
  | .hbm, ⟨4, _⟩ => ⟨S512x7584, .f32⟩
  | .hbm, ⟨5, _⟩ => ⟨S512x4096, .f32⟩
  | .hbm, ⟨6, _⟩ => ⟨S512x4096, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CtxNorm.lean ====
abbrev S2x256x2048 : Shape := ⟨3, ![2, 256, 2048]⟩
abbrev S1x2048 : Shape := ⟨2, ![1, 2048]⟩
abbrev S2x1x2048 : Shape := ⟨3, ![2, 1, 2048]⟩
abbrev S1x2048x7584 : Shape := ⟨3, ![1, 2048, 7584]⟩
abbrev S2048x7584 : Shape := ⟨2, ![2048, 7584]⟩
abbrev S7584x2048 : Shape := ⟨2, ![7584, 2048]⟩
abbrev S512x2048 : Shape := ⟨2, ![512, 2048]⟩
abbrev S512x3584 : Shape := ⟨2, ![512, 3584]⟩
abbrev S256x2048 : Shape := ⟨2, ![256, 2048]⟩
abbrev S1x1x2048 : Shape := ⟨3, ![1, 1, 2048]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x7584, .f32⟩
  | .hbm, ⟨5, _⟩ => ⟨S2048x7584, .f32⟩
  | .hbm, ⟨6, _⟩ => ⟨S7584x2048, .f32⟩
  | .hbm, ⟨7, _⟩ => ⟨S7584x2048, .bf16⟩
  | .hbm, ⟨8, _⟩ => ⟨S512x2048, .f32⟩
  | .hbm, ⟨9, _⟩ => ⟨S512x3584, .f32⟩
  | .hbm, ⟨10, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | .local _ .vmem, ⟨9, _⟩ => ⟨S256x512, .f32⟩
  | .local _ .vmem, ⟨10, _⟩ => ⟨S256x512, .f32⟩
  | .local _ .vmem, ⟨11, _⟩ => ⟨S256x2048, .bf16⟩
  | .local _ .vmem, ⟨12, _⟩ => ⟨S256x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .sgt arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== CtxNormRefIdeal.lean ====
abbrev S2x256x2048 : Shape := ⟨3, ![2, 256, 2048]⟩
abbrev S1x2048 : Shape := ⟨2, ![1, 2048]⟩
abbrev S2x1x2048 : Shape := ⟨3, ![2, 1, 2048]⟩
abbrev S1x2048x7584 : Shape := ⟨3, ![1, 2048, 7584]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S512x2048 : Shape := ⟨2, ![512, 2048]⟩
abbrev S2048x7584 : Shape := ⟨2, ![2048, 7584]⟩
abbrev S512x7584 : Shape := ⟨2, ![512, 7584]⟩
abbrev S512x3584 : Shape := ⟨2, ![512, 3584]⟩

abbrev nBuf : Space → Nat
  | .hbm => 34
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x7584, .f32⟩
  | .hbm, ⟨5, _⟩ => ⟨S2048, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x256x2048, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S512x2048, .f32⟩
  | .hbm, ⟨30, _⟩ => ⟨S2048x7584, .f32⟩
  | .hbm, ⟨31, _⟩ => ⟨S512x7584, .f32⟩
  | .hbm, ⟨32, _⟩ => ⟨S512x3584, .f32⟩
  | .hbm, ⟨33, _⟩ => ⟨S512x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Ada.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== RwFinish.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S512x1024 : Shape := ⟨2, ![512, 1024]⟩
abbrev S512x128 : Shape := ⟨2, ![512, 128]⟩

abbrev nBuf : Space → Nat
  | .hbm => 34
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S128, .i32⟩
  | .hbm, ⟨27, _⟩ => ⟨S1x128, .i32⟩
  | .hbm, ⟨28, _⟩ => ⟨S1024x128, .i32⟩
  | .hbm, ⟨29, _⟩ => ⟨S1024x128, .i32⟩
  | .hbm, ⟨30, _⟩ => ⟨S1024x128, .i1⟩
  | .hbm, ⟨31, _⟩ => ⟨S1024x128, .bf16⟩
  | .hbm, ⟨32, _⟩ => ⟨S128x1024, .bf16⟩
  | .hbm, ⟨33, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x128, .bf16⟩
  | .local _ .vmem, ⟨11, _⟩ => ⟨S128x1024, .bf16⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RwFinishRefIdeal.lean ====
abbrev S8192x1024 : Shape := ⟨2, ![8192, 1024]⟩
abbrev S1x1024 : Shape := ⟨2, ![1, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x16x64, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S8192x16x64, .f32⟩
  | .hbm, ⟨17, _⟩ => ⟨S8192x16x64, .f32⟩
  | .hbm, ⟨18, _⟩ => ⟨S8192x16x64, .f32⟩
  | .hbm, ⟨19, _⟩ => ⟨S_, .f32⟩
  | .hbm, ⟨20, _⟩ => ⟨S8192x16, .f32⟩
  | .hbm, ⟨21, _⟩ => ⟨S8192x16x1, .f32⟩
  | .hbm, ⟨22, _⟩ => ⟨S_, .f32⟩
  | .hbm, ⟨23, _⟩ => ⟨S8192x16x1, .f32⟩
  | .hbm, ⟨24, _⟩ => ⟨S8192x16x1, .f32⟩
  | .hbm, ⟨25, _⟩ => ⟨S8192x16x64, .f32⟩
  | .hbm, ⟨26, _⟩ => ⟨S8192x16x64, .f32⟩
  | .hbm, ⟨27, _⟩ => ⟨S_, .f32⟩
  | .hbm, ⟨28, _⟩ => ⟨S8192x16x1, .f32⟩
  | .hbm, ⟨29, _⟩ => ⟨S8192x16x1, .f32⟩
  | .hbm, ⟨30, _⟩ => ⟨S8192x16x1, .f32⟩
  | .hbm, ⟨31, _⟩ => ⟨S8192x16x64, .f32⟩
  | .hbm, ⟨32, _⟩ => ⟨S8192x16x64, .f32⟩
  | .hbm, ⟨33, _⟩ => ⟨S8192x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Prep.lean ====
abbrev S2x4096x3584 : Shape := ⟨3, ![2, 4096, 3584]⟩
abbrev S1x3x3488 : Shape := ⟨3, ![1, 3, 3488]⟩
abbrev S1x2x1024 : Shape := ⟨3, ![1, 2, 1024]⟩
abbrev S1x2x64x1024 : Shape := ⟨4, ![1, 2, 64, 1024]⟩
abbrev S1x160x1024 : Shape := ⟨3, ![1, 160, 1024]⟩
abbrev S1x1024 : Shape := ⟨2, ![1, 1024]⟩
abbrev S1x16x64 : Shape := ⟨3, ![1, 16, 64]⟩
abbrev S3x3488 : Shape := ⟨2, ![3, 3488]⟩
abbrev S_ : Shape := ⟨0, ![]⟩
abbrev S3x3584 : Shape := ⟨2, ![3, 3584]⟩
abbrev S2x64x1024 : Shape := ⟨3, ![2, 64, 1024]⟩
abbrev S1x64x1024 : Shape := ⟨3, ![1, 64, 1024]⟩
abbrev S64x1024 : Shape := ⟨2, ![64, 1024]⟩
abbrev S256x1024 : Shape := ⟨2, ![256, 1024]⟩
abbrev S1 : Shape := ⟨1, ![1]⟩
abbrev S1x256x1024 : Shape := ⟨3, ![1, 256, 1024]⟩
abbrev S2x256x1024 : Shape := ⟨3, ![2, 256, 1024]⟩
abbrev S1x2x256x1024 : Shape := ⟨4, ![1, 2, 256, 1024]⟩
abbrev S2x2x256x1024 : Shape := ⟨4, ![2, 2, 256, 1024]⟩
abbrev S160x1024 : Shape := ⟨2, ![160, 1024]⟩
abbrev S2x1024 : Shape := ⟨2, ![2, 1024]⟩
abbrev S1024 : Shape := ⟨1, ![1024]⟩
abbrev S16x64 : Shape := ⟨2, ![16, 64]⟩
abbrev S7x1024 : Shape := ⟨2, ![7, 1024]⟩
abbrev S8x1024 : Shape := ⟨2, ![8, 1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S2x4096x1024 : Shape := ⟨3, ![2, 4096, 1024]⟩
abbrev S2x512x1024 : Shape := ⟨3, ![2, 512, 1024]⟩
abbrev S1x8x3584 : Shape := ⟨3, ![1, 8, 3584]⟩
abbrev S1x256x3584 : Shape := ⟨3, ![1, 256, 3584]⟩
abbrev S1x32x1024 : Shape := ⟨3, ![1, 32, 1024]⟩
abbrev S256x3584 : Shape := ⟨2, ![256, 3584]⟩
abbrev S1x1x3584 : Shape := ⟨3, ![1, 1, 3584]⟩
abbrev S1x3584 : Shape := ⟨2, ![1, 3584]⟩
abbrev S256x256 : Shape := ⟨2, ![256, 256]⟩
abbrev S256x128 : Shape := ⟨2, ![256, 128]⟩
abbrev S32x256 : Shape := ⟨2, ![32, 256]⟩
abbrev S1x1x256x1024 : Shape := ⟨4, ![1, 1, 256, 1024]⟩
abbrev S288x256 : Shape := ⟨2, ![288, 256]⟩
abbrev S288x1024 : Shape := ⟨2, ![288, 1024]⟩
abbrev S32x1024 : Shape := ⟨2, ![32, 1024]⟩

abbrev nBuf : Space → Nat
  | .hbm => 137
  | .vmem => 39
  | .smem => 0
  | _ => 0

abbrev hbmTy0_0 (i : Nat) : BufTy := match i % 128 with
  | 0 => ⟨S2x4096x3584, .f32⟩
  | 1 => ⟨S1x3x3488, .f32⟩
  | 2 => ⟨S1x2x1024, .f32⟩
  | 3 => ⟨S1x2x64x1024, .f32⟩
  | 4 => ⟨S1x2x1024, .f32⟩
  | 5 => ⟨S1x2x64x1024, .f32⟩
  | 6 => ⟨S1x160x1024, .f32⟩
  | 7 => ⟨S1x1024, .f32⟩
  | 8 => ⟨S1x1024, .f32⟩
  | 9 => ⟨S1x16x64, .f32⟩
  | 10 => ⟨S3x3488, .f32⟩
  | 11 => ⟨S_, .i32⟩
  | 12 => ⟨S_, .f32⟩
  | 13 => ⟨S3x3584, .f32⟩
  | 14 => ⟨S2x64x1024, .f32⟩
  | 15 => ⟨S1x64x1024, .f32⟩
  | 16 => ⟨S64x1024, .f32⟩
  | 17 => ⟨S_, .f32⟩
  | 18 => ⟨S256x1024, .f32⟩
  | 19 => ⟨S_, .i32⟩
  | 20 => ⟨S1, .i32⟩
  | 21 => ⟨S256x1024, .f32⟩
  | 22 => ⟨S2x64x1024, .f32⟩
  | 23 => ⟨S1x64x1024, .f32⟩
  | 24 => ⟨S64x1024, .f32⟩
  | 25 => ⟨S_, .f32⟩
  | 26 => ⟨S256x1024, .f32⟩
  | 27 => ⟨S_, .i32⟩
  | 28 => ⟨S1, .i32⟩
  | 29 => ⟨S256x1024, .f32⟩
  | 30 => ⟨S1x256x1024, .f32⟩
  | 31 => ⟨S1x256x1024, .f32⟩
  | 32 => ⟨S2x256x1024, .f32⟩
  | 33 => ⟨S2x256x1024, .bf16⟩
  | 34 => ⟨S2x256x1024, .f32⟩
  | 35 => ⟨S2x256x1024, .f32⟩
  | 36 => ⟨S2x256x1024, .bf16⟩
  | 37 => ⟨S2x256x1024, .f32⟩
  | 38 => ⟨S2x256x1024, .f32⟩
  | 39 => ⟨S1x2x256x1024, .bf16⟩
  | 40 => ⟨S1x2x256x1024, .bf16⟩
  | 41 => ⟨S2x2x256x1024, .bf16⟩
  | 42 => ⟨S2x64x1024, .f32⟩
  | 43 => ⟨S1x64x1024, .f32⟩
  | 44 => ⟨S64x1024, .f32⟩
  | 45 => ⟨S_, .f32⟩
  | 46 => ⟨S256x1024, .f32⟩
  | 47 => ⟨S_, .i32⟩
  | 48 => ⟨S1, .i32⟩
  | 49 => ⟨S256x1024, .f32⟩
  | 50 => ⟨S2x64x1024, .f32⟩
  | 51 => ⟨S1x64x1024, .f32⟩
  | 52 => ⟨S64x1024, .f32⟩
  | 53 => ⟨S_, .f32⟩
  | 54 => ⟨S256x1024, .f32⟩
  | 55 => ⟨S_, .i32⟩
  | 56 => ⟨S1, .i32⟩
  | 57 => ⟨S256x1024, .f32⟩
  | 58 => ⟨S1x256x1024, .f32⟩
  | 59 => ⟨S1x256x1024, .f32⟩
  | 60 => ⟨S2x256x1024, .f32⟩
  | 61 => ⟨S2x256x1024, .bf16⟩
  | 62 => ⟨S2x256x1024, .f32⟩
  | 63 => ⟨S2x256x1024, .f32⟩
  | 64 => ⟨S2x256x1024, .bf16⟩
  | 65 => ⟨S2x256x1024, .f32⟩
  | 66 => ⟨S2x256x1024, .f32⟩
  | 67 => ⟨S1x2x256x1024, .bf16⟩
  | 68 => ⟨S1x2x256x1024, .bf16⟩
  | 69 => ⟨S2x2x256x1024, .bf16⟩
  | 70 => ⟨S160x1024, .f32⟩
  | 71 => ⟨S_, .f32⟩
  | 72 => ⟨S256x1024, .f32⟩
  | 73 => ⟨S_, .i32⟩
  | 74 => ⟨S1, .i32⟩
  | 75 => ⟨S256x1024, .f32⟩
  | 76 => ⟨S256x1024, .bf16⟩
  | 77 => ⟨S256x1024, .f32⟩
  | 78 => ⟨S256x1024, .f32⟩
  | 79 => ⟨S256x1024, .bf16⟩
  | 80 => ⟨S256x1024, .f32⟩
  | 81 => ⟨S256x1024, .f32⟩
  | 82 => ⟨S1x256x1024, .bf16⟩
  | 83 => ⟨S1x256x1024, .bf16⟩
  | 84 => ⟨S2x256x1024, .bf16⟩
  | 85 => ⟨S2x1024, .f32⟩
  | 86 => ⟨S2x1024, .f32⟩
  | 87 => ⟨S1024, .f32⟩
  | 88 => ⟨S1x1024, .f32⟩
  | 89 => ⟨S1024, .f32⟩
  | 90 => ⟨S1x1024, .f32⟩
  | 91 => ⟨S16x64, .f32⟩
  | 92 => ⟨S1x1024, .f32⟩
  | 93 => ⟨S7x1024, .f32⟩
  | 94 => ⟨S_, .i32⟩
  | 95 => ⟨S_, .f32⟩
  | 96 => ⟨S8x1024, .f32⟩
  | 97 => ⟨S1024, .i32⟩
  | 98 => ⟨S_, .i32⟩
  | 99 => ⟨S_, .i32⟩
  | 100 => ⟨S1024, .i32⟩
  | 101 => ⟨S1024, .i32⟩
  | 102 => ⟨S1024, .i32⟩
  | 103 => ⟨S_, .i32⟩
  | 104 => ⟨S1024, .i32⟩
  | 105 => ⟨S1024, .i1⟩
  | 106 => ⟨S1024, .i32⟩
  | 107 => ⟨S1024, .i32⟩
  | 108 => ⟨S_, .i32⟩
  | 109 => ⟨S1024, .i32⟩
  | 110 => ⟨S1024, .i1⟩
  | 111 => ⟨S1024, .i1⟩
  | 112 => ⟨S_, .i32⟩
  | 113 => ⟨S1024, .i32⟩
  | 114 => ⟨S1024, .i32⟩
  | 115 => ⟨S1024, .i32⟩
  | 116 => ⟨S1024x1, .i32⟩
  | 117 => ⟨S128, .i32⟩
  | 118 => ⟨S1x128, .i32⟩
  | 119 => ⟨S1024x128, .i32⟩
  | 120 => ⟨S1024x128, .i32⟩
  | 121 => ⟨S1024x128, .i1⟩
  | 122 => ⟨S1024x128, .bf16⟩
  | 123 => ⟨S128x1024, .bf16⟩
  | 124 => ⟨S2x4096x1024, .bf16⟩
  | 125 => ⟨S2x4096x1024, .bf16⟩
  | 126 => ⟨S2x4096x1024, .bf16⟩
  | 127 => ⟨S2x4096x1024, .bf16⟩
  | _ => ⟨S2x4096x3584, .f32⟩

abbrev hbmTy0_1 (i : Nat) : BufTy := match i % 128 with
  | 0 => ⟨S2x512x1024, .f32⟩
  | 1 => ⟨S2x4096x1024, .bf16⟩
  | 2 => ⟨S2x4096x1024, .bf16⟩
  | 3 => ⟨S2x4096x1024, .bf16⟩
  | 4 => ⟨S2x4096x1024, .bf16⟩
  | 5 => ⟨S2x512x1024, .f32⟩
  | 6 => ⟨S2x4096x1024, .bf16⟩
  | 7 => ⟨S2x4096x1024, .f32⟩
  | 8 => ⟨S2x4096x1024, .f32⟩
  | _ => ⟨S2x4096x3584, .f32⟩

abbrev hbmTy (i : Nat) : BufTy := match i / 128 with
  | 0 => hbmTy0_0 i
  | 1 => hbmTy0_1 i
  | _ => ⟨S2x4096x3584, .f32⟩

abbrev bufTy : (tb : Table) → Fin (tcTables nBuf tb) → BufTy
  | .hbm, ⟨i, _⟩ => hbmTy i
  | .local _ .vmem, ⟨0, _⟩ => ⟨S1x8x3584, .f32⟩
  | .local _ .vmem, ⟨1, _⟩ => ⟨S1x8x3584, .f32⟩
  | .local _ .vmem, ⟨2, _⟩ => ⟨S1x256x3584, .f32⟩
  | .local _ .vmem, ⟨3, _⟩ => ⟨S1x256x3584, .f32⟩
  | .local _ .vmem, ⟨4, _⟩ => ⟨S1x8x3584, .f32⟩
  | .local _ .vmem, ⟨5, _⟩ => ⟨S1x8x3584, .f32⟩
  | .local _ .vmem, ⟨6, _⟩ => ⟨S3x3584, .f32⟩
  | .local _ .vmem, ⟨7, _⟩ => ⟨S2x2x256x1024, .bf16⟩
  | .local _ .vmem, ⟨8, _⟩ => ⟨S2x2x256x1024, .bf16⟩
  | .local _ .vmem, ⟨9, _⟩ => ⟨S2x256x1024, .bf16⟩
  | .local _ .vmem, ⟨10, _⟩ => ⟨S8x1024, .f32⟩
  | .local _ .vmem, ⟨11, _⟩ => ⟨S1024x128, .bf16⟩
  | .local _ .vmem, ⟨12, _⟩ => ⟨S128x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x32x1024, .f32⟩
  | .local _ .vmem, ⟨22, _⟩ => ⟨S1x32x1024, .f32⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x32x1024, .f32⟩
  | .local _ .vmem, ⟨32, _⟩ => ⟨S1x32x1024, .f32⟩
  | .local _ .vmem, ⟨33, _⟩ => ⟨S1x256x1024, .bf16⟩
  | .local _ .vmem, ⟨34, _⟩ => ⟨S1x256x1024, .bf16⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | _, _ => ⟨S2x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_9 : Ref sig .tc := ⟨.hbm, 94, rfl⟩
abbrev main_call1_v0 : Ref sig .tc := ⟨.hbm, 95, rfl⟩
abbrev main_v72 : Ref sig .tc := ⟨.hbm, 96, rfl⟩
abbrev main_v73 : Ref sig .tc := ⟨.hbm, 97, rfl⟩
abbrev main_c_10 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_c : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_0 : Ref sig .tc := ⟨.hbm, 112, rfl⟩
abbrev main_call2_v12 : Ref sig .tc := ⟨.hbm, 113, rfl⟩
abbrev main_call2_v13 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83_0 : Ref sig .tc := ⟨.hbm, 124, rfl⟩
abbrev main_v83_1 : Ref sig .tc := ⟨.hbm, 125, rfl⟩
abbrev main_v83_2 : Ref sig .tc := ⟨.hbm, 126, rfl⟩
abbrev main_v83_3 : Ref sig .tc := ⟨.hbm, 127, rfl⟩
abbrev main_v83_4 : Ref sig .tc := ⟨.hbm, 128, rfl⟩
abbrev main_v83_5 : Ref sig .tc := ⟨.hbm, 129, rfl⟩
abbrev main_v83_6 : Ref sig .tc := ⟨.hbm, 130, rfl⟩
abbrev main_v83_7 : Ref sig .tc := ⟨.hbm, 131, rfl⟩
abbrev main_v83_8 : Ref sig .tc := ⟨.hbm, 132, rfl⟩
abbrev main_v83_9 : Ref sig .tc := ⟨.hbm, 133, rfl⟩
abbrev main_v83_10 : Ref sig .tc := ⟨.hbm, 134, rfl⟩
abbrev main_v83_11 : Ref sig .tc := ⟨.hbm, 135, rfl⟩
abbrev main_v83_12 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== PrepRefIdeal.lean ====
abbrev S2x4096x3584 : Shape := ⟨3, ![2, 4096, 3584]⟩
abbrev S1x3x3488 : Shape := ⟨3, ![1, 3, 3488]⟩
abbrev S1x2x1024 : Shape := ⟨3, ![1, 2, 1024]⟩
abbrev S1x2x64x1024 : Shape := ⟨4, ![1, 2, 64, 1024]⟩
abbrev S1x160x1024 : Shape := ⟨3, ![1, 160, 1024]⟩
abbrev S1x1024 : Shape := ⟨2, ![1, 1024]⟩
abbrev S1x16x64 : Shape := ⟨3, ![1, 16, 64]⟩
abbrev S2x4096x3488 : Shape := ⟨3, ![2, 4096, 3488]⟩
abbrev S_ : Shape := ⟨0, ![]⟩
abbrev S2x4098x3488 : Shape := ⟨3, ![2, 4098, 3488]⟩
abbrev S1x1x3488 : Shape := ⟨3, ![1, 1, 3488]⟩
abbrev S3488 : Shape := ⟨1, ![3488]⟩
abbrev S2x4096x1024 : Shape := ⟨3, ![2, 4096, 1024]⟩
abbrev S2x4096x160 : Shape := ⟨3, ![2, 4096, 160]⟩
abbrev S160x1024 : Shape := ⟨2, ![160, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x3584, .f32⟩
  | .hbm, ⟨1, _⟩ => ⟨S1x3x3488, .f32⟩
  | .hbm, ⟨2, _⟩ => ⟨S1x2x1024, .f32⟩
  | .hbm, ⟨3, _⟩ => ⟨S1x2x64x1024, .f32⟩
  | .hbm, ⟨4, _⟩ => ⟨S1x2x1024, .f32⟩
  | .hbm, ⟨5, _⟩ => ⟨S1x2x64x1024, .f32⟩
  | .hbm, ⟨6, _⟩ => ⟨S1x160x1024, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S2x4096x3488, .f32⟩
  | .hbm, ⟨11, _⟩ => ⟨S_, .i32⟩
  | .hbm, ⟨12, _⟩ => ⟨S_, .f32⟩
  | .hbm, ⟨13, _⟩ => ⟨S2x4098x3488, .f32⟩
  | .hbm, ⟨14, _⟩ => ⟨S2x4096x3488, .f32⟩
  | .hbm, ⟨15, _⟩ => ⟨S1x1x3488, .f32⟩
  | .hbm, ⟨16, _⟩ => ⟨S3488, .f32⟩
  | .hbm, ⟨17, _⟩ => ⟨S1x1x3488, .f32⟩
  | .hbm, ⟨18, _⟩ => ⟨S2x4096x3488, .f32⟩
  | .hbm, ⟨19, _⟩ => ⟨S2x4096x3488, .f32⟩
  | .hbm, ⟨20, _⟩ => ⟨S2x4096x3488, .f32⟩
  | .hbm, ⟨21, _⟩ => ⟨S1x1x3488, .f32⟩
  | .hbm, ⟨22, _⟩ => ⟨S3488, .f32⟩
  | .hbm, ⟨23, _⟩ => ⟨S1x1x3488, .f32⟩
  | .hbm, ⟨24, _⟩ => ⟨S2x4096x3488, .f32⟩
  | .hbm, ⟨25, _⟩ => ⟨S2x4096x3488, .f32⟩
  | .hbm, ⟨26, _⟩ => ⟨S2x4096x3488, .f32⟩
  | .hbm, ⟨27, _⟩ => ⟨S2x4096x3488, .f32⟩
  | .hbm, ⟨28, _⟩ => ⟨S1x1x3488, .f32⟩
  | .hbm, ⟨29, _⟩ => ⟨S3488, .f32⟩
  | .hbm, ⟨30, _⟩ => ⟨S1x1x3488, .f32⟩
  | .hbm, ⟨31, _⟩ => ⟨S2x4096x3488, .f32⟩
  | .hbm, ⟨32, _⟩ => ⟨S2x4096x3488, .f32⟩
  | .hbm, ⟨33, _⟩ => ⟨S2x4096x3488, .f32⟩
  | .hbm, ⟨34, _⟩ => ⟨S2x4096x1024, .f32⟩
  | .hbm, ⟨35, _⟩ => ⟨S2x4096x160, .f32⟩
  | .hbm, ⟨36, _⟩ => ⟨S2x4096x160, .f32⟩
  | .hbm, ⟨37, _⟩ => ⟨S2x4096x160, .f32⟩
  | .hbm, ⟨38, _⟩ => ⟨S_, .f32⟩
  | .hbm, ⟨39, _⟩ => ⟨S2x4096x160, .f32⟩
  | .hbm, ⟨40, _⟩ => ⟨S2x4096x160, .f32⟩
  | .hbm, ⟨41, _⟩ => ⟨S_, .f32⟩
  | .hbm, ⟨42, _⟩ => ⟨S2x4096x160, .f32⟩
  | .hbm, ⟨43, _⟩ => ⟨S2x4096x160, .f32⟩
  | .hbm, ⟨44, _⟩ => ⟨S160x1024, .f32⟩
  | .hbm, ⟨45, _⟩ => ⟨S2x4096x1024, .f32⟩
  | .hbm, ⟨46, _⟩ => ⟨S2x4096x1024, .bf16⟩
  | _, _ => ⟨S2x4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Mm.lean ====
/- The column-range product of the input projection, read at an index.

   The kernel multiplies the normalised rows by a range of the projection's columns that does not begin at a tile
   boundary.  Its weight window is placed by element: grid point (i, j) takes the rows `3488 + 1024 * j …` of the transposed
   projection.  Here the array left by the run is shown to be the plain product with the sliced matrix. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.Mm
open Cert.KernelIdeal Cert.KernelIdeal.Gen
variable (m : (ℓ : Loc nD τ sig) → Buf (Elt Ideal) ℓ)

/-- Where each window stands at each grid point. -/
theorem idx : ∀ t : Fin cfg0.N, win0_0.index t = ![(grid0.coords t 0).val, 0]
    ∧ win0_1.index t = ![3488 + 1024 * (grid0.coords t 1).val, 0]
    ∧ win0_2.index t = ![(grid0.coords t 0).val, (grid0.coords t 1).val] :=
  (by decide +kernel : ∀ t : Fin grid0.N, _)

/-- The weight window's place in its array, along each axis: the window is placed by element. -/
theorem place1 (t : Fin cfg0.N) (z : S1024x2048.Idx) (a : Fin 2) :
    ((((View.whole main_v2).slice (win0_1.rect t)).emb z) a : Nat) = win0_1.index t a + (z a : Nat) :=
  Pipeline.Window.rect_emb_val_off win0_1 t z a

/-- What grid point `t` stores at block place `y` is the plain product at the array place of `y`. -/
theorem point (c : Dev nD) (t : Fin cfg0.N) (y : S1024x1024.Idx) :
    k0_pay1 (iblk m c 0 t) (iblk m c 1 t) y
      = Cert.ReferenceIdeal.Read.val_main_v4 (F := Ideal) (m ((c : Thread nD τ).loc main_arg0)) (m ((c : Thread nD τ).loc main_arg1))
          (((cfg0.win 2).blk t).view.emb y) := by
  rw [← Cert.ReferenceIdeal.Read.val_main_v4_eq]
  pointwise [k0_pay1]
  blk_point [iblk, V, idx t]
  · rw [place1, (idx t).2.1]
    show 0 + k.val = k.val
    omega
  · rw [place1, (idx t).2.1]
    show 3488 + 1024 * (grid0.coords t 1).val + (y 1).val = 3488 + ((grid0.coords t 1).val * 1024 + (y 1).val)
    omega

/-- The array after the run is the plain product with the sliced matrix. -/
theorem final (c : Dev nD) : (dats m 0 c).arrAt 2 cfg0.N
    = Cert.ReferenceIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The printed call terminates and keeps its arguments. -/
theorem frame_printed : Cert.quiescent_Kernel := fun m g _ => Cert.Kernel.Gen.frame m g

/-- So does the call over the extended reals. -/
theorem frame_kernel : Cert.quiescent_KernelIdeal := fun m g _ => Cert.KernelIdeal.Gen.frame m g

/-- And so does the reference. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From the same arguments the call and the reference leave the same array. -/
theorem same_values : Cert.algebraic_KernelIdeal_ReferenceIdeal := by
  intro m g m' g' _ hagree
  refine ⟨fun c => Cert.ReferenceIdeal.Read.val_main_v4 (F := Ideal) (m ((c : Thread nD τ).loc main_arg0))
    (m ((c : Thread nD τ).loc main_arg1)), ?_, ?_⟩
  · exact (θ_run Cert.KernelIdeal.defs _ _).mono (fun r h c => ⟨(h c).1.trans (final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    rw [(hagree c).1, (hagree c).2, Cert.ReferenceIdeal.Read.val_main_v4_eq]

end Cert.Mm
end
-- ==== Proof.RowNorm.lean ====
/- The root-mean-square norm of a row of 2048 places, in the two forms in which the layer's calls use it. -/
module

public import Idealize.ShloMosaic.Lib.Pipeline.ValueKit

@[expose] public section

noncomputable section

open Idealize.ShloMosaic

namespace Cert.RowNorm

/-- The row normed, at one place, before any weight. -/
def normed (acc : Fin 2048 → EReal) (d : Fin 2048) : EReal :=
  acc d * Ideal.rsqrt (Ideal.div (∑ l, acc l * acc l) (Ideal.ofBits FTy.f32 1157627904#32) + Ideal.ofBits FTy.f32 897988541#32)

/-- A row of products joined to the residual: `x` the residual, `g` the gate, `w` the norm's weight, `acc` the row of products. -/
def closing (x g w : EReal) (acc : Fin 2048 → EReal) (d : Fin 2048) : EReal := x + g * (normed acc d * w)

/-- A normed row modulated: `w` the norm's weight, `s` the scale, `b` the shift. -/
def modulated (acc : Fin 2048 → EReal) (w s b : EReal) (d : Fin 2048) : EReal := normed acc d * w * (1 + s) + b

end Cert.RowNorm
end
-- ==== Proof.Down.lean ====
/- The down projection with its residual and its closing root-mean-square norm.

   A block of 1024 rows is left in place over four grid points, each of which adds the product over its own 1408 of the
   5632 hidden columns.  The fourth point works on two halves of 512 rows: it adds its own product, norms the row and adds
   the result to the residual.  The array left by the run is shown to be the plain formula. -/
module

public import proofs.«01_k».proof.Defs
public import proofs.«01_k».proof.Proof.Gen.Down.Frame
public import proofs.«01_k».proof.Proof.Gen.DownIdeal.Value
public import proofs.«01_k».proof.Proof.Gen.DownRefIdeal.Read
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownProj

open Cert.DownIdeal Cert.DownIdeal.Gen Cert.RowNorm

variable (m : (ℓ : Loc nD τ sig) → Buf (Elt Ideal) ℓ)

/-- Where each window stands at each grid point. -/
theorem idx : ∀ t : Fin cfg0.N, win0_0.index t = ![t.val / 4, t.val % 4] ∧ win0_1.index t = ![t.val % 4, 0]
    ∧ win0_2.index t = ![t.val / 4, 0] ∧ win0_3.index t = ![t.val / 16, 0, 0] ∧ win0_4.index t = ![0, 0]
    ∧ win0_5.index t = ![t.val / 4, 0] :=
  (by decide +kernel : ∀ t : Fin grid0.N, _)

/-- The hidden array and the projection among the arguments, at their literal shapes. -/
abbrev hid (c : Dev nD) : FVec Ideal S8192x5632 .bf16 := m ((c : Thread nD τ).loc main_arg0)
abbrev wgt (c : Dev nD) : FVec Ideal S1x5632x2048 .f32 := m ((c : Thread nD τ).loc main_arg1)

/-- The hidden column that lane `k` of quarter `s` holds. -/
def col (s : Nat) (hs : s < 4) (k : Fin 1408) : Fin 5632 := ⟨s * 1408 + k.val, by have := k.isLt; omega⟩

/-- The product of one array row with one column over quarter `s` of the hidden columns. -/
def quarter (c : Dev nD) (r : Fin 8192) (d : Fin 2048) (s : Nat) (hs : s < 4) : EReal :=
  ∑ k : Fin 1408, hid m c (ix2 r (col s hs k)) * wgt m c (ix3 0 (col s hs k) d)

/-- The four quarters make the whole product. -/
theorem whole_row (c : Dev nD) (r : Fin 8192) (d : Fin 2048) :
    ((quarter m c r d 0 (by decide) + quarter m c r d 1 (by decide)) + quarter m c r d 2 (by decide)) + quarter m c r d 3 (by decide)
      = ∑ l : Fin 5632, hid m c (ix2 r l) * wgt m c (ix3 0 l d) := by
  rw [← Fin.sum_mul_add_fin 4 1408, Fin.sum_univ_four]
  rfl

/-- The array row behind row `y` of the block at point `t`. -/
def row (t : Fin cfg0.N) (y : Fin 1024) : Fin 8192 :=
  ⟨t.val / 4 * 1024 + y.val, by have := y.isLt; have := t.isLt; have : cfg0.N = 32 := N_0; omega⟩

/-- The product that point `t` adds is its quarter. -/
theorem part_eq (c : Dev nD) (t : Fin cfg0.N) (y : Fin 1024) (d : Fin 2048) :
    ∑ k : Fin 1408, (show FVec Ideal S1024x1408 .bf16 from iblk m c 0 t) (ix2 y k) * (show FVec Ideal S1408x2048 .bf16 from iblk m c 1 t) (ix2 k d)
      = quarter m c (row t y) d (t.val % 4) (Nat.mod_lt _ (by decide)) := by
  unfold quarter col row
  blk_point [iblk, V, idx t]

/-- The same, at a point whose place in its run is known. -/
theorem part_at (c : Dev nD) (t : Fin cfg0.N) (s : Nat) (hs : s < 4) (h : t.val % 4 = s) (y : Fin 1024) (d : Fin 2048) :
    ∑ k : Fin 1408, (show FVec Ideal S1024x1408 .bf16 from iblk m c 0 t) (ix2 y k) * (show FVec Ideal S1408x2048 .bf16 from iblk m c 1 t) (ix2 k d)
      = quarter m c (row t y) d s hs := by
  subst h
  exact part_eq m c t y d

/-- What the first point of a run stores, read at a place. -/
theorem first_pay (a : Vec Ideal S1024x1408 .bf16) (b : Vec Ideal S1408x2048 .bf16) (y : Fin 1024) (d : Fin 2048) :
    k0_pay1 (F := Ideal) a b (ix2 y d) = ∑ k : Fin 1408, a (ix2 y k) * b (ix2 k d) := by
  pointwise [k0_pay1]

/-- What an inner point of a run stores, read at a place. -/
theorem inner_pay (v : Vec Ideal S1024x2048 .f32) (a : Vec Ideal S1024x1408 .bf16) (b : Vec Ideal S1408x2048 .bf16) (y : Fin 1024) (d : Fin 2048) :
    k0_pay2 (F := Ideal) v a b (ix2 y d) = v (ix2 y d) + ∑ k : Fin 1408, a (ix2 y k) * b (ix2 k d) := by
  pointwise [k0_pay2]

/-- After a run's first point the block holds the first quarter. -/
theorem after_first (c : Dev nD) (t : Fin cfg0.N) (h : t.val % 4 = 0) (y : Fin 1024) (d : Fin 2048) :
    outsAt0 m c t.val t.isLt (ix2 y d) = quarter m c (row t y) d 0 (by decide) := by
  rw [outsAt0_A m c t h (by omega) (by omega)]
  frame_out
  rw [first_pay]
  exact part_at m c t 0 (by decide) h y d

/-- An inner point adds its quarter to what the point before left. -/
theorem after_inner (c : Dev nD) (t : Fin cfg0.N) (s : Nat) (hs : s < 4) (h : t.val % 4 = s) (h1 : 1 ≤ s ∧ s ≤ 2) (y : Fin 1024) (d : Fin 2048) :
    outsAt0 m c t.val t.isLt (ix2 y d)
      = outsAt0 m c (t.val - 1) (Nat.lt_of_le_of_lt (Nat.sub_le _ _) t.isLt) (ix2 y d) + quarter m c (row t y) d s hs := by
  rw [outsAt0_B m c t (by omega) (by omega) (by omega)]
  frame_out
  rw [inner_pay, ← part_at m c t s hs h y d]

/-- Points of one run work on the same rows. -/
theorem row_eq (t u : Fin cfg0.N) (h : t.val / 4 = u.val / 4) (y : Fin 1024) : row t y = row u y :=
  Fin.ext (by show t.val / 4 * 1024 + y.val = u.val / 4 * 1024 + y.val; rw [h])

/-- The block before its fourth point: three quarters are in. -/
theorem before_last (c : Dev nD) (t : Fin cfg0.N) (h : t.val % 4 = 3) (y : Fin 1024) (d : Fin 2048) :
    outsAt0 m c (t.val - 1) (Nat.lt_of_le_of_lt (Nat.sub_le _ _) t.isLt) (ix2 y d)
      = (quarter m c (row t y) d 0 (by decide) + quarter m c (row t y) d 1 (by decide)) + quarter m c (row t y) d 2 (by decide) := by
  have e2 := after_inner m c ⟨t.val - 1, Nat.lt_of_le_of_lt (Nat.sub_le _ _) t.isLt⟩ 2 (by decide) (by show (t.val - 1) % 4 = 2; omega) (by omega) y d
  have e1 := after_inner m c ⟨t.val - 1 - 1, Nat.lt_of_le_of_lt (Nat.sub_le _ _) (Nat.lt_of_le_of_lt (Nat.sub_le _ _) t.isLt)⟩ 1 (by decide) (by show (t.val - 1 - 1) % 4 = 1; omega) (by omega) y d
  have e0 := after_first m c ⟨t.val - 1 - 1 - 1, Nat.lt_of_le_of_lt (Nat.sub_le _ _) (Nat.lt_of_le_of_lt (Nat.sub_le _ _) (Nat.lt_of_le_of_lt (Nat.sub_le _ _) t.isLt))⟩ (by show (t.val - 1 - 1 - 1) % 4 = 0; omega) y d
  rw [row_eq _ t (by show (t.val - 1) / 4 = t.val / 4; omega)] at e2
  rw [row_eq _ t (by show (t.val - 1 - 1) / 4 = t.val / 4; omega)] at e1
  rw [row_eq _ t (by show (t.val - 1 - 1 - 1) / 4 = t.val / 4; omega)] at e0
  exact e2.trans (congrArg (· + _) (e1.trans (congrArg (· + _) e0)))

/-- With the fourth point's own product in, every place of the block's rows is the whole product. -/
theorem with_last (c : Dev nD) (t : Fin cfg0.N) (h : t.val % 4 = 3) (y : Fin 1024) (d : Fin 2048) :
    outsAt0 m c (t.val - 1) (Nat.lt_of_le_of_lt (Nat.sub_le _ _) t.isLt) (ix2 y d)
        + ∑ k : Fin 1408, (show FVec Ideal S1024x1408 .bf16 from iblk m c 0 t) (ix2 y k) * (show FVec Ideal S1408x2048 .bf16 from iblk m c 1 t) (ix2 k d)
      = ∑ l : Fin 5632, hid m c (ix2 (row t y) l) * wgt m c (ix3 0 l d) := by
  rw [before_last m c t h y d, part_at m c t 3 (by decide) h y d, whole_row]

/-- The lower half's stored value, read at a place. -/
theorem lower_pay (v38 : Vec Ideal S512x2048 .f32) (v40 : Vec Ideal S512x1408 .bf16) (v41 : Vec Ideal S1408x2048 .bf16)
    (v45 : Vec Ideal S512x2048 .f32) (v46 : Vec Ideal S1x1x2048 .f32) (v48 : Vec Ideal S1x2048 .f32) (j : S512x2048.Idx) :
    k0_pay3 (F := Ideal) (k0_pay5 v38) (k0_pay6 v40 v41) v45 v46 v48 j
      = closing (v45 j) (v46 (ix3 0 0 (j 1))) (v48 (ix2 0 (j 1)))
          (fun d => v38 (ix2 (j 0) d) + ∑ k : Fin 1408, v40 (ix2 (j 0) k) * v41 (ix2 k d)) (j 1) := by
  pointwise [k0_pay3, k0_pay5, k0_pay6, closing, normed]

/-- The upper half's stored value, read at a place. -/
theorem upper_pay (v11 : Vec Ideal S512x2048 .f32) (v13 : Vec Ideal S512x1408 .bf16) (v14 : Vec Ideal S1408x2048 .bf16)
    (v18 : Vec Ideal S512x2048 .f32) (v19 : Vec Ideal S1x1x2048 .f32) (v21 : Vec Ideal S1x2048 .f32) (j : S512x2048.Idx) :
    k0_pay4 (F := Ideal) v11 v13 v14 v18 v19 v21 j
      = closing (v18 j) (v19 (ix3 0 0 (j 1))) (v21 (ix2 0 (j 1)))
          (fun d => v11 (ix2 (j 0) d) + ∑ k : Fin 1408, v13 (ix2 (j 0) k) * v14 (ix2 k d)) (j 1) := by
  pointwise [k0_pay4, closing, normed]

/-- The reference, read at a place. -/
theorem reference_at (a : FVec Ideal S8192x5632 .bf16) (b : FVec Ideal S1x5632x2048 .f32) (x1 : FVec Ideal S8192x2048 .f32)
    (g2 : FVec Ideal S2x1x2048 .f32) (gp : FVec Ideal S1x2048 .f32) (i : S8192x2048.Idx) :
    Cert.DownRefIdeal.Read.val_main_v22 (F := Ideal) a b x1 g2 gp i
      = closing (x1 i) (g2 (ix3 ⟨(i 0).val / 4096, by have : (i 0).val < 8192 := (i 0).isLt; omega⟩ 0 (i 1))) (gp (ix2 0 (i 1)))
          (fun d => ∑ l : Fin 5632, a (ix2 (i 0) l) * b (ix3 0 l d)) (i 1) := by
  rw [← Cert.DownRefIdeal.Read.val_main_v22_eq]
  pointwise [closing, normed]

/-- The reference's array over this program's arguments. -/
abbrev REF (c : Dev nD) : FVec Ideal S8192x2048 .f32 :=
  Cert.DownRefIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The array place behind a place of the block at point `t`. -/
theorem place (t : Fin cfg0.N) (y : Fin 1024) (d : Fin 2048) :
    ((cfg0.win 5).blk t).view.emb (ix2 y d) = ix2 (row t y) d := by
  unfold row
  blk_ext [idx t]

/-- The closing formula over what the point has read is the reference at the place behind it. -/
theorem closing_eq (c : Dev nD) (t : Fin cfg0.N) (h : t.val % 4 = 3) (y : Fin 1024) (d : Fin 2048) (A : Fin 2048 → EReal) (x g w : EReal)
    (hA : ∀ e, A e = outsAt0 m c (t.val - 1) (Nat.lt_of_le_of_lt (Nat.sub_le _ _) t.isLt) (ix2 y e)
        + ∑ k : Fin 1408, (show FVec Ideal S1024x1408 .bf16 from iblk m c 0 t) (ix2 y k) * (show FVec Ideal S1408x2048 .bf16 from iblk m c 1 t) (ix2 k e))
    (hx : x = (show FVec Ideal S1024x2048 .f32 from iblk m c 2 t) (ix2 y d))
    (hg : g = (show FVec Ideal S1x1x2048 .f32 from iblk m c 3 t) (ix3 0 0 d))
    (hw : w = (show FVec Ideal S1x2048 .f32 from iblk m c 4 t) (ix2 0 d)) :
    closing x g w A d = REF m c (((cfg0.win 5).blk t).view.emb (ix2 y d)) := by
  have e : A = fun e => ∑ l : Fin 5632, hid m c (ix2 (row t y) l) * wgt m c (ix3 0 l e) :=
    funext fun e => (hA e).trans (with_last m c t h y e)
  have ex : x = m ((c : Thread nD τ).loc main_arg2) (ix2 (row t y) d) := hx.trans (by unfold row; blk_ext [iblk, V, idx t])
  have eg : g = m ((c : Thread nD τ).loc main_arg3) (ix3 ⟨(row t y).val / 4096, by have := (row t y).isLt; omega⟩ 0 d) :=
    hg.trans (by unfold row; blk_ext [iblk, V, idx t])
  have ew : w = m ((c : Thread nD τ).loc main_arg4) (ix2 0 d) := hw.trans (by blk_ext [iblk, V, idx t])
  rw [place, REF, reference_at, e, ex, eg, ew]
  rfl

/-- What a run's fourth point leaves is the reference, place by place. -/
theorem last (c : Dev nD) (t : Fin cfg0.N) (h : t.val % 4 = 3) (y : S1024x2048.Idx) :
    outsAt0 m c t.val t.isLt y = REF m c (((cfg0.win 5).blk t).view.emb y) := by
  rw [outsAt0_C m c t (by omega) (by omega) h]
  frame_out
  canon_tiles x h
  · have hy : y = ix2 ⟨512 + (x 0).val, by omega⟩ (x 1) := Shape.idx_ext₂ h0 h1
    rw [hy, lower_pay]
    refine closing_eq m c t h ⟨512 + (x 0).val, by omega⟩ (x 1) _ _ _ _ (fun e => ?_) ?_ rfl rfl
    · exact congrArg₂ (· + ·) (View.ld_unit_apply_of _ _ _ _ _ _ (fun a => match a with | ⟨0, _⟩ => rfl | ⟨1, _⟩ => (Nat.zero_add _).symm))
        (Finset.sum_congr rfl fun k _ => congrArg (· * _) (View.ld_unit_apply_of _ _ _ _ _ _ (fun a => match a with | ⟨0, _⟩ => rfl | ⟨1, _⟩ => (Nat.zero_add _).symm)))
    · exact View.ld_unit_apply_of _ _ _ _ _ _ (fun a => match a with | ⟨0, _⟩ => rfl | ⟨1, _⟩ => (Nat.zero_add _).symm)
  · have hy : y = ix2 ⟨(x 0).val, by omega⟩ (x 1) := Shape.idx_ext₂ h0 h1
    rw [hy, upper_pay]
    refine closing_eq m c t h ⟨(x 0).val, by omega⟩ (x 1) _ _ _ _ (fun e => ?_) ?_ rfl rfl
    · exact congrArg₂ (· + ·) (View.ld_unit_apply_of _ _ _ _ _ _ (fun a => match a with | ⟨0, _⟩ => (Nat.zero_add _).symm | ⟨1, _⟩ => (Nat.zero_add _).symm))
        (Finset.sum_congr rfl fun k _ => congrArg (· * _) (View.ld_unit_apply_of _ _ _ _ _ _ (fun a => match a with | ⟨0, _⟩ => (Nat.zero_add _).symm | ⟨1, _⟩ => (Nat.zero_add _).symm)))
    · exact View.ld_unit_apply_of _ _ _ _ _ _ (fun a => match a with | ⟨0, _⟩ => (Nat.zero_add _).symm | ⟨1, _⟩ => (Nat.zero_add _).symm)

/-- The array after the run is the reference. -/
theorem final (c : Dev nD) : (dats m 0 c).arrAt 5 cfg0.N = REF m c := by
  refine (dats m 0 c).arrAt_eq_of_covers 5 _ (by decide +kernel) fun t hf y => ?_
  blk_simp
  rw [after0_5]
  exact last m c t ((flush0_5 t).mp hf) y

/-- The printed call terminates and keeps its arguments. -/
theorem frame_printed : Cert.quiescent_Down := fun m g _ => Cert.Down.Gen.frame m g

/-- So does the call over the extended reals. -/
theorem frame_kernel : Cert.quiescent_DownIdeal := fun m g _ => Cert.DownIdeal.Gen.frame m g

/-- And so does the reference. -/
theorem frame_reference : Cert.quiescent_DownRefIdeal := fun m g _ =>
  (θ_run Cert.DownRefIdeal.defs _ _).mono
    (fun r h => ⟨fun c => (h c).2, Idealize.ShloMosaic.sem_eq_zero_of_no_sems (by decide) r.2⟩)
    (Cert.DownRefIdeal.Value.run (F := Ideal) m g)

/-- From the same arguments the call and the reference leave the same array. -/
theorem same_values : Cert.algebraic_DownIdeal_DownRefIdeal := by
  intro m g m' g' _ hagree
  refine ⟨fun c => REF m c, ?_, ?_⟩
  · exact (θ_run Cert.DownIdeal.defs _ _).mono (fun r h c => ⟨(h c).1.trans (final m c), (h c).2⟩)
      (Cert.DownIdeal.Value.run_blocks (F := Ideal) m g)
  · refine (θ_run Cert.DownRefIdeal.defs _ _).mono (fun r h c => ⟨(h c).1.trans ?_, (h c).2⟩)
      (Cert.DownRefIdeal.Value.run (F := Ideal) m' g')
    obtain ⟨h0, h1, h2, h3, h4⟩ := hagree c
    rw [h0, h1, h2, h3, h4, Cert.DownRefIdeal.Read.val_main_v22_eq]

end Cert.DownProj
end
-- ==== Proof.OutProj.lean ====
/- The output projection with its residual, and the modulated norm that feeds the feed-forward.

   Each grid point takes a block of 512 rows in two halves of 256.  The product over the 2048 joined columns is the sum of
   the products with the two halves of the projection; the row is normed, gated and added to the residual, which is the
   first result; the second is that row normed again and modulated. -/
module

public import proofs.«01_k».proof.Defs
public import proofs.«01_k».proof.Proof.Gen.OutProj.Frame
public import proofs.«01_k».proof.Proof.Gen.OutProjIdeal.Value
public import proofs.«01_k».proof.Proof.Gen.OutProjRefIdeal.Read
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutRows

open Cert.OutProjIdeal Cert.OutProjIdeal.Gen Cert.RowNorm

variable (m : (ℓ : Loc nD τ sig) → Buf (Elt Ideal) ℓ)

/-- Where each window stands at each grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val / 8, 0, 0] ∧ win0_6.index t = ![0, 0] ∧ win0_7.index t = ![0, 0]
    ∧ win0_8.index t = ![t.val / 8, 0, 0] ∧ win0_9.index t = ![t.val / 8, 0, 0]
    ∧ win0_10.index t = ![t.val, 0] ∧ win0_11.index t = ![t.val, 0] :=
  (by decide +kernel : ∀ t : Fin grid0.N, _)

/-- One place of the product of a row pair with the two halves of the projection. -/
def pair (a b : Fin 1024 → EReal) (u v : S1024x2048.Idx → EReal) (d : Fin 2048) : EReal :=
  ∑ k : Fin 1024, a k * u (ix2 k d) + ∑ k : Fin 1024, b k * v (ix2 k d)

/-- The upper half's first stored value, read at a place. -/
theorem upper_first (v0 : Vec Ideal S256x1024 .bf16) (v1 : Vec Ideal S1024x2048 .bf16) (v4 : Vec Ideal S256x1024 .bf16) (v5 : Vec Ideal S1024x2048 .bf16)
    (v9 : Vec Ideal S256x2048 .f32) (v11 : Vec Ideal S1x1x2048 .f32) (v13 : Vec Ideal S1x2048 .f32) (j : S256x2048.Idx) :
    k0_pay2 (F := Ideal) v0 v1 v4 v5 v9 v11 v13 j
      = closing (v9 j) (v11 (ix3 0 0 (j 1))) (v13 (ix2 0 (j 1))) (pair (fun k => v0 (ix2 (j 0) k)) (fun k => v4 (ix2 (j 0) k)) v1 v5) (j 1) := by
  pointwise [k0_pay2, closing, normed, pair]

/-- The lower half's first stored value, read at a place. -/
theorem lower_first (v0 : Vec Ideal S256x1024 .bf16) (v1 : Vec Ideal S1024x2048 .bf16) (v4 : Vec Ideal S256x1024 .bf16) (v5 : Vec Ideal S1024x2048 .bf16)
    (v9 : Vec Ideal S256x2048 .f32) (v11 : Vec Ideal S1x1x2048 .f32) (v13 : Vec Ideal S1x2048 .f32) (j : S256x2048.Idx) :
    k0_pay7 (F := Ideal) (k0_pay5 v0 v1 v4 v5) (k0_pay6 v9) v11 v13 j
      = closing (v9 j) (v11 (ix3 0 0 (j 1))) (v13 (ix2 0 (j 1))) (pair (fun k => v0 (ix2 (j 0) k)) (fun k => v4 (ix2 (j 0) k)) v1 v5) (j 1) := by
  pointwise [k0_pay7, k0_pay5, k0_pay6, closing, normed, pair]

/-- The upper half's second stored value is its first, normed and modulated. -/
theorem upper_second (v0 : Vec Ideal S256x1024 .bf16) (v1 : Vec Ideal S1024x2048 .bf16) (v4 : Vec Ideal S256x1024 .bf16) (v5 : Vec Ideal S1024x2048 .bf16)
    (v9 : Vec Ideal S256x2048 .f32) (v11 : Vec Ideal S1x1x2048 .f32) (v13 v30 : Vec Ideal S1x2048 .f32) (v43 v49 : Vec Ideal S1x1x2048 .f32) (j : S256x2048.Idx) :
    k0_pay4 (F := Ideal) (k0_pay2 v0 v1 v4 v5 v9 v11 v13) v30 (k0_pay3 v0 v1 v4 v5 v9 v11 v13) v43 v49 j
      = modulated (fun e => k0_pay2 (F := Ideal) v0 v1 v4 v5 v9 v11 v13 (ix2 (j 0) e)) (v30 (ix2 0 (j 1))) (v43 (ix3 0 0 (j 1))) (v49 (ix3 0 0 (j 1))) (j 1) := by
  unfold k0_pay3
  generalize k0_pay2 (F := Ideal) v0 v1 v4 v5 v9 v11 v13 = p
  pointwise [k0_pay4, modulated, normed]

/-- The lower half's second stored value is its first, normed and modulated. -/
theorem lower_second (p q : FVec Ideal S256x2048 .f32) (v66 : Vec Ideal S1x1x2048 .f32) (v68 v85 : Vec Ideal S1x2048 .f32)
    (v98 v : Vec Ideal S1x1x2048 .f32) (j : S256x2048.Idx) :
    k0_pay1 (F := Ideal) (k0_pay8 (F := Ideal) p q v66 v68 v85 v98) (k0_pay9 v) j
      = modulated (fun e => k0_pay7 (F := Ideal) p q v66 v68 (ix2 (j 0) e)) (v85 (ix2 0 (j 1))) (v98 (ix3 0 0 (j 1))) (v (ix3 0 0 (j 1))) (j 1) := by
  pointwise [k0_pay1, k0_pay8, k0_pay9, modulated, normed]

/-- The batch of an array row. -/
def batch (r : Fin 8192) : Fin 2 := ⟨r.val / 4096, by have := r.isLt; omega⟩

/-- The place of an array row within its batch. -/
def within (r : Fin 8192) : Fin 4096 := ⟨r.val % 4096, Nat.mod_lt _ (by decide)⟩

/-- One place of the product over the joined columns, in the two parts that the join has. -/
def joined (a b : FVec Ideal S8192x1024 .bf16) (w : FVec Ideal S1x2048x2048 .f32) (r : Fin 8192) (d : Fin 2048) : EReal :=
  ∑ k : Fin 1024, a (ix2 r k) * w (ix3 0 ⟨k.val, by have := k.isLt; omega⟩ d)
    + ∑ k : Fin 1024, b (ix2 r k) * w (ix3 0 ⟨1024 + k.val, by have := k.isLt; omega⟩ d)

/-- The reference's first result, read at a place. -/
theorem reference_first (a b : FVec Ideal S8192x1024 .bf16) (w : FVec Ideal S1x2048x2048 .f32) (x : FVec Ideal S2x4096x2048 .f32)
    (g1 : FVec Ideal S2x1x2048 .f32) (gp : FVec Ideal S1x2048 .f32) (i : S8192x2048.Idx) :
    Cert.OutProjRefIdeal.Read.val_main_v42 (F := Ideal) a b w x g1 gp i
      = closing (x (ix3 (batch (i 0)) (within (i 0)) (i 1))) (g1 (ix3 (batch (i 0)) 0 (i 1))) (gp (ix2 0 (i 1))) (joined a b w (i 0)) (i 1) := by
  rw [← Cert.OutProjRefIdeal.Read.val_main_v42_eq]
  pointwise [closing, normed, joined, batch, within]

/-- The reference's second result is its first, normed and modulated. -/
theorem reference_second (a b : FVec Ideal S8192x1024 .bf16) (w : FVec Ideal S1x2048x2048 .f32) (x : FVec Ideal S2x4096x2048 .f32)
    (g1 : FVec Ideal S2x1x2048 .f32) (gp gq : FVec Ideal S1x2048 .f32) (sc sh : FVec Ideal S2x1x2048 .f32) (i : S8192x2048.Idx) :
    Cert.OutProjRefIdeal.Read.val_main_v44 (F := Ideal) a b w x g1 gp gq sc sh i
      = modulated (fun e => Cert.OutProjRefIdeal.Read.val_main_v42 (F := Ideal) a b w x g1 gp (ix2 (i 0) e))
          (gq (ix2 0 (i 1))) (sc (ix3 (batch (i 0)) 0 (i 1))) (sh (ix3 (batch (i 0)) 0 (i 1))) (i 1) := by
  open Cert.OutProjRefIdeal.Read in
  unfold val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_cst_2 val_main_cst_3 val_main_cst_4 val_main_cst_5
  generalize Cert.OutProjRefIdeal.Read.val_main_v21 (F := Ideal) a b w x g1 gp = p
  pointwise [modulated, normed, batch]

/-- The reference's arrays over this program's arguments. -/
abbrev REF1 (c : Dev nD) : FVec Ideal S8192x2048 .f32 :=
  Cert.OutProjRefIdeal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))
abbrev REF2 (c : Dev nD) : FVec Ideal S8192x2048 .bf16 :=
  Cert.OutProjRefIdeal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The array row behind row `y` of the block at point `t`. -/
def row (t : Fin cfg0.N) (y : Fin 512) : Fin 8192 :=
  ⟨t.val * 512 + y.val, by have := y.isLt; have := t.isLt; have : cfg0.N = 16 := N_0; omega⟩

/-- The product over the columns a point has read is the one over the joined columns. -/
theorem pair_eq (c : Dev nD) (t : Fin cfg0.N) (y : Fin 512) (d : Fin 2048) :
    pair (fun k => (show FVec Ideal S512x1024 .bf16 from iblk m c 0 t) (ix2 y k)) (fun k => (show FVec Ideal S512x1024 .bf16 from iblk m c 1 t) (ix2 y k))
        (show FVec Ideal S1024x2048 .bf16 from iblk m c 2 t) (show FVec Ideal S1024x2048 .bf16 from iblk m c 3 t) d
      = joined (m ((c : Thread nD τ).loc main_arg0)) (m ((c : Thread nD τ).loc main_arg1)) (m ((c : Thread nD τ).loc main_arg2)) (row t y) d := by
  unfold pair joined row
  blk_point [iblk, V, idx t]
  all_goals exact congrArg (· * _) (by blk_ext [V, idx t])

/-- The closing formula over what a point has read is the reference's first result at the place behind it. -/
theorem first_eq (c : Dev nD) (t : Fin cfg0.N) (y : Fin 512) (d : Fin 2048) (A : Fin 2048 → EReal) (x g w : EReal)
    (hA : ∀ e, A e = pair (fun k => (show FVec Ideal S512x1024 .bf16 from iblk m c 0 t) (ix2 y k)) (fun k => (show FVec Ideal S512x1024 .bf16 from iblk m c 1 t) (ix2 y k))
        (show FVec Ideal S1024x2048 .bf16 from iblk m c 2 t) (show FVec Ideal S1024x2048 .bf16 from iblk m c 3 t) e)
    (hx : x = (show FVec Ideal S512x2048 .f32 from iblk m c 4 t) (ix2 y d))
    (hg : g = (show FVec Ideal S1x1x2048 .f32 from iblk m c 5 t) (ix3 0 0 d))
    (hw : w = (show FVec Ideal S1x2048 .f32 from iblk m c 6 t) (ix2 0 d)) :
    closing x g w A d = REF1 m c (ix2 (row t y) d) := by
  have e : A = joined (m ((c : Thread nD τ).loc main_arg0)) (m ((c : Thread nD τ).loc main_arg1)) (m ((c : Thread nD τ).loc main_arg2)) (row t y) :=
    funext fun e => (hA e).trans (pair_eq m c t y e)
  have ex : x = m ((c : Thread nD τ).loc main_arg3) (ix3 (batch (row t y)) (within (row t y)) d) :=
    hx.trans (by unfold batch within row; blk_point [iblk, V, idx t])
  have eg : g = m ((c : Thread nD τ).loc main_arg4) (ix3 (batch (row t y)) 0 d) :=
    hg.trans (by unfold batch row; blk_ext [iblk, V, idx t])
  have ew : w = m ((c : Thread nD τ).loc main_arg5) (ix2 0 d) := hw.trans (by blk_ext [iblk, V, idx t])
  rw [REF1, reference_first, e, ex, eg, ew]
  rfl

/-- The modulated formula over a row of first results is the reference's second result at the place behind it. -/
theorem second_eq (c : Dev nD) (t : Fin cfg0.N) (y : Fin 512) (d : Fin 2048) (A : Fin 2048 → EReal) (w s b : EReal)
    (hA : ∀ e, A e = REF1 m c (ix2 (row t y) e))
    (hw : w = (show FVec Ideal S1x2048 .f32 from iblk m c 7 t) (ix2 0 d))
    (hs : s = (show FVec Ideal S1x1x2048 .f32 from iblk m c 8 t) (ix3 0 0 d))
    (hb : b = (show FVec Ideal S1x1x2048 .f32 from iblk m c 9 t) (ix3 0 0 d)) :
    modulated A w s b d = REF2 m c (ix2 (row t y) d) := by
  have e : A = fun e => REF1 m c (ix2 (row t y) e) := funext hA
  have ew : w = m ((c : Thread nD τ).loc main_arg6) (ix2 0 d) := hw.trans (by blk_ext [iblk, V, idx t])
  have es : s = m ((c : Thread nD τ).loc main_arg7) (ix3 (batch (row t y)) 0 d) :=
    hs.trans (by unfold batch row; blk_ext [iblk, V, idx t])
  have eb : b = m ((c : Thread nD τ).loc main_arg8) (ix3 (batch (row t y)) 0 d) :=
    hb.trans (by unfold batch row; blk_ext [iblk, V, idx t])
  rw [REF2, reference_second, e, ew, es, eb]
  rfl

/-- The array place behind a place of a block of the first result. -/
theorem place_first (t : Fin cfg0.N) (y : S512x2048.Idx) :
    ((cfg0.win 10).blk t).view.emb y = ix2 (row t (y 0)) (y 1) := by
  unfold row
  blk_ext [idx t]

/-- The array place behind a place of a block of the second result. -/
theorem place_second (t : Fin cfg0.N) (y : S512x2048.Idx) :
    ((cfg0.win 11).blk t).view.emb y = ix2 (row t (y 0)) (y 1) := by
  unfold row
  blk_ext [idx t]

/-- What the first stored value of the lower half reads is the reference's first result. -/
theorem lower_eq (c : Dev nD) (t : Fin cfg0.N) (x : S256x2048.Idx) :
    k0_pay7 (F := Ideal) (k0_pay5 (View.ld (iblk m c 0 t) r0_5) (iblk m c 2 t) (View.ld (iblk m c 1 t) r0_5) (iblk m c 3 t))
        (k0_pay6 (View.ld (iblk m c 4 t) r0_6)) (iblk m c 5 t) (iblk m c 6 t) x
      = REF1 m c (ix2 (row t ⟨256 + (x 0).val, by have : (x 0).val < 256 := (x 0).isLt; omega⟩) (x 1)) := by
  rw [lower_first]
  refine first_eq m c t ⟨256 + (x 0).val, by have : (x 0).val < 256 := (x 0).isLt; omega⟩ (x 1) _ _ _ _ (fun e => ?_) ?_ rfl rfl
  · exact congrArg₂ (· + ·)
      (Finset.sum_congr rfl fun k _ => congrArg (· * _) (View.ld_unit_apply_of _ _ _ _ _ _ (fun a => match a with | ⟨0, _⟩ => rfl | ⟨1, _⟩ => (Nat.zero_add _).symm)))
      (Finset.sum_congr rfl fun k _ => congrArg (· * _) (View.ld_unit_apply_of _ _ _ _ _ _ (fun a => match a with | ⟨0, _⟩ => rfl | ⟨1, _⟩ => (Nat.zero_add _).symm)))
  · exact View.ld_unit_apply_of _ _ _ _ _ _ (fun a => match a with | ⟨0, _⟩ => rfl | ⟨1, _⟩ => (Nat.zero_add _).symm)

/-- What the first stored value of the upper half reads is the reference's first result. -/
theorem upper_eq (c : Dev nD) (t : Fin cfg0.N) (x : S256x2048.Idx) :
    k0_pay2 (F := Ideal) (View.ld (iblk m c 0 t) r0_0) (iblk m c 2 t) (View.ld (iblk m c 1 t) r0_0) (iblk m c 3 t)
        (View.ld (iblk m c 4 t) r0_2) (iblk m c 5 t) (iblk m c 6 t) x
      = REF1 m c (ix2 (row t ⟨(x 0).val, by have : (x 0).val < 256 := (x 0).isLt; omega⟩) (x 1)) := by
  rw [upper_first]
  refine first_eq m c t ⟨(x 0).val, by have : (x 0).val < 256 := (x 0).isLt; omega⟩ (x 1) _ _ _ _ (fun e => ?_) ?_ rfl rfl
  · exact congrArg₂ (· + ·)
      (Finset.sum_congr rfl fun k _ => congrArg (· * _) (View.ld_unit_apply_of _ _ _ _ _ _ (fun a => match a with | ⟨0, _⟩ => (Nat.zero_add _).symm | ⟨1, _⟩ => (Nat.zero_add _).symm)))
      (Finset.sum_congr rfl fun k _ => congrArg (· * _) (View.ld_unit_apply_of _ _ _ _ _ _ (fun a => match a with | ⟨0, _⟩ => (Nat.zero_add _).symm | ⟨1, _⟩ => (Nat.zero_add _).symm)))
  · exact View.ld_unit_apply_of _ _ _ _ _ _ (fun a => match a with | ⟨0, _⟩ => (Nat.zero_add _).symm | ⟨1, _⟩ => (Nat.zero_add _).symm)

/-- The first array after the run is the reference's. -/
theorem final_first (c : Dev nD) : (dats m 0 c).arrAt 10 cfg0.N = REF1 m c := by
  refine (dats m 0 c).arrAt_eq_of_covers 10 _ (by decide +kernel) fun t hf y => ?_
  blk_simp
  rw [after0_10, place_first]
  unfold_out out0_10
  frame_out
  canon_tiles x h
  · refine (lower_eq m c t x).trans (congrArg (REF1 m c) (Shape.idx_ext₂ ?_ h1.symm))
    exact congrArg (t.val * 512 + ·) h0.symm
  · refine (upper_eq m c t x).trans (congrArg (REF1 m c) (Shape.idx_ext₂ ?_ h1.symm))
    exact congrArg (t.val * 512 + ·) h0.symm

/-- The second array after the run is the reference's. -/
theorem final_second (c : Dev nD) : (dats m 0 c).arrAt 11 cfg0.N = REF2 m c := by
  refine (dats m 0 c).arrAt_eq_of_covers 11 _ (by decide +kernel) fun t hf y => ?_
  blk_simp
  rw [after0_11, place_second]
  unfold_out out0_11
  frame_out
  canon_tiles x h
  · rw [lower_second]
    refine (second_eq m c t ⟨256 + (x 0).val, by omega⟩ (x 1) _ _ _ _ (fun e => lower_eq m c t (ix2 (x 0) e)) rfl rfl rfl).trans
      (congrArg (REF2 m c) (Shape.idx_ext₂ ?_ h1.symm))
    exact congrArg (t.val * 512 + ·) h0.symm
  · rw [upper_second]
    refine (second_eq m c t ⟨(x 0).val, by omega⟩ (x 1) _ _ _ _ (fun e => upper_eq m c t (ix2 (x 0) e)) rfl rfl rfl).trans
      (congrArg (REF2 m c) (Shape.idx_ext₂ ?_ h1.symm))
    exact congrArg (t.val * 512 + ·) h0.symm

/-- The printed call terminates and keeps its arguments. -/
theorem frame_printed : Cert.quiescent_OutProj := fun m g _ => Cert.OutProj.Gen.frame m g

/-- So does the call over the extended reals. -/
theorem frame_kernel : Cert.quiescent_OutProjIdeal := fun m g _ => Cert.OutProjIdeal.Gen.frame m g

/-- And so does the reference. -/
theorem frame_reference : Cert.quiescent_OutProjRefIdeal := fun m g _ =>
  (θ_run Cert.OutProjRefIdeal.defs _ _).mono
    (fun r h => ⟨fun c => (h c).2.2, Idealize.ShloMosaic.sem_eq_zero_of_no_sems (by decide) r.2⟩)
    (Cert.OutProjRefIdeal.Value.run (F := Ideal) m g)

/-- From the same arguments the call and the reference leave the same two arrays. -/
theorem same_values : Cert.algebraic_OutProjIdeal_OutProjRefIdeal := by
  intro m g m' g' _ hagree
  refine ⟨fun c => REF1 m c, fun c => REF2 m c, ?_, ?_⟩
  · exact (θ_run Cert.OutProjIdeal.defs _ _).mono (fun r h c => ⟨(h c).1.trans (final_first m c), (h c).2.1.trans (final_second m c), (h c).2.2⟩)
      (Cert.OutProjIdeal.Value.run_blocks (F := Ideal) m g)
  · refine (θ_run Cert.OutProjRefIdeal.defs _ _).mono (fun r h c => ⟨(h c).1.trans ?_, (h c).2.1.trans ?_, (h c).2.2⟩)
      (Cert.OutProjRefIdeal.Value.run (F := Ideal) m' g')
    · obtain ⟨h0, h1, h2, h3, h4, h5, h6, h7, h8⟩ := hagree c
      rw [h0, h1, h2, h3, h4, h5]
      exact Cert.OutProjRefIdeal.Read.val_main_v42_eq _ _ _ _ _ _
    · obtain ⟨h0, h1, h2, h3, h4, h5, h6, h7, h8⟩ := hagree c
      rw [Cert.OutProjRefIdeal.Read.val_main_v44_eq, h0, h1, h2, h3, h4, h5, h6, h7, h8]

end Cert.OutRows
end
-- ==== Proof.FfnConv.lean ====
/- The three by three depthwise convolution over images laid out in array rows, as the feed-forward's body forms it, and
   as the reference does. -/
module

public import proofs.«01_k».proof.Defs
public import proofs.«01_k».proof.Proof.Gen.FfnUpRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

/-! ## The convolution over an image laid out in rows -/

/-- The gate one image row above (`dy` 0), at (1) or below (2) an array row of its image; zero outside the image. -/
def vert (G : Fin 8192 → EReal) (r : Nat) (dy : Nat) : EReal :=
  if h : 1 ≤ dy + r / 64 % 64 ∧ dy + r / 64 % 64 ≤ 64 ∧ r < 8192 ∧ dy ≤ 2 then G ⟨r + 64 * dy - 64, by omega⟩ else 0

/-- The same one image column to the left (`dx` 0), at (1) or to the right (2); zero outside the image. -/
def tap (G : Fin 8192 → EReal) (r : Nat) (dy dx : Nat) : EReal :=
  if 1 ≤ dx + r % 64 ∧ dx + r % 64 ≤ 64 then vert G (r + dx - 1) dy else 0

/-- The nine taps' sum, and the silu of it with its bias, times the up product. -/
def gated (G : Fin 8192 → EReal) (r : Nat) (w : Fin 9 → EReal) (b up : EReal) : EReal :=
  let s := tap G r 0 0 * w 0 + tap G r 0 1 * w 1 + tap G r 0 2 * w 2 + tap G r 1 0 * w 3 + tap G r 1 1 * w 4 + tap G r 1 2 * w 5
    + tap G r 2 0 * w 6 + tap G r 2 1 * w 7 + tap G r 2 2 * w 8 + b
  s * Ideal.logistic s * up

/-- A padded read is a tap. -/
theorem padded (G : Fin 8192 → EReal) (r : Fin 8192) (dy dx : Nat) (hy : dy ≤ 2) (hx : dx ≤ 2) (P : Prop) [Decidable P] (g : P → EReal) (z : EReal) (hz : z = 0)
    (hP : P ↔ (1 ≤ dy + r.val / 64 % 64 ∧ dy + r.val / 64 % 64 ≤ 64) ∧ 1 ≤ dx + r.val % 64 ∧ dx + r.val % 64 ≤ 64)
    (hg : ∀ (h : P) (n : Fin 8192), n.val = r.val + dx - 1 + 64 * dy - 64 → g h = G n) :
    (if h : P then g h else z) = tap G r.val dy dx := by
  have hr := r.isLt
  unfold tap vert
  by_cases h : P
  · have h' := hP.1 h
    rw [dif_pos h, if_pos h'.2, dif_pos ⟨by omega, by omega, by omega, hy⟩]
    exact hg h _ rfl
  · rw [dif_neg h, hz]
    by_cases h1 : 1 ≤ dx + r.val % 64 ∧ dx + r.val % 64 ≤ 64
    · rw [if_pos h1, dif_neg (fun k => h (hP.2 ⟨⟨by omega, by omega⟩, h1⟩))]
    · rw [if_neg h1]

/-- The gated convolution from its nine taps. -/
theorem gated_of (G : Fin 8192 → EReal) (r : Nat) (w : Fin 9 → EReal) (b up : EReal) (a0 a1 a2 a3 a4 a5 a6 a7 a8 u : EReal)
    (h0 : a0 = tap G r 0 0) (h1 : a1 = tap G r 0 1) (h2 : a2 = tap G r 0 2) (h3 : a3 = tap G r 1 0) (h4 : a4 = tap G r 1 1)
    (h5 : a5 = tap G r 1 2) (h6 : a6 = tap G r 2 0) (h7 : a7 = tap G r 2 1) (h8 : a8 = tap G r 2 2) (hu : u = up) :
    (a0 * w 0 + a1 * w 1 + a2 * w 2 + a3 * w 3 + a4 * w 4 + a5 * w 5 + a6 * w 6 + a7 * w 7 + a8 * w 8 + b)
        * Ideal.div 1 (1 + Ideal.exp (-(a0 * w 0 + a1 * w 1 + a2 * w 2 + a3 * w 3 + a4 * w 4 + a5 * w 5 + a6 * w 6 + a7 * w 7 + a8 * w 8 + b))) * u
      = gated G r w b up := by
  subst h0 h1 h2 h3 h4 h5 h6 h7 h8 hu
  rfl

/-- The rows the scratch holds: the image row above the block, the block, the image row below it, held at the image's edge. -/
def held (t : Nat) (e : Nat) : Nat :=
  if e < 64 then (t / 44 * 64 + (t / 11 % 4 * 16 - 1)) * 64 + e
  else if e < 1088 then t / 11 * 1024 + (e - 64)
  else (t / 44 * 64 + min ((t / 11 % 4 + 1) * 16) 63) * 64 + (e - 1088)

theorem held_lt (t e : Nat) (ht : t < 88) (he : e < 1152) : held t e < 8192 := by
  unfold held
  split_ifs <;> omega

/-- The three image rows as the body takes them from the product `K` of the scratch's rows, in row block `i` of an image. -/
def above (K : Fin 1152 → EReal) (i : Nat) (y : Fin 1024) : EReal :=
  if y.val < 64 then if 0 < i then K ⟨y.val, by omega⟩ else 0 else K ⟨y.val, by omega⟩
def centre (K : Fin 1152 → EReal) (y : Fin 1024) : EReal := K ⟨64 + y.val, by omega⟩
def below (K : Fin 1152 → EReal) (i : Nat) (y : Fin 1024) : EReal :=
  if y.val < 960 then K ⟨128 + y.val, by omega⟩ else if i < 3 then K ⟨128 + y.val, by omega⟩ else 0

section rows
variable (G : Fin 8192 → EReal) (K : Fin 1152 → EReal) (t : Nat) (ht : t < 88)
  (hK : ∀ e : Fin 1152, K e = G ⟨held t e.val, held_lt t e.val ht e.isLt⟩)
include hK

theorem above_eq (y : Fin 1024) : above K (t / 11 % 4) y = vert G (t / 11 * 1024 + y.val) 0 := by
  have hy := y.isLt
  unfold above vert
  simp only [hK]
  split_ifs
  all_goals first
    | rfl
    | (exfalso; omega)
    | exact congrArg G (Fin.ext (by unfold held; dsimp only; split_ifs <;> omega))

theorem centre_eq (y : Fin 1024) : centre K y = vert G (t / 11 * 1024 + y.val) 1 := by
  have hy := y.isLt
  unfold centre vert
  simp only [hK]
  split_ifs
  all_goals first
    | rfl
    | (exfalso; omega)
    | exact congrArg G (Fin.ext (by unfold held; dsimp only; split_ifs <;> omega))

theorem below_eq (y : Fin 1024) : below K (t / 11 % 4) y = vert G (t / 11 * 1024 + y.val) 2 := by
  have hy := y.isLt
  unfold below vert
  simp only [hK]
  split_ifs
  all_goals first
    | rfl
    | (exfalso; omega)
    | exact congrArg G (Fin.ext (by unfold held; dsimp only; split_ifs <;> omega))

end rows

/-- The sum of one image column's three taps, as the body forms it for a place of the block. -/
def column (K : Fin 1152 → EReal) (i : Nat) (y : Fin 1024) (a b c : EReal) : EReal :=
  above K i y * a + centre K y * b + below K i y * c

/-- The body's result at a place of the block. -/
def bodyAt (K : Fin 1152 → EReal) (i : Nat) (y : Fin 1024) (w : Fin 9 → EReal) (b up : EReal) : EReal :=
  let s := column K i y (w 1) (w 4) (w 7)
    + (if 0 < y.val % 64 then column K i ⟨(y.val + 1024 - 1) % 1024, Nat.mod_lt _ (by decide)⟩ (w 0) (w 3) (w 6) else 0)
    + (if y.val % 64 < 63 then column K i ⟨(y.val + 1024 - 1023) % 1024, Nat.mod_lt _ (by decide)⟩ (w 2) (w 5) (w 8) else 0) + b
  s * Ideal.logistic s * up

/-- The body's result is the gated convolution at the array row behind the place. -/
theorem bodyAt_eq (G : Fin 8192 → EReal) (K : Fin 1152 → EReal) (t : Nat) (ht : t < 88)
    (hK : ∀ e : Fin 1152, K e = G ⟨held t e.val, held_lt t e.val ht e.isLt⟩) (y : Fin 1024) (w : Fin 9 → EReal) (b up : EReal) :
    bodyAt K (t / 11 % 4) y w b up = gated G (t / 11 * 1024 + y.val) w b up := by
  have hy := y.isLt
  have hmid : ∀ dy, tap G (t / 11 * 1024 + y.val) dy 1 = vert G (t / 11 * 1024 + y.val) dy := fun dy => by
    unfold tap; rw [if_pos (by omega)]; rfl
  have hl : (if 0 < y.val % 64 then column K (t / 11 % 4) ⟨(y.val + 1024 - 1) % 1024, Nat.mod_lt _ (by decide)⟩ (w 0) (w 3) (w 6) else 0)
      = tap G (t / 11 * 1024 + y.val) 0 0 * w 0 + tap G (t / 11 * 1024 + y.val) 1 0 * w 3 + tap G (t / 11 * 1024 + y.val) 2 0 * w 6 := by
    unfold tap column
    by_cases h : 0 < y.val % 64
    · have e : t / 11 * 1024 + (y.val + 1024 - 1) % 1024 = t / 11 * 1024 + y.val + 0 - 1 := by omega
      rw [if_pos h, above_eq G K t ht hK, centre_eq G K t ht hK, below_eq G K t ht hK]
      dsimp only
      rw [e, if_pos (by omega), if_pos (by omega), if_pos (by omega)]
    · rw [if_neg h, if_neg (by omega), if_neg (by omega), if_neg (by omega)]
      simp only [zero_mul, add_zero]
  have hr : (if y.val % 64 < 63 then column K (t / 11 % 4) ⟨(y.val + 1024 - 1023) % 1024, Nat.mod_lt _ (by decide)⟩ (w 2) (w 5) (w 8) else 0)
      = tap G (t / 11 * 1024 + y.val) 0 2 * w 2 + tap G (t / 11 * 1024 + y.val) 1 2 * w 5 + tap G (t / 11 * 1024 + y.val) 2 2 * w 8 := by
    unfold tap column
    by_cases h : y.val % 64 < 63
    · have e : t / 11 * 1024 + (y.val + 1024 - 1023) % 1024 = t / 11 * 1024 + y.val + 2 - 1 := by omega
      rw [if_pos h, above_eq G K t ht hK, centre_eq G K t ht hK, below_eq G K t ht hK]
      dsimp only
      rw [e, if_pos (by omega), if_pos (by omega), if_pos (by omega)]
    · rw [if_neg h, if_neg (by omega), if_neg (by omega), if_neg (by omega)]
      simp only [zero_mul, add_zero]
  unfold bodyAt gated
  rw [hl, hr]
  unfold column
  rw [above_eq G K t ht hK, centre_eq G K t ht hK, below_eq G K t ht hK, ← hmid, ← hmid, ← hmid]
  have e : ∀ a b c d e f g h i j : EReal, d + e + f + (a + b + c) + (g + h + i) + j = a + d + g + b + e + h + c + f + i + j := by
    intros; ac_rfl
  dsimp only
  rw [e]

/-! ## The reference -/

/-- The reference's product with the gate's weights, as a function of the array row. -/
def gate (h : FVec Ideal (⟨2, ![8192, 2048]⟩ : Shape) .bf16) (wg : FVec Ideal (⟨3, ![1, 2048, 5632]⟩ : Shape) .f32) (f : Fin 5632) (r : Fin 8192) : EReal :=
  ∑ k : Fin 2048, h (ix2 r k) * wg (ix3 0 k f)

/-- The reference's gate product, read at a place. -/
theorem product_at (h : FVec Ideal Cert.FfnUpRefIdeal.S8192x2048 .bf16) (wg : FVec Ideal Cert.FfnUpRefIdeal.S1x2048x5632 .f32) (i : Cert.FfnUpRefIdeal.S8192x5632.Idx) :
    Cert.FfnUpRefIdeal.Read.val_main_v2 (F := Ideal) h wg i = gate h wg (i 1) (i 0) := by
  open Cert.FfnUpRefIdeal.Read in
  unfold val_main_v2 val_main_v1 val_main_v0
  pointwise [gate]

theorem product_ix (h : FVec Ideal Cert.FfnUpRefIdeal.S8192x2048 .bf16) (wg : FVec Ideal Cert.FfnUpRefIdeal.S1x2048x5632 .f32) (r n : Fin 8192) (f : Fin 5632) (e : r.val = n.val) :
    Cert.FfnUpRefIdeal.Read.val_main_v2 (F := Ideal) h wg (ix2 r f) = gate h wg f n := by
  rw [product_at, Fin.ext e]
  rfl

/-- The reference's up product, read at a place. -/
theorem up_at (h : FVec Ideal Cert.FfnUpRefIdeal.S8192x2048 .bf16) (wu : FVec Ideal Cert.FfnUpRefIdeal.S1x2048x5632 .f32) (i : Cert.FfnUpRefIdeal.S8192x5632.Idx) :
    Cert.FfnUpRefIdeal.Read.val_main_v76 (F := Ideal) h wu i = gate h wu (i 1) (i 0) := by
  open Cert.FfnUpRefIdeal.Read in
  unfold val_main_v76 val_main_v75 val_main_v0
  pointwise [gate]

set_option maxHeartbeats 2000000 in
/-- The reference, read at a place. -/
theorem reference_at (h : FVec Ideal Cert.FfnUpRefIdeal.S8192x2048 .bf16) (wg wu : FVec Ideal Cert.FfnUpRefIdeal.S1x2048x5632 .f32)
    (cw : FVec Ideal Cert.FfnUpRefIdeal.S1x3x3x5632 .f32) (cb : FVec Ideal Cert.FfnUpRefIdeal.S1x5632 .f32) (i : Cert.FfnUpRefIdeal.S8192x5632.Idx) :
    Cert.FfnUpRefIdeal.Read.val_main_v78 (F := Ideal) h wg wu cw cb i
      = gated (gate h wg (i 1)) (i 0).val (fun k => cw (ix4 0 ⟨k.val / 3, by omega⟩ ⟨k.val % 3, by omega⟩ (i 1))) (cb (ix2 0 (i 1))) (gate h wu (i 1) (i 0)) := by
  open Cert.FfnUpRefIdeal.Read in
  unfold val_main_v78 val_main_v77 val_main_v74 val_main_call1_v5 val_main_call1_v4 val_main_call1_v3 val_main_call1_v2 val_main_call1_v1 val_main_call1_v0 val_main_call1_cst val_main_call1_cst_0 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst val_main_call0_v0 val_main_c
  pointwise []
  have hi := (i 0).isLt
  change (i 0).val < 8192 at hi
  have hz : (FloatOps.sitofp (F := Ideal) FTy.f32 0#32 : EReal) = (0 : EReal) := by
    show (((0#32 : BitVec 32).toInt : ℝ) : EReal) = 0
    simp
  refine gated_of (gate h wg (i 1)) (i 0).val (fun k => cw (ix4 0 ⟨k.val / 3, by omega⟩ ⟨k.val % 3, by omega⟩ (i 1))) (cb (ix2 0 (i 1))) _ _ _ _ _ _ _ _ _ _ _ ?_ ?_ ?_ ?_ ?_ ?_ ?_ ?_ ?_ (up_at h wu i)
  all_goals refine padded (gate h wg (i 1)) (i 0) _ _ (Nat.le_of_ble_eq_true rfl) (Nat.le_of_ble_eq_true rfl) _ _ _ hz ?_ (fun k n hn => ?_)
  all_goals first
    | (refine Iff.intro (fun k => ?_) (fun k => ?_) <;> omega)
    | (refine product_ix h wg _ n _ ?_; dsimp only; omega)
    | (refine (product_at h wg i).trans (congrArg (gate h wg (i 1)) (Fin.ext ?_)); omega)

end Cert.Ffn
end
-- ==== Proof.FfnUp.lean ====
/- The feed-forward's gated up projection with its three by three depthwise convolution.

   A grid point takes 1024 array rows (16 rows of a 64 by 64 image) and 512 of the 5632 hidden columns.  The first point
   over a block of rows copies them into a scratch between the image row above and the image row below; the points after
   it read what it left.  The gate is the product of the scratch's rows; the convolution takes the three image rows from
   slices of it and the three image columns by rotating and masking.  The array left by the run is shown to be the
   silu of the convolved gate times the up product. -/
module

public import proofs.«01_k».proof.Defs
public import proofs.«01_k».proof.Proof.Gen.FfnUp.Frame
public import proofs.«01_k».proof.Proof.Gen.FfnUpIdeal.Frame
public import proofs.«01_k».proof.Proof.Gen.FfnUpRefIdeal.Read
public import proofs.«01_k».proof.Proof.FfnConv
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

open Cert.FfnUpIdeal Cert.FfnUpIdeal.Gen

/-! ## The body, read at a place -/

/-- The product of the rows a point holds with one column of the gate's weights. -/
def held_gate (H : FVec Ideal S1152x2048 .bf16) (w : FVec Ideal S2048x512 .f32) (f : Fin 512) (e : Fin 1152) : EReal :=
  ∑ k : Fin 2048, H (ix2 e k) * w (ix2 k f)

theorem pay5_at (H : Vec Ideal S1152x2048 .bf16) (w : Vec Ideal S2048x512 .f32) (j : S1152x512.Idx) :
    k0_pay5 (F := Ideal) H w j = held_gate H w (j 1) (j 0) := by
  pointwise [k0_pay5, held_gate]

theorem pay7_at (H : Vec Ideal S1152x2048 .bf16) (w : Vec Ideal S2048x512 .f32) (j : S1024x512.Idx) :
    k0_pay7 (F := Ideal) H w j = centre (held_gate H w (j 1)) (j 0) := by
  pointwise [k0_pay7]
  exact pay5_at H w _

theorem pay8_at (i : grid0.Coords) (H : Vec Ideal S1152x2048 .bf16) (w : Vec Ideal S2048x512 .f32) (j : S1024x512.Idx) :
    k0_pay8 (F := Ideal) i H w j = above (held_gate H w (j 1)) (i 1).val (j 0) := by
  have hi : ∀ n : Fin 4, (Scalar.cmpi .sgt (BitVec.ofNat 32 n.val) 0#32 = 1) ↔ 0 < n.val := by decide
  pointwise [k0_pay8]
  unfold above
  by_cases h : (j 0).val < 64
  · rw [dif_pos h, if_pos h]
    unfold Scalar.select
    by_cases h' : 0 < (i 1).val
    · rw [if_pos h', if_pos ((hi (i 1)).2 h')]
      exact pay5_at H w _
    · rw [if_neg h', if_neg (fun k => h' ((hi (i 1)).1 k))]
  · rw [dif_neg h, if_neg h, pay7_at]
    exact congrArg (held_gate H w (j 1)) (Fin.ext (by show 64 + ((j 0).val - 64) = (j 0).val; omega))

theorem pay9_at (i : grid0.Coords) (H : Vec Ideal S1152x2048 .bf16) (w : Vec Ideal S2048x512 .f32) (j : S1024x512.Idx) :
    k0_pay9 (F := Ideal) i H w j = below (held_gate H w (j 1)) (i 1).val (j 0) := by
  have hi : ∀ n : Fin 4, (Scalar.cmpi .slt (BitVec.ofNat 32 n.val) 3#32 = 1) ↔ n.val < 3 := by decide
  pointwise [k0_pay9]
  unfold below
  by_cases h : (j 0).val < 960
  · rw [dif_pos h, if_pos h, pay7_at]
    exact congrArg (held_gate H w (j 1)) (Fin.ext (by show 64 + (64 + (j 0).val) = 128 + (j 0).val; omega))
  · rw [dif_neg h, if_neg h]
    unfold Scalar.select
    by_cases h' : (i 1).val < 3
    · rw [if_pos h', if_pos ((hi (i 1)).2 h'), pay5_at]
      exact congrArg (held_gate H w (j 1)) (Fin.ext (by show 1088 + ((j 0).val - 960) = 128 + (j 0).val; omega))
    · rw [if_neg h', if_neg (fun k => h' ((hi (i 1)).1 k))]

/-- The image column of a row of the block, as the body computes it. -/
theorem pay13_at (j : S1024x512.Idx) : k0_pay13 64#32 k0_pay11 k0_pay12 j = BitVec.ofNat 32 ((j 0).val % 64) := by
  pointwise [k0_pay13, k0_pay11, k0_pay12]
  have key : ∀ y : Fin 1024, Scalar.select
      (IntOp.andi (IntOp.xori (IntOp.cmpi CmpIPredicate.slt (IntOp.remsi ArithUnit.vector (BitVec.ofNat 32 y.val) (Scalar.select (Scalar.cmpi CmpIPredicate.eq 64#32 0#32) 1#32 64#32)) 0#32) (Scalar.cmpi CmpIPredicate.slt 64#32 0#32))
        (IntOp.cmpi CmpIPredicate.ne (IntOp.remsi ArithUnit.vector (BitVec.ofNat 32 y.val) (Scalar.select (Scalar.cmpi CmpIPredicate.eq 64#32 0#32) 1#32 64#32)) 0#32))
      (IntOp.addi (IntOp.remsi ArithUnit.vector (BitVec.ofNat 32 y.val) (Scalar.select (Scalar.cmpi CmpIPredicate.eq 64#32 0#32) 1#32 64#32)) 64#32) (IntOp.remsi ArithUnit.vector (BitVec.ofNat 32 y.val) (Scalar.select (Scalar.cmpi CmpIPredicate.eq 64#32 0#32) 1#32 64#32)) = BitVec.ofNat 32 (y.val % 64) := by decide +kernel
  exact key (j 0)

theorem pay14_at (a b c : FVec Ideal S1024x512 .f32) (d : FVec Ideal S9x512 .f32) (j : S1024x512.Idx) (p : Fin 1024) (hp : p.val = ((j 0).val + 1024 - 1) % 1024) :
    k0_pay14 (F := Ideal) a b c d 64#32 k0_pay11 k0_pay12 j
      = if 0 < (j 0).val % 64 then b (ix2 p (j 1)) * d (ix2 0 (j 1)) + a (ix2 p (j 1)) * d (ix2 3 (j 1)) + c (ix2 p (j 1)) * d (ix2 6 (j 1)) else 0 := by
  have hm : ∀ n : Fin 64, (IntOp.cmpi .sgt (BitVec.ofNat 32 n.val) 0#32 = 1) ↔ 0 < n.val := by decide
  have e := pay13_at j
  obtain ⟨p, hl⟩ := p
  dsimp only at hp
  subst hp
  pointwise [k0_pay14]
  rw [e]
  unfold Scalar.select
  exact if_congr (hm ⟨(j 0).val % 64, Nat.mod_lt _ (by decide)⟩) rfl rfl

theorem pay15_at (a b c : FVec Ideal S1024x512 .f32) (d : FVec Ideal S9x512 .f32) (j : S1024x512.Idx) (p : Fin 1024) (hp : p.val = ((j 0).val + 1024 - 1023) % 1024) :
    k0_pay15 (F := Ideal) a b c d 64#32 k0_pay11 k0_pay12 j
      = if (j 0).val % 64 < 63 then b (ix2 p (j 1)) * d (ix2 2 (j 1)) + a (ix2 p (j 1)) * d (ix2 5 (j 1)) + c (ix2 p (j 1)) * d (ix2 8 (j 1)) else 0 := by
  have hm : ∀ n : Fin 64, (IntOp.cmpi .slt (BitVec.ofNat 32 n.val) 63#32 = 1) ↔ n.val < 63 := by decide
  have e := pay13_at j
  obtain ⟨p, hl⟩ := p
  dsimp only at hp
  subst hp
  pointwise [k0_pay15]
  rw [e]
  unfold Scalar.select
  exact if_congr (hm ⟨(j 0).val % 64, Nat.mod_lt _ (by decide)⟩) rfl rfl

theorem pay1_at (a b c d e : FVec Ideal S1024x512 .f32) (f : FVec Ideal S9x512 .f32) (g : Vec Ideal S1x512 .f32) (j : S1024x512.Idx) :
    k0_pay1 (F := Ideal) a b c d e (k0_pay17 f) g j
      = (e j + b j * f (ix2 7 (j 1)) + c j + d j + g (ix2 0 (j 1)))
        * Ideal.logistic (e j + b j * f (ix2 7 (j 1)) + c j + d j + g (ix2 0 (j 1))) * a j := by
  pointwise [k0_pay1, k0_pay17]

theorem pay16_at (a b : FVec Ideal S1024x512 .f32) (c : FVec Ideal S9x512 .f32) (j : S1024x512.Idx) :
    k0_pay16 (F := Ideal) a b c j = b j * c (ix2 1 (j 1)) + a j * c (ix2 4 (j 1)) := by
  pointwise [k0_pay16]

theorem pay6_at (a : Vec Ideal S1024x2048 .bf16) (w : Vec Ideal S2048x512 .f32) (j : S1024x512.Idx) :
    k0_pay6 (F := Ideal) a w j = ∑ k : Fin 2048, a (ix2 (j 0) k) * w (ix2 k (j 1)) := by
  pointwise [k0_pay6]

theorem pay10_at (a : Vec Ideal S9x512 .f32) : k0_pay10 (F := Ideal) a = a := by
  funext j
  pointwise [k0_pay10]

/-- What the body stores, over the rows held and the blocks it reads. -/
abbrev stored (i : grid0.Coords) (H : Vec Ideal S1152x2048 .bf16) (mid : Vec Ideal S1024x2048 .bf16) (wg wu : Vec Ideal S2048x512 .f32)
    (w9 : Vec Ideal S9x512 .f32) (cb : Vec Ideal S1x512 .f32) : FVec Ideal S1024x512 .bf16 :=
  k0_pay1 (F := Ideal) (k0_pay6 mid wu) (k0_pay9 i H wg)
    (k0_pay14 (k0_pay7 H wg) (k0_pay8 i H wg) (k0_pay9 i H wg) (k0_pay10 w9) 64#32 k0_pay11 k0_pay12)
    (k0_pay15 (k0_pay7 H wg) (k0_pay8 i H wg) (k0_pay9 i H wg) (k0_pay10 w9) 64#32 k0_pay11 k0_pay12)
    (k0_pay16 (k0_pay7 H wg) (k0_pay8 i H wg) (k0_pay10 w9)) (k0_pay17 (k0_pay10 w9)) cb

/-- It is the convolution's formula. -/
theorem stored_at (i : grid0.Coords) (H : Vec Ideal S1152x2048 .bf16) (mid : Vec Ideal S1024x2048 .bf16) (wg wu : Vec Ideal S2048x512 .f32)
    (w9 : Vec Ideal S9x512 .f32) (cb : Vec Ideal S1x512 .f32) (j : S1024x512.Idx) :
    stored i H mid wg wu w9 cb j
      = bodyAt (held_gate H wg (j 1)) (i 1).val (j 0) (fun k => w9 (ix2 k (j 1))) (cb (ix2 0 (j 1)))
          (∑ k : Fin 2048, mid (ix2 (j 0) k) * wu (ix2 k (j 1))) := by
  rw [stored, pay1_at, pay14_at _ _ _ _ j ⟨((j 0).val + 1024 - 1) % 1024, Nat.mod_lt _ (by decide)⟩ rfl,
    pay15_at _ _ _ _ j ⟨((j 0).val + 1024 - 1023) % 1024, Nat.mod_lt _ (by decide)⟩ rfl, pay16_at, pay6_at, pay10_at]
  simp only [pay7_at, pay8_at, pay9_at]
  rfl

/-! ## What the points hold -/

variable (m : (ℓ : Loc nD τ sig) → Buf (Elt Ideal) ℓ)

/-- Where each window stands at each grid point, and the point's second coordinate. -/
theorem idx : ∀ t : Fin cfg0.N, win0_0.index t = ![t.val / 44 * 64 + (t.val / 11 % 4 * 16 - 1), 0] ∧ win0_1.index t = ![t.val / 11, 0]
    ∧ win0_2.index t = ![t.val / 44 * 64 + min ((t.val / 11 % 4 + 1) * 16) 63, 0] ∧ win0_3.index t = ![0, t.val % 11] ∧ win0_4.index t = ![0, t.val % 11]
    ∧ win0_5.index t = ![0, t.val % 11] ∧ win0_6.index t = ![0, t.val % 11] ∧ win0_7.index t = ![t.val / 11, t.val % 11] ∧ (grid0.coords t 1).val = t.val / 11 % 4 :=
  (by decide +kernel : ∀ t : Fin grid0.N, _)

theorem lt88 (t : Fin cfg0.N) : t.val < 88 := lt_of_lt_of_eq t.isLt N_0

/-- The arguments. -/
abbrev hid (c : Dev nD) : FVec Ideal S8192x2048 .bf16 := m ((c : Thread nD τ).loc main_arg0)
abbrev wgate (c : Dev nD) : FVec Ideal S1x2048x5632 .f32 := m ((c : Thread nD τ).loc main_arg1)
abbrev wup (c : Dev nD) : FVec Ideal S1x2048x5632 .f32 := m ((c : Thread nD τ).loc main_arg2)
abbrev taps (c : Dev nD) : FVec Ideal S1x3x3x5632 .f32 := m ((c : Thread nD τ).loc main_arg3)
abbrev bias (c : Dev nD) : FVec Ideal S1x5632 .f32 := m ((c : Thread nD τ).loc main_arg4)

/-- The rows of the array that the scratch holds over a block of rows. -/
abbrev rows (c : Dev nD) (n : Nat) (hn : n < 88) : FVec Ideal S1152x2048 .bf16 :=
  fun j => hid m c (ix2 ⟨held n (j 0).val, held_lt n (j 0).val hn (j 0).isLt⟩ (j 1))

/-- The three pieces the first point over a block of rows stores into the scratch, the last first. -/
abbrev parts (c : Dev nD) (t : Fin cfg0.N) : List (View.Piece (Elt Ideal) S1152x2048 .bf16) :=
  [⟨Rect.unit ![1088, 0] ![64, 2048] inb_S1152x2048_S64x2048_1088_0, k0_pay4 (F := Ideal) (iblk m c 2 t)⟩,
    ⟨Rect.unit ![64, 0] ![1024, 2048] inb_S1152x2048_S1024x2048_64_0, k0_pay3 (F := Ideal) (iblk m c 1 t)⟩,
    ⟨Rect.unit ![0, 0] ![64, 2048] inb_S1152x2048_S64x2048_0_0, k0_pay2 (F := Ideal) (iblk m c 0 t)⟩]

theorem parts_cover (c : Dev nD) (t : Fin cfg0.N) (y : S1152x2048.Idx) : ∃ p ∈ parts m c t, y ∈ p.1.set :=
  View.cover_of_tiledBy _ ![64, 2048] (by sl_kernel_rfl) y

theorem point_above (c : Dev nD) (t : Fin cfg0.N) (x : S64x2048.Idx) : k0_pay2 (F := Ideal) (iblk m c 0 t) x
    = hid m c (ix2 ⟨(t.val / 44 * 64 + (t.val / 11 % 4 * 16 - 1)) * 64 + (x 0).val, by have := lt88 t; have : (x 0).val < 64 := (x 0).isLt; omega⟩ (x 1)) := by
  pointwise [k0_pay2]
  blk_ext [iblk, V, idx t]

theorem point_mid (c : Dev nD) (t : Fin cfg0.N) (x : S1024x2048.Idx) : k0_pay3 (F := Ideal) (iblk m c 1 t) x
    = hid m c (ix2 ⟨t.val / 11 * 1024 + (x 0).val, by have := lt88 t; have : (x 0).val < 1024 := (x 0).isLt; omega⟩ (x 1)) := by
  pointwise [k0_pay3]
  blk_ext [iblk, V, idx t]

theorem point_below (c : Dev nD) (t : Fin cfg0.N) (x : S64x2048.Idx) : k0_pay4 (F := Ideal) (iblk m c 2 t) x
    = hid m c (ix2 ⟨(t.val / 44 * 64 + min ((t.val / 11 % 4 + 1) * 16) 63) * 64 + (x 0).val, by have := lt88 t; have : (x 0).val < 64 := (x 0).isLt; omega⟩ (x 1)) := by
  pointwise [k0_pay4]
  blk_ext [iblk, V, idx t]

/-- They leave the rows. -/
theorem parts_eq (c : Dev nD) (t : Fin cfg0.N) : View.canon (parts m c t) = rows m c t.val (lt88 t) := by
  funext y
  have ht := lt88 t
  canon_tiles x h using (parts_cover m c t y)
  · refine (point_below m c t x).trans (congrArg (hid m c) (Shape.idx_ext₂ ?_ h1.symm))
    show _ = held t.val (y 0).val
    unfold held
    rw [if_neg (by omega), if_neg (by omega), h0, Nat.add_sub_cancel_left]
    rfl
  · refine (point_mid m c t x).trans (congrArg (hid m c) (Shape.idx_ext₂ ?_ h1.symm))
    show _ = held t.val (y 0).val
    unfold held
    rw [if_neg (by omega), if_pos (by omega), h0, Nat.add_sub_cancel_left]
    rfl
  · refine (point_above m c t x).trans (congrArg (hid m c) (Shape.idx_ext₂ ?_ h1.symm))
    show _ = held t.val (y 0).val
    unfold held
    rw [if_pos (by omega), h0]
    rfl

theorem scratch_A (c : Dev nD) (t : Fin cfg0.N) (h : t.val % 11 = 0) : (outsAt0 m c t.val t.isLt).2 = rows m c t.val (lt88 t) := by
  rw [outsAt0_A m c t h]
  frame_out
  exact parts_eq m c t

theorem scratch_B (c : Dev nD) (t : Fin cfg0.N) (h : ¬ t.val % 11 = 0) :
    (outsAt0 m c t.val t.isLt).2 = (outsAt0 m c (t.val - 1) (by have := t.isLt; omega)).2 := by
  rw [outsAt0_B m c t h]
  rfl

theorem held_step (n e : Nat) (h : ¬ n % 11 = 0) : held (n - 1) e = held n e := by
  have e1 : (n - 1) / 11 = n / 11 := by omega
  have e2 : (n - 1) / 44 = n / 44 := by omega
  unfold held
  rw [e1, e2]

/-- After every point the scratch holds the rows of the point's block. -/
theorem scratch_eq (c : Dev nD) (n : Nat) (hn : n < cfg0.N) : (outsAt0 m c n hn).2 = rows m c n (lt88 ⟨n, hn⟩) := by
  induction n with
  | zero => exact scratch_A m c ⟨0, hn⟩ rfl
  | succ n ih =>
    by_cases h : (n + 1) % 11 = 0
    · exact scratch_A m c ⟨n + 1, hn⟩ h
    · refine (scratch_B m c ⟨n + 1, hn⟩ h).trans ((ih (Nat.lt_of_succ_lt hn)).trans ?_)
      funext j
      exact congrArg (hid m c) (congrArg (fun r => ix2 r (j 1)) (Fin.ext (held_step (n + 1) (j 0).val h)))

/-- What a first point stores, over the rows. -/
theorem out_A (c : Dev nD) (t : Fin cfg0.N) (h : t.val % 11 = 0) :
    (outsAt0 m c t.val t.isLt).1 = stored (grid0.coords t) (rows m c t.val (lt88 t)) (iblk m c 1 t) (iblk m c 3 t) (iblk m c 4 t) (iblk m c 5 t) (iblk m c 6 t) := by
  have e : (View.whole cc0_scratch0).readCov (parts m c t) (Rect.unit ![0, 0] ![1152, 2048] inb_S1152x2048_S1152x2048_0_0).toLoadRect = rows m c t.val (lt88 t) := by
    rw [View.readCov_eq_canon_ld _ _ _ (parts_cover m c t), parts_eq]
    funext j
    exact View.ld_unit_apply_of _ _ _ _ _ _ (fun a => match a with | ⟨0, _⟩ => (Nat.zero_add _).symm | ⟨1, _⟩ => (Nat.zero_add _).symm)
  rw [outsAt0_A m c t h]
  frame_out
  rw [e]

/-- What a later point stores, over the rows. -/
theorem out_B (c : Dev nD) (t : Fin cfg0.N) (h : ¬ t.val % 11 = 0) :
    (outsAt0 m c t.val t.isLt).1 = stored (grid0.coords t) (rows m c t.val (lt88 t)) (iblk m c 1 t) (iblk m c 3 t) (iblk m c 4 t) (iblk m c 5 t) (iblk m c 6 t) := by
  rw [← scratch_eq m c t.val t.isLt, scratch_B m c t h, outsAt0_B m c t h]
  frame_out
  rw [(Memref.isWhole_whole _).read_unread]

theorem out_eq (c : Dev nD) (t : Fin cfg0.N) :
    (outsAt0 m c t.val t.isLt).1 = stored (grid0.coords t) (rows m c t.val (lt88 t)) (iblk m c 1 t) (iblk m c 3 t) (iblk m c 4 t) (iblk m c 5 t) (iblk m c 6 t) := by
  by_cases h : t.val % 11 = 0
  · exact out_A m c t h
  · exact out_B m c t h

/-! ## The array the run leaves -/

/-- The reference's array over this program's arguments. -/
abbrev REF (c : Dev nD) : FVec Ideal S8192x5632 .bf16 :=
  Cert.FfnUpRefIdeal.Read.val_main_v78 (F := Ideal) (hid m c) (wgate m c) (wup m c) (taps m c) (bias m c)

/-- The array row and column behind a place of a block. -/
def row (t : Fin cfg0.N) (y : Fin 1024) : Fin 8192 := ⟨t.val / 11 * 1024 + y.val, by have := y.isLt; have := lt88 t; omega⟩
def col (t : Fin cfg0.N) (f : Fin 512) : Fin 5632 := ⟨t.val % 11 * 512 + f.val, by have := f.isLt; have := lt88 t; omega⟩

theorem place (t : Fin cfg0.N) (y : S1024x512.Idx) :
    ((cfg0.win 7).blk t).view.emb y = ix2 (row t (y 0)) (col t (y 1)) := by
  unfold row col
  blk_ext [idx t]

theorem wgate_at (c : Dev nD) (t : Fin cfg0.N) (k : Fin 2048) (f : Fin 512) :
    (show FVec Ideal S2048x512 .f32 from iblk m c 3 t) (ix2 k f) = wgate m c (ix3 0 k (col t f)) := by
  unfold col
  blk_point [iblk, V, idx t]

theorem wup_at (c : Dev nD) (t : Fin cfg0.N) (k : Fin 2048) (f : Fin 512) :
    (show FVec Ideal S2048x512 .f32 from iblk m c 4 t) (ix2 k f) = wup m c (ix3 0 k (col t f)) := by
  unfold col
  blk_point [iblk, V, idx t]

theorem taps_at (c : Dev nD) (t : Fin cfg0.N) (k : Fin 9) (f : Fin 512) :
    (show FVec Ideal S9x512 .f32 from iblk m c 5 t) (ix2 k f)
      = taps m c (ix4 0 ⟨k.val / 3, by omega⟩ ⟨k.val % 3, by omega⟩ (col t f)) := by
  unfold col
  blk_point [iblk, V, idx t]

theorem bias_at (c : Dev nD) (t : Fin cfg0.N) (f : Fin 512) :
    (show FVec Ideal S1x512 .f32 from iblk m c 6 t) (ix2 0 f) = bias m c (ix2 0 (col t f)) := by
  unfold col
  blk_point [iblk, V, idx t]

theorem mid_at (c : Dev nD) (t : Fin cfg0.N) (y : Fin 1024) (k : Fin 2048) :
    (show FVec Ideal S1024x2048 .bf16 from iblk m c 1 t) (ix2 y k) = hid m c (ix2 (row t y) k) := by
  unfold row
  blk_point [iblk, V, idx t]

/-- What a point stores is the reference's array at the place behind it. -/
theorem point_eq (c : Dev nD) (t : Fin cfg0.N) (y : S1024x512.Idx) :
    stored (grid0.coords t) (rows m c t.val (lt88 t)) (iblk m c 1 t) (iblk m c 3 t) (iblk m c 4 t) (iblk m c 5 t) (iblk m c 6 t) y
      = REF m c (ix2 (row t (y 0)) (col t (y 1))) := by
  have hi : (grid0.coords t 1).val = t.val / 11 % 4 := by have := idx t; tauto
  have hK : ∀ e : Fin 1152, held_gate (rows m c t.val (lt88 t)) (iblk m c 3 t) (y 1) e
      = gate (hid m c) (wgate m c) (col t (y 1)) ⟨held t.val e.val, held_lt t.val e.val (lt88 t) e.isLt⟩ := fun e =>
    Finset.sum_congr rfl fun k _ => congrArg (_ * ·) (wgate_at m c t k (y 1))
  have hu : (∑ k : Fin 2048, (show FVec Ideal S1024x2048 .bf16 from iblk m c 1 t) (ix2 (y 0) k) * (show FVec Ideal S2048x512 .f32 from iblk m c 4 t) (ix2 k (y 1)))
      = gate (hid m c) (wup m c) (col t (y 1)) (row t (y 0)) :=
    Finset.sum_congr rfl fun k _ => congrArg₂ (· * ·) (mid_at m c t (y 0) k) (wup_at m c t k (y 1))
  have hw : (fun k : Fin 9 => (show FVec Ideal S9x512 .f32 from iblk m c 5 t) (ix2 k (y 1)))
      = fun k => taps m c (ix4 0 ⟨k.val / 3, by omega⟩ ⟨k.val % 3, by omega⟩ (col t (y 1))) := funext fun k => taps_at m c t k (y 1)
  refine (stored_at _ _ _ _ _ _ _ y).trans ?_
  rw [hi]
  refine (congrArg₂ (bodyAt _ _ _ _) (bias_at m c t (y 1)) hu).trans ?_
  refine (congrArg (fun w => bodyAt _ _ _ w _ _) hw).trans ?_
  refine (bodyAt_eq (gate (hid m c) (wgate m c) (col t (y 1))) _ t.val (lt88 t) hK (y 0) _ _ _).trans ?_
  exact (reference_at _ _ _ _ _ (ix2 (row t (y 0)) (col t (y 1)))).symm

/-- The array after the run is the reference's. -/
theorem final (c : Dev nD) : (dats m 0 c).arrAt 7 cfg0.N = REF m c := by
  refine (dats m 0 c).arrAt_eq_of_covers 7 _ (by decide +kernel) fun t hf y => ?_
  blk_simp
  rw [after0_7, place, out_eq]
  exact point_eq m c t y

/-- The call's run leaves the reference's array and keeps the arguments. -/
theorem run_values (g : Dev nD → PrngReg) :
    θ_run defs (onTc (τ := τ) (main (F := Ideal))) ⟨m, fun _ => 0, g⟩ fun r => ∀ c : Dev nD,
      r.2.mem ((c : Thread nD τ).loc main_v6) = REF m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m g)

/-- The printed call terminates and keeps its arguments. -/
theorem frame_printed : Cert.quiescent_FfnUp := fun m g _ => Cert.FfnUp.Gen.frame m g

/-- So does the call over the extended reals. -/
theorem frame_kernel : Cert.quiescent_FfnUpIdeal := fun m g _ => Cert.FfnUpIdeal.Gen.frame m g

/-- And so does the reference. -/
theorem frame_reference : Cert.quiescent_FfnUpRefIdeal := fun m g _ =>
  (θ_run Cert.FfnUpRefIdeal.defs _ _).mono
    (fun r h => ⟨fun c => (h c).2, Idealize.ShloMosaic.sem_eq_zero_of_no_sems (by decide) r.2⟩)
    (Cert.FfnUpRefIdeal.Value.run (F := Ideal) m g)

/-- From the same arguments the call and the reference leave the same array. -/
theorem same_values : Cert.algebraic_FfnUpIdeal_FfnUpRefIdeal := by
  intro m g m' g' _ hagree
  refine ⟨fun c => REF m c, run_values m g, ?_⟩
  refine (θ_run Cert.FfnUpRefIdeal.defs _ _).mono (fun r h c => ⟨(h c).1.trans ?_, (h c).2⟩)
    (Cert.FfnUpRefIdeal.Value.run (F := Ideal) m' g')
  obtain ⟨h0, h1, h2, h3, h4⟩ := hagree c
  rw [Cert.FfnUpRefIdeal.Read.val_main_v78_eq, h0, h1, h2, h3, h4]

end Cert.Ffn
end
-- ==== Proof.NormRun.lean ====
/- The norm with its modulation and first product: the call's run, for any float values.

   Every grid point takes a block of 1024 rows and a block of 512 columns.  The first point of a row block's seven norms
   and modulates the rows, in two halves, keeps them in the second result's block and multiplies each half at once; the
   six points after it find the rows there and multiply them.  So the second result's block, stored into at the first
   point only, is written back at the seventh: it is carried over the points between. -/
module

public import proofs.«01_k».proof.Proof.Gen.Norm.Launch
public import proofs.«01_k».proof.Proof.Gen.NormIdeal.Launch
public import proofs.«01_k».proof.Proof.Gen.NormIdeal.Skeleton
public import proofs.«01_k».proof.Proof.Gen.NormIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.NormRows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormIdeal Cert.NormIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call finds -/

/-- The buffers as the call finds them: after the host's operations on the weight and the rows. -/
abbrev V (c : Dev nD) (b : Ref sig .tc) : Buf (Elt F) ((c : Thread nD τ).loc b) := StableHlo.after hostOps0 (fun b => m (c, b)) b

/-- The program is those operations and then the call. -/
theorem main_runs : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub (by simp only [List.Forall]; repeat' constructor) main_chain

/-- Argument 0 is as it was given. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 1 is as it was given. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 2 is as it was given. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 3 is as it was given. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 4 is as it was given. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The block of window `w` at point `t`, as the call finds the window's array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The seven column blocks lie inside the weight, so no fetch of one is cut. -/
theorem uncut : ∀ (t : Fin cfg0.N) a, (cfg0.win 4).clip (cfg0.grid.coords t) a = none :=
  (by decide +kernel : ∀ (t : Fin grid0.N) a, win0_4.clip (grid0.coords t) a = none)

theorem moved (t : Fin cfg0.N) (j : (cfg0.win 4).block.Idx) : (cfg0.win 4).moved (cfg0.grid.coords t) j = true :=
  ((cfg0.win 4).moved_iff _ j).mpr fun a => by have := (j a).isLt; unfold Window.xsize; rw [uncut t a]; exact this

/-- The block of 512 columns that point `t` multiplies by. -/
def cols (c : Dev nD) (t : Fin cfg0.N) : Vec F S512x2048 .bf16 := fun j =>
  iblk m c 4 t fun a => ⟨(j a).val, ((cfg0.win 4).moved_iff _ j).mp (moved t j) a⟩

/-- Window 0's buffer holds its block at every point. -/
theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]) t d).trans
    (by unfold Dat.fetched Dat.blockOf iblk; rw [hA]; rfl)

/-- Window 1's buffer holds its block at every point. -/
theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]) t d).trans
    (by unfold Dat.fetched Dat.blockOf iblk; rw [hA]; rfl)

/-- Window 2's buffer holds its block at every point. -/
theorem before_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]) t d).trans
    (by unfold Dat.fetched Dat.blockOf iblk; rw [hA]; rfl)

/-- Window 3's buffer holds its block at every point. -/
theorem before_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]) t d).trans
    (by unfold Dat.fetched Dat.blockOf iblk; rw [hA]; rfl)

/-- And so does the weight's. -/
theorem before_4 {c : Dev nD} (dat : Dat τ (Elt F) Unit ℕ (UR sig nD τ) ℕ cfg0 c) (hA : dat.A 4 = V m c (Pipeline.arrRef spec0 4))
    (hafter : ∀ t, dat.after 4 t = cols m c t) (t : Fin cfg0.N) (d) : dat.before 4 t d = cols m c t := by
  refine (dat.before_in_eq_fetched 4 rfl (fun _ => rfl) (fun t t' _ => funext fun a => (uncut t a).trans (uncut t' a).symm)
    (fun t => by rw [hafter]; unfold Dat.blockOf cols iblk; rw [hA]) t d).trans ?_
  funext j
  unfold Dat.fetched Window.fill Dat.blockOf cols iblk
  rw [dif_pos (moved t j), hA]

/-! ## Which points are which -/

/-- A point is the first of its row block's seven. -/
abbrev isFirst (i : grid0.Coords) : Prop := k0_cond1 i = 1#1
/-- A point is one of the six after it. -/
abbrev isLater (i : grid0.Coords) : Prop := k0_cond2 i = 1#1

theorem first_iff : ∀ t : Fin cfg0.N, isFirst (grid0.coords t) ↔ t.val % 7 = 0 :=
  (by decide +kernel : ∀ t : Fin grid0.N, isFirst (grid0.coords t) ↔ t.val % 7 = 0)
theorem later_iff : ∀ t : Fin cfg0.N, isLater (grid0.coords t) ↔ ¬ t.val % 7 = 0 :=
  (by decide +kernel : ∀ t : Fin grid0.N, isLater (grid0.coords t) ↔ ¬ t.val % 7 = 0)

/-- The products' block is stored into at every point; the rows' block at a first point only. -/
theorem live_5 : ∀ t : Fin cfg0.N, cfg0.idle 5 (grid0.coords t) = false := (by decide +kernel)
theorem live_6 : ∀ t : Fin cfg0.N, t.val % 7 = 0 → cfg0.idle 6 (grid0.coords t) = false := (by decide +kernel)
theorem idle_6 : ∀ t : Fin cfg0.N, ¬ t.val % 7 = 0 → cfg0.idle 6 (grid0.coords t) = true := (by decide +kernel)

/-- Whether the rows' buffer holds nothing of this row block yet: just before a first point. -/
def unset : ℕ → Bool := fun n => n % 7 == 0
theorem unset_step : ∀ t : Fin cfg0.N,
    unset (t.val + 1) = ((cfg0.win 6).flush t || (cfg0.idle 6 (cfg0.grid.coords t) && unset t.val)) := by decide +kernel
theorem fresh_6 (t : Fin cfg0.N) : cfg0.fresh 6 t.val = unset t.val :=
  Pipeline.Cfg.fresh_tab cfg0 6 unset rfl unset_step t.val (Nat.le_of_lt t.isLt)

/-! ## The body, at a first point and at a later one -/

/-- Window 0's buffer at point `t`. -/
abbrev buf0 (t : Fin cfg0.N) : Memref sig .tc .vmem S1024x2048 .f32 := win0_0.stage (cfg0.slots t 0)
abbrev whole0 (t : Fin cfg0.N) : (buf0 t).IsWhole := hstage0_0 ((cfg0.slots t 0).cast nbuf0_0)
/-- Window 1's buffer at point `t`. -/
abbrev buf1 (t : Fin cfg0.N) : Memref sig .tc .vmem S1x2048 .f32 := win0_1.stage (cfg0.slots t 1)
abbrev whole1 (t : Fin cfg0.N) : (buf1 t).IsWhole := hstage0_1 ((cfg0.slots t 1).cast nbuf0_1)
/-- Window 2's buffer at point `t`. -/
abbrev buf2 (t : Fin cfg0.N) : Memref sig .tc .vmem S1x1x2048 .f32 := win0_2.stage (cfg0.slots t 2)
abbrev whole2 (t : Fin cfg0.N) : (buf2 t).IsWhole := hstage0_2 ((cfg0.slots t 2).cast nbuf0_2)
/-- Window 3's buffer at point `t`. -/
abbrev buf3 (t : Fin cfg0.N) : Memref sig .tc .vmem S1x1x2048 .f32 := win0_3.stage (cfg0.slots t 3)
abbrev whole3 (t : Fin cfg0.N) : (buf3 t).IsWhole := hstage0_3 ((cfg0.slots t 3).cast nbuf0_3)
/-- Window 4's buffer at point `t`. -/
abbrev buf4 (t : Fin cfg0.N) : Memref sig .tc .vmem S512x2048 .bf16 := win0_4.stage (cfg0.slots t 4)
abbrev whole4 (t : Fin cfg0.N) : (buf4 t).IsWhole := hstage0_4 ((cfg0.slots t 4).cast nbuf0_4)
/-- Window 5's buffer at point `t`. -/
abbrev buf5 (t : Fin cfg0.N) : Memref sig .tc .vmem S1024x512 .f32 := win0_5.stage (cfg0.slots t 5)
abbrev whole5 (t : Fin cfg0.N) : (buf5 t).IsWhole := hstage0_5 ((cfg0.slots t 5).cast nbuf0_5)
/-- Window 6's buffer at point `t`. -/
abbrev buf6 (t : Fin cfg0.N) : Memref sig .tc .vmem S1024x2048 .bf16 := win0_6.stage (cfg0.slots t 6)
abbrev whole6 (t : Fin cfg0.N) : (buf6 t).IsWhole := hstage0_6 ((cfg0.slots t 6).cast nbuf0_6)

set_option maxHeartbeats 1000000 in
/-- A first point, on any whole buffers: what it stores into the products' block and into the rows' block, with the proof
    that it runs and leaves the inputs as they were. -/
noncomputable def firstRun (c : Dev nD) (i : grid0.Coords) (b0 : Memref sig .tc .vmem S1024x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S1024x512 .f32) (w5 : b5.IsWhole) (b6 : Memref sig .tc .vmem S1024x2048 .bf16) (w6 : b6.IsWhole) (hf : isFirst i) (hl : ¬ isLater i)
    (x0 : Vec F S1024x2048 .f32) (x1 : Vec F S1x2048 .f32) (x2 : Vec F S1x1x2048 .f32) (x3 : Vec F S1x1x2048 .f32) (x4 : Vec F S512x2048 .bf16) :
    Σ' (L5 : List (View.Piece (Elt F) S1024x512 .f32)), { L6 : List (View.Piece (Elt F) S1024x2048 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ (∃ d, owns (c : Thread nD τ) b5 fullShare d) ∗ (∃ d, owns (c : Thread nD τ) b6 fullShare d)
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ (∃ f, b5.view.loc (c : Thread nD τ) ↦[b5.view.set]{fullShare} b5.view.writes (Elt F) f L5) ∗ (∃ f, b6.view.loc (c : Thread nD τ) ↦[b6.view.set]{fullShare} b6.view.writes (Elt F) f L6)) -∗ K ⟨⟩))
          ⊢ wp frame (wpE (defs₀ (F := F)) Variants.none c none) E (cc0_norm_mod_matmul i b0 w0 b1 w1 b2 w2 b3 w3 b4 w4 b5 w5 b6 w6) K } := by
  refine ⟨?_, ?_, fun E K => ?run⟩
  case run =>
    simp only [cc0_norm_mod_matmul_eq_skeleton]; unfold cc0_norm_mod_matmul_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := w0.eq_unread hf0; obtain rfl := w1.eq_unread hf1; obtain rfl := w2.eq_unread hf2; obtain rfl := w3.eq_unread hf3; obtain rfl := w4.eq_unread hf4
    sl_exec (disch := first | sl_exact hf | sl_exact hl)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]; · iexists _; iexact H5
    iexists _; iexact H6

set_option maxHeartbeats 1000000 in
/-- A later point, on any whole buffers, with the rows' block at `x6`: what it stores into the products' block, with the
    proof that it runs and leaves the inputs and the rows as they were. -/
noncomputable def laterRun (c : Dev nD) (i : grid0.Coords) (b0 : Memref sig .tc .vmem S1024x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S1024x512 .f32) (w5 : b5.IsWhole) (b6 : Memref sig .tc .vmem S1024x2048 .bf16) (w6 : b6.IsWhole) (hf : ¬ isFirst i) (hl : isLater i)
    (x0 : Vec F S1024x2048 .f32) (x1 : Vec F S1x2048 .f32) (x2 : Vec F S1x1x2048 .f32) (x3 : Vec F S1x1x2048 .f32) (x4 : Vec F S512x2048 .bf16) (x6 : Vec F S1024x2048 .bf16) :
    { L5 : List (View.Piece (Elt F) S1024x512 .f32) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ (∃ d, owns (c : Thread nD τ) b5 fullShare d) ∗ owns (c : Thread nD τ) b6 fullShare x6
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b6 fullShare x6 ∗ (∃ f, b5.view.loc (c : Thread nD τ) ↦[b5.view.set]{fullShare} b5.view.writes (Elt F) f L5)) -∗ K ⟨⟩))
          ⊢ wp frame (wpE (defs₀ (F := F)) Variants.none c none) E (cc0_norm_mod_matmul i b0 w0 b1 w1 b2 w2 b3 w3 b4 w4 b5 w5 b6 w6) K } := by
  refine ⟨?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := w0.eq_unread hf0; obtain rfl := w1.eq_unread hf1; obtain rfl := w2.eq_unread hf2; obtain rfl := w3.eq_unread hf3; obtain rfl := w4.eq_unread hf4; obtain rfl := w6.eq_unread hf6
    sl_exec (disch := first | sl_exact hf | sl_exact hl)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H6]
    · iexists _; isplitr; · ipureintro; exact w6.read_unread _
      iexact H6
    iexists _; iexact H5

/-- A first point's two stores fill the products' block. -/
theorem firstCover5 (c : Dev nD) (i : grid0.Coords) (b0 : Memref sig .tc .vmem S1024x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S1024x512 .f32) (w5 : b5.IsWhole) (b6 : Memref sig .tc .vmem S1024x2048 .bf16) (w6 : b6.IsWhole) (hf : isFirst i) (hl : ¬ isLater i)
    (x0 : Vec F S1024x2048 .f32) (x1 : Vec F S1x2048 .f32) (x2 : Vec F S1x1x2048 .f32) (x3 : Vec F S1x1x2048 .f32) (x4 : Vec F S512x2048 .bf16) (y : S1024x512.Idx) : ∃ pc ∈ (firstRun c i b0 w0 b1 w1 b2 w2 b3 w3 b4 w4 b5 w5 b6 w6 hf hl x0 x1 x2 x3 x4).1, y ∈ pc.1.set :=
  View.cover_of_tiledL (firstRun c i b0 w0 b1 w1 b2 w2 b3 w3 b4 w4 b5 w5 b6 w6 hf hl x0 x1 x2 x3 x4).1 S512x512.size (by sl_kernel_rfl) y

/-- A first point's two stores fill the rows' block. -/
theorem firstCover6 (c : Dev nD) (i : grid0.Coords) (b0 : Memref sig .tc .vmem S1024x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S1024x512 .f32) (w5 : b5.IsWhole) (b6 : Memref sig .tc .vmem S1024x2048 .bf16) (w6 : b6.IsWhole) (hf : isFirst i) (hl : ¬ isLater i)
    (x0 : Vec F S1024x2048 .f32) (x1 : Vec F S1x2048 .f32) (x2 : Vec F S1x1x2048 .f32) (x3 : Vec F S1x1x2048 .f32) (x4 : Vec F S512x2048 .bf16) (y : S1024x2048.Idx) : ∃ pc ∈ (firstRun c i b0 w0 b1 w1 b2 w2 b3 w3 b4 w4 b5 w5 b6 w6 hf hl x0 x1 x2 x3 x4).2.1, y ∈ pc.1.set :=
  View.cover_of_tiledL (firstRun c i b0 w0 b1 w1 b2 w2 b3 w3 b4 w4 b5 w5 b6 w6 hf hl x0 x1 x2 x3 x4).2.1 S512x2048.size (by sl_kernel_rfl) y

/-- A later point's one store fills the products' block. -/
theorem laterCover5 (c : Dev nD) (i : grid0.Coords) (b0 : Memref sig .tc .vmem S1024x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S1024x512 .f32) (w5 : b5.IsWhole) (b6 : Memref sig .tc .vmem S1024x2048 .bf16) (w6 : b6.IsWhole) (hf : ¬ isFirst i) (hl : isLater i)
    (x0 : Vec F S1024x2048 .f32) (x1 : Vec F S1x2048 .f32) (x2 : Vec F S1x1x2048 .f32) (x3 : Vec F S1x1x2048 .f32) (x4 : Vec F S512x2048 .bf16) (x6 : Vec F S1024x2048 .bf16) (y : S1024x512.Idx) : ∃ pc ∈ (laterRun c i b0 w0 b1 w1 b2 w2 b3 w3 b4 w4 b5 w5 b6 w6 hf hl x0 x1 x2 x3 x4 x6).1, y ∈ pc.1.set :=
  View.cover_of_tiledL (laterRun c i b0 w0 b1 w1 b2 w2 b3 w3 b4 w4 b5 w5 b6 w6 hf hl x0 x1 x2 x3 x4 x6).1 S1024x512.size (by sl_kernel_rfl) y

/-- A buffer of each result, through which its contents are read. -/
abbrev prodView : View sig .tc .vmem S1024x512 .f32 := (Memref.whole cc0_stg5_0 : Memref sig .tc .vmem S1024x512 .f32).view
abbrev rowView : View sig .tc .vmem S1024x2048 .bf16 := (Memref.whole cc0_stg6_0 : Memref sig .tc .vmem S1024x2048 .bf16).view

/-- What a first point leaves in the products' block, -/
def firstProd (c : Dev nD) (t : Fin cfg0.N) (h : t.val % 7 = 0) : Vec F S1024x512 .f32 :=
  prodView.read (Elt F) (prodView.writes (Elt F) prodView.junk (firstRun c (grid0.coords t) (buf0 t) (whole0 t) (buf1 t) (whole1 t) (buf2 t) (whole2 t) (buf3 t) (whole3 t) (buf4 t) (whole4 t) (buf5 t) (whole5 t) (buf6 t) (whole6 t) ((first_iff t).mpr h) (fun e => (later_iff t).mp e h) (iblk m c 0 t) (iblk m c 1 t) (iblk m c 2 t) (iblk m c 3 t) (cols m c t)).1)

/-- and in the rows' block. -/
def firstRows (c : Dev nD) (t : Fin cfg0.N) (h : t.val % 7 = 0) : Vec F S1024x2048 .bf16 :=
  rowView.read (Elt F) (rowView.writes (Elt F) rowView.junk (firstRun c (grid0.coords t) (buf0 t) (whole0 t) (buf1 t) (whole1 t) (buf2 t) (whole2 t) (buf3 t) (whole3 t) (buf4 t) (whole4 t) (buf5 t) (whole5 t) (buf6 t) (whole6 t) ((first_iff t).mpr h) (fun e => (later_iff t).mp e h) (iblk m c 0 t) (iblk m c 1 t) (iblk m c 2 t) (iblk m c 3 t) (cols m c t)).2.1)

/-- The first point of the seven that `t` is one of. -/
def start (t : Fin cfg0.N) : Fin cfg0.N := ⟨t.val - t.val % 7, Nat.lt_of_le_of_lt (Nat.sub_le _ _) t.isLt⟩

theorem start_mod (t : Fin cfg0.N) : (start t).val % 7 = 0 := by unfold start; dsimp only; omega

theorem start_of (t : Fin cfg0.N) (h : t.val % 7 = 0) : start t = t := Fin.ext (by unfold start; dsimp only; omega)

theorem start_pred (t : Fin cfg0.N) (h : ¬ t.val % 7 = 0) (h' : t.val - 1 < cfg0.N) : start ⟨t.val - 1, h'⟩ = start t :=
  Fin.ext (by unfold start; dsimp only; omega)

/-- The rows that the block holds after point `t`: those of its seven's first point. -/
def rowsAt (c : Dev nD) (t : Fin cfg0.N) : Vec F S1024x2048 .bf16 := firstRows m c (start t) (start_mod t)

/-- At a first point they are what that point stored. -/
theorem rowsAt_first (c : Dev nD) (t : Fin cfg0.N) (h : t.val % 7 = 0) : rowsAt m c t = firstRows m c t h := by
  unfold rowsAt
  congr 1
  exact start_of t h

/-- At a later point they are those of the point before. -/
theorem rowsAt_pred (c : Dev nD) (t : Fin cfg0.N) (h : ¬ t.val % 7 = 0) (h' : t.val - 1 < cfg0.N) :
    rowsAt m c ⟨t.val - 1, h'⟩ = rowsAt m c t := by
  unfold rowsAt
  congr 1
  exact start_pred t h h'

/-- What a later point leaves in the products' block. -/
def laterProd (c : Dev nD) (t : Fin cfg0.N) (h : ¬ t.val % 7 = 0) : Vec F S1024x512 .f32 :=
  prodView.read (Elt F) (prodView.writes (Elt F) prodView.junk (laterRun c (grid0.coords t) (buf0 t) (whole0 t) (buf1 t) (whole1 t) (buf2 t) (whole2 t) (buf3 t) (whole3 t) (buf4 t) (whole4 t) (buf5 t) (whole5 t) (buf6 t) (whole6 t) (fun e => h ((first_iff t).mp e)) ((later_iff t).mpr h) (iblk m c 0 t) (iblk m c 1 t) (iblk m c 2 t) (iblk m c 3 t) (cols m c t) (rowsAt m c t)).1)

/-- What any point leaves there. -/
def prodAt (c : Dev nD) (t : Fin cfg0.N) : Vec F S1024x512 .f32 :=
  if h : t.val % 7 = 0 then firstProd m c t h else laterProd m c t h

/-! ## The whole call -/

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols m c t
    | ⟨5, _⟩ => prodAt m c t
    | ⟨6, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = cols m c t := by dsimp only [dats]
theorem after_5 (c : Dev nD) (t : Fin cfg0.N) : (dats m 0 c).after 5 t = prodAt m c t := by dsimp only [dats]
theorem after_6 (c : Dev nD) (t : Fin cfg0.N) : (dats m 0 c).after 6 t = rowsAt m c t := by dsimp only [dats]
theorem found_0 (c : Dev nD) (t : Fin cfg0.N) (d) : (dats m 0 c).before 0 t d = iblk m c 0 t := before_0 m (dats m 0 c) (A_eq m c 0) (after_0 m c) t d
theorem found_1 (c : Dev nD) (t : Fin cfg0.N) (d) : (dats m 0 c).before 1 t d = iblk m c 1 t := before_1 m (dats m 0 c) (A_eq m c 1) (after_1 m c) t d
theorem found_2 (c : Dev nD) (t : Fin cfg0.N) (d) : (dats m 0 c).before 2 t d = iblk m c 2 t := before_2 m (dats m 0 c) (A_eq m c 2) (after_2 m c) t d
theorem found_3 (c : Dev nD) (t : Fin cfg0.N) (d) : (dats m 0 c).before 3 t d = iblk m c 3 t := before_3 m (dats m 0 c) (A_eq m c 3) (after_3 m c) t d
theorem found_4 (c : Dev nD) (t : Fin cfg0.N) (d) : (dats m 0 c).before 4 t d = cols m c t := before_4 m (dats m 0 c) (A_eq m c 4) (after_4 m c) t d

/-- The rows are carried over the points that do not store them. -/
theorem carried (c : Dev nD) (t : Fin cfg0.N) (h0 : t.val ≠ 0) (hi : cfg0.idle 6 (grid0.coords t) = true) (_ : cfg0.fresh 6 t.val = false) :
    (dats m 0 c).after 6 t = (dats m 0 c).after 6 ⟨t.val - 1, by omega⟩ := by
  have h : ¬ t.val % 7 = 0 := fun e => by rw [live_6 t e] at hi; exact absurd hi Bool.false_ne_true
  rw [after_6, after_6, rowsAt_pred m c t h]

/-- So a later point finds them. -/
theorem found_6 (c : Dev nD) (t : Fin cfg0.N) (h : ¬ t.val % 7 = 0) (d) : (dats m 0 c).before 6 t d = rowsAt m c t := by
  rw [Dat.before_out_traj _ 6 rfl (fun _ _ => rfl) (carried m c) t.val t rfl d,
    if_neg (by rw [fresh_6 t]; unfold unset; simpa using h), after_6, rowsAt_pred m c t h]

/-- At a later point the rows' buffer is handed back as it was found, whether or not it is then written back. -/
theorem leaves_6 (c : Dev nD) (t : Fin cfg0.N) (h : ¬ t.val % 7 = 0) :
    owns (c : Thread nD τ) (buf6 t) fullShare (rowsAt m c t) ⊢ (dats m 0 c).leavesExact 6 t := by
  unfold Dat.leavesExact
  rw [idle_6 t h]
  cases (cfg0.win 6).flush t
  · dsimp only
    iintro H
    iexists (rowsAt m c t)
    rw [found_6 m c t h]
    iexact H
  · dsimp only
    rw [after_6]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl]
  by_cases h : t.val % 7 = 0
  ·
    rw [show (dats m 0 c).leavesExact 0 t = owns (c : Thread nD τ) (buf0 t) fullShare ((dats m 0 c).after 0 t) from by unfold Dat.leavesExact; rw [show cfg0.idle 0 (cfg0.grid.coords t) = false from rfl],
      show (dats m 0 c).leavesExact 1 t = owns (c : Thread nD τ) (buf1 t) fullShare ((dats m 0 c).after 1 t) from by unfold Dat.leavesExact; rw [show cfg0.idle 1 (cfg0.grid.coords t) = false from rfl],
      show (dats m 0 c).leavesExact 2 t = owns (c : Thread nD τ) (buf2 t) fullShare ((dats m 0 c).after 2 t) from by unfold Dat.leavesExact; rw [show cfg0.idle 2 (cfg0.grid.coords t) = false from rfl],
      show (dats m 0 c).leavesExact 3 t = owns (c : Thread nD τ) (buf3 t) fullShare ((dats m 0 c).after 3 t) from by unfold Dat.leavesExact; rw [show cfg0.idle 3 (cfg0.grid.coords t) = false from rfl],
      show (dats m 0 c).leavesExact 4 t = owns (c : Thread nD τ) (buf4 t) fullShare ((dats m 0 c).after 4 t) from by unfold Dat.leavesExact; rw [show cfg0.idle 4 (cfg0.grid.coords t) = false from rfl],
      show (dats m 0 c).leavesExact 5 t = owns (c : Thread nD τ) (buf5 t) fullShare ((dats m 0 c).after 5 t) from by unfold Dat.leavesExact; rw [show cfg0.idle 5 (cfg0.grid.coords t) = false from live_5 t],
      after_0, after_1, after_2, after_3, after_4, after_5, show (dats m 0 c).leavesExact 6 t = owns (c : Thread nD τ) (buf6 t) fullShare ((dats m 0 c).after 6 t) from by unfold Dat.leavesExact; rw [show cfg0.idle 6 (cfg0.grid.coords t) = false from live_6 t h], after_6]
    rw [show prodAt m c t = firstProd m c t h from dif_pos h, rowsAt_first m c t h]
    unfold firstProd firstRows
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t) (buf0 t) (whole0 t) (buf1 t) (whole1 t) (buf2 t) (whole2 t) (buf3 t) (whole3 t) (buf4 t) (whole4 t) (buf5 t) (whole5 t) (buf6 t) (whole6 t) ((first_iff t).mpr h) (fun e => (later_iff t).mp e h) (iblk m c 0 t) (iblk m c 1 t) (iblk m c 2 t) (iblk m c 3 t) (cols m c t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (firstCover5 c _ _ _ _ _ _ _ _ _ _ _ _ _ _ _ _ _ _ _ _ _ _)
    unfold owns; iexists _; isplitr
    swap; · iexact H6
    ipureintro; exact View.read_writes_of_cover _ _ _ _ _ (firstCover6 c _ _ _ _ _ _ _ _ _ _ _ _ _ _ _ _ _ _ _ _ _ _)
  ·
    rw [show (dats m 0 c).leavesExact 0 t = owns (c : Thread nD τ) (buf0 t) fullShare ((dats m 0 c).after 0 t) from by unfold Dat.leavesExact; rw [show cfg0.idle 0 (cfg0.grid.coords t) = false from rfl],
      show (dats m 0 c).leavesExact 1 t = owns (c : Thread nD τ) (buf1 t) fullShare ((dats m 0 c).after 1 t) from by unfold Dat.leavesExact; rw [show cfg0.idle 1 (cfg0.grid.coords t) = false from rfl],
      show (dats m 0 c).leavesExact 2 t = owns (c : Thread nD τ) (buf2 t) fullShare ((dats m 0 c).after 2 t) from by unfold Dat.leavesExact; rw [show cfg0.idle 2 (cfg0.grid.coords t) = false from rfl],
      show (dats m 0 c).leavesExact 3 t = owns (c : Thread nD τ) (buf3 t) fullShare ((dats m 0 c).after 3 t) from by unfold Dat.leavesExact; rw [show cfg0.idle 3 (cfg0.grid.coords t) = false from rfl],
      show (dats m 0 c).leavesExact 4 t = owns (c : Thread nD τ) (buf4 t) fullShare ((dats m 0 c).after 4 t) from by unfold Dat.leavesExact; rw [show cfg0.idle 4 (cfg0.grid.coords t) = false from rfl],
      show (dats m 0 c).leavesExact 5 t = owns (c : Thread nD τ) (buf5 t) fullShare ((dats m 0 c).after 5 t) from by unfold Dat.leavesExact; rw [show cfg0.idle 5 (cfg0.grid.coords t) = false from live_5 t],
      after_0, after_1, after_2, after_3, after_4, after_5]
    rw [show prodAt m c t = laterProd m c t h from dif_neg h]
    simp only [found_6 m c t h]
    unfold laterProd
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((laterRun c (grid0.coords t) (buf0 t) (whole0 t) (buf1 t) (whole1 t) (buf2 t) (whole2 t) (buf3 t) (whole3 t) (buf4 t) (whole4 t) (buf5 t) (whole5 t) (buf6 t) (whole6 t) (fun e => h ((first_iff t).mp e)) ((later_iff t).mpr h) (iblk m c 0 t) (iblk m c 1 t) (iblk m c 2 t) (iblk m c 3 t) (cols m c t) (rowsAt m c t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H6, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (laterCover5 c _ _ _ _ _ _ _ _ _ _ _ _ _ _ _ _ _ _ _ _ _ _ _)
    iapply (leaves_6 m c t h)
    iexact H6

/-- The body's table names this body. -/
theorem defs₀_row (t : Fin cfg0.N) : defs₀ (F := F) .tc cfg0.body (cfg0.bodyArgs t (cfg0.slots t)) = bodyAt0 t := by
  unfold defs₀; rw [Defs.onTc_tc]

/-- So every point meets its obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program terminates, with each window's array at what the points leave and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_runs m) (hA := A_eq m) (hΦ := fun _ _ => rfl)

/-- The same, without the counters. -/
theorem run_arrays : θ_run defs (onTc (τ := τ) (main (F := F))) (s₀ m ρ) (Pipeline.FramePost cfgs (dats m) 0 (V m)) :=
  (θ_run defs _ _).mono (fun _ h => h.1) (run_quiescent m ρ)

/-- Read at the results and at the arguments: the two arrays are what the points leave, the arguments are unchanged. -/
theorem run_results : θ_run defs (onTc (τ := τ) (main (F := F))) ⟨m, fun _ => 0, ρ⟩ (fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5, (h c).1 6,
      ((h c).2 main_arg0 (Pipeline.mem_restRefs_of main_arg0 (by decide) (by decide))).trans (V_arg0 m c),
      ((h c).1 1).trans (((dats m 0 c).arrAt_in 1 rfl _).trans ((A_eq m c 1).trans (V_arg1 m c))),
      ((h c).1 2).trans (((dats m 0 c).arrAt_in 2 rfl _).trans ((A_eq m c 2).trans (V_arg2 m c))),
      ((h c).1 3).trans (((dats m 0 c).arrAt_in 3 rfl _).trans ((A_eq m c 3).trans (V_arg3 m c))),
      ((h c).2 main_arg4 (Pipeline.mem_restRefs_of main_arg4 (by decide) (by decide))).trans (V_arg4 m c)⟩) (run_arrays m ρ)

/-- The program terminates, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2.2) (run_results m ρ))
    ((θ_run defs _ _).mono (fun _ h => h.2) (run_quiescent m ρ))

/-! ## The printed program is the same text -/

/-- The printed program's body is this one's, -/
theorem printed_body : @Cert.Norm.defs₀ F _ _ = @Cert.NormIdeal.defs₀ F _ _ := by
  unfold Cert.Norm.defs₀ Cert.NormIdeal.defs₀
  congr 1
  funext l a
  match l, a with
  | ⟨0, _⟩, a => rfl

/-- and so is its whole table. -/
theorem printed_defs : @Cert.Norm.defs F _ _ = @Cert.NormIdeal.defs F _ _ := by
  unfold Cert.Norm.defs Cert.NormIdeal.defs
  exact congrArg (Pipeline.defs (pcfgs (F := F))) (printed_body (F := F))

end Cert.NormRows

end
-- ==== Proof.NormRows.lean ====
/- The norm with its modulation and first product, over the extended reals.

   The rows' array is shown to be the reference's normed and modulated rows; the products' array, whose 3584 columns are
   the first of the weight's 7584, is shown to be the product of those rows with these columns. -/
module

public import proofs.«01_k».proof.Defs
public import proofs.«01_k».proof.Proof.NormRun
public import proofs.«01_k».proof.Proof.Gen.NormRefIdeal.Read
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormRows

open Cert.NormIdeal Cert.NormIdeal.Gen Cert.RowNorm

/-! ## The body, read at a place -/

/-- The upper half's rows. -/
theorem upper_row (x : Vec Ideal S512x2048 .f32) (g : Vec Ideal S1x2048 .f32) (s b : Vec Ideal S1x1x2048 .f32) (j : S512x2048.Idx) :
    k0_pay5 (F := Ideal) x g s b j
      = modulated (fun e => x (ix2 (j 0) e)) (g (ix2 0 (j 1))) (s (ix3 0 0 (j 1))) (b (ix3 0 0 (j 1))) (j 1) := by
  pointwise [k0_pay5, modulated, normed]

/-- The lower half's rows. -/
theorem lower_row (x : Vec Ideal S512x2048 .f32) (g : Vec Ideal S1x2048 .f32) (s b : Vec Ideal S1x1x2048 .f32) (j : S512x2048.Idx) :
    k0_pay2 (F := Ideal) (k0_pay7 x) g (k0_pay8 x) s b j
      = modulated (fun e => x (ix2 (j 0) e)) (g (ix2 0 (j 1))) (s (ix3 0 0 (j 1))) (b (ix3 0 0 (j 1))) (j 1) := by
  pointwise [k0_pay2, k0_pay7, k0_pay8, modulated, normed]

/-- The upper half's products. -/
theorem upper_prod (w : Vec Ideal S512x2048 .bf16) (x : Vec Ideal S512x2048 .f32) (g : Vec Ideal S1x2048 .f32) (s b : Vec Ideal S1x1x2048 .f32) (j : S512x512.Idx) :
    k0_pay6 (F := Ideal) (k0_pay1 w) x g s b j = ∑ k : Fin 2048, k0_pay5 (F := Ideal) x g s b (ix2 (j 0) k) * w (ix2 (j 1) k) := by
  unfold k0_pay6
  generalize k0_pay5 (F := Ideal) x g s b = p
  pointwise [k0_pay1]

/-- The lower half's products. -/
theorem lower_prod (w : Vec Ideal S512x2048 .bf16) (p : FVec Ideal S512x2048 .f32) (g : Vec Ideal S1x2048 .f32) (q : FVec Ideal S512 .f32) (s b : Vec Ideal S1x1x2048 .f32) (j : S512x512.Idx) :
    k0_pay3 (F := Ideal) w p g q s b j = ∑ k : Fin 2048, k0_pay2 (F := Ideal) p g q s b (ix2 (j 0) k) * w (ix2 (j 1) k) := by
  unfold k0_pay3
  generalize k0_pay2 (F := Ideal) p g q s b = p
  pointwise [k0_pay1]

/-- A later point's products. -/
theorem later_prod (w : Vec Ideal S512x2048 .bf16) (x : Vec Ideal S1024x2048 .bf16) (j : S1024x512.Idx) :
    k0_pay4 (F := Ideal) w x j = ∑ k : Fin 2048, x (ix2 (j 0) k) * w (ix2 (j 1) k) := by
  pointwise [k0_pay4, k0_pay1]

/-! ## The reference, read at a place -/

/-- The batch of an array row. -/
def batch (r : Fin 8192) : Fin 2 := ⟨r.val / 4096, by have := r.isLt; omega⟩

/-- The place of an array row within its batch. -/
def within (r : Fin 8192) : Fin 4096 := ⟨r.val % 4096, Nat.mod_lt _ (by decide)⟩

/-- The reference's rows. -/
theorem reference_rows (x : FVec Ideal S2x4096x2048 .f32) (g : FVec Ideal S1x2048 .f32) (s b : FVec Ideal S2x1x2048 .f32) (i : S8192x2048.Idx) :
    Cert.NormRefIdeal.Read.val_main_v24 (F := Ideal) x g s b i
      = modulated (fun e => x (ix3 (batch (i 0)) (within (i 0)) e)) (g (ix2 0 (i 1))) (s (ix3 (batch (i 0)) 0 (i 1))) (b (ix3 (batch (i 0)) 0 (i 1))) (i 1) := by
  rw [← Cert.NormRefIdeal.Read.val_main_v24_eq]
  pointwise [modulated, normed, batch, within]

/-- A column among the products', as one of the weight's. -/
def wide (d : Fin 3584) : Fin 7584 := ⟨d.val, by have := d.isLt; omega⟩

/-- The reference's products are those of its rows. -/
theorem reference_prods (x : FVec Ideal S2x4096x2048 .f32) (g : FVec Ideal S1x2048 .f32) (s b : FVec Ideal S2x1x2048 .f32) (w : FVec Ideal S1x2048x7584 .f32)
    (i : S8192x3584.Idx) :
    Cert.NormRefIdeal.Read.val_main_v23 (F := Ideal) x g s b w i
      = ∑ k : Fin 2048, Cert.NormRefIdeal.Read.val_main_v24 (F := Ideal) x g s b (ix2 (i 0) k) * w (ix3 0 k (wide (i 1))) := by
  open Cert.NormRefIdeal.Read in
  unfold val_main_v23 val_main_v22 val_main_v21 val_main_v24
  generalize Cert.NormRefIdeal.Read.val_main_v20 (F := Ideal) x g s b = p
  pointwise [wide]

/-! ## What the points hold -/

variable (m : (ℓ : Loc nD τ sig) → Buf (Elt Ideal) ℓ)

/-- The reference's arrays over this program's arguments. -/
abbrev REF1 (c : Dev nD) : FVec Ideal S8192x3584 .f32 :=
  Cert.NormRefIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
abbrev REF2 (c : Dev nD) : FVec Ideal S8192x2048 .bf16 :=
  Cert.NormRefIdeal.Read.val_main_v24 (F := Ideal) (m ((c : Thread nD τ).loc main_arg0)) (m ((c : Thread nD τ).loc main_arg1))
    (m ((c : Thread nD τ).loc main_arg2)) (m ((c : Thread nD τ).loc main_arg3))

/-- Where each window stands at each grid point. -/
theorem idx : ∀ t : Fin cfg0.N, win0_0.index t = ![t.val / 7, 0] ∧ win0_1.index t = ![0, 0]
    ∧ win0_2.index t = ![t.val / 28, 0, 0] ∧ win0_3.index t = ![t.val / 28, 0, 0] ∧ win0_4.index t = ![t.val % 7, 0]
    ∧ win0_5.index t = ![t.val / 7, t.val % 7] ∧ win0_6.index t = ![t.val / 7, 0] :=
  (by decide +kernel : ∀ t : Fin grid0.N, _)

theorem lt56 (t : Fin cfg0.N) : t.val < 56 := lt_of_lt_of_eq t.isLt N_0

/-- The array row behind row `y` of the block at point `t`, and the array column behind column `d`. -/
def row (t : Fin cfg0.N) (y : Fin 1024) : Fin 8192 := ⟨t.val / 7 * 1024 + y.val, by have := y.isLt; have := lt56 t; omega⟩
def col (t : Fin cfg0.N) (d : Fin 512) : Fin 3584 := ⟨t.val % 7 * 512 + d.val, by have := d.isLt; omega⟩

theorem row_start (t : Fin cfg0.N) (y : Fin 1024) : row (start t) y = row t y := by
  unfold row start
  exact Fin.ext (by show (t.val - t.val % 7) / 7 * 1024 + y.val = t.val / 7 * 1024 + y.val; omega)

theorem place_prod (t : Fin cfg0.N) (y : S1024x512.Idx) : ((cfg0.win 5).blk t).view.emb y = ix2 (row t (y 0)) (col t (y 1)) := by
  unfold row col
  blk_ext [idx t]

theorem place_rows (t : Fin cfg0.N) (y : S1024x2048.Idx) : ((cfg0.win 6).blk t).view.emb y = ix2 (row t (y 0)) (y 1) := by
  unfold row
  blk_ext [idx t]

/-- The weight's block, read at a place. -/
theorem cols_at (c : Dev nD) (t : Fin cfg0.N) (d : Fin 512) (k : Fin 2048) :
    cols m c t (ix2 d k) = m ((c : Thread nD τ).loc main_arg4) (ix3 0 k (wide (col t d))) := by
  unfold cols wide col
  blk_point [iblk, V, idx t]

/-- The modulated formula over what a point has read is the reference's row at the place behind it. -/
theorem row_eq (c : Dev nD) (t : Fin cfg0.N) (y : Fin 1024) (d : Fin 2048) (A : Fin 2048 → EReal)
    (hA : ∀ e, A e = (show FVec Ideal S1024x2048 .f32 from iblk m c 0 t) (ix2 y e)) :
    modulated A ((show FVec Ideal S1x2048 .f32 from iblk m c 1 t) (ix2 0 d)) ((show FVec Ideal S1x1x2048 .f32 from iblk m c 2 t) (ix3 0 0 d))
        ((show FVec Ideal S1x1x2048 .f32 from iblk m c 3 t) (ix3 0 0 d)) d
      = REF2 m c (ix2 (row t y) d) := by
  have e : A = fun e => m ((c : Thread nD τ).loc main_arg0) (ix3 (batch (row t y)) (within (row t y)) e) :=
    funext fun e => (hA e).trans (by unfold batch within row; blk_point [iblk, V, idx t])
  have ew : (show FVec Ideal S1x2048 .f32 from iblk m c 1 t) (ix2 0 d) = m ((c : Thread nD τ).loc main_arg1) (ix2 0 d) := by blk_ext [iblk, V, idx t]
  have es : (show FVec Ideal S1x1x2048 .f32 from iblk m c 2 t) (ix3 0 0 d) = m ((c : Thread nD τ).loc main_arg2) (ix3 (batch (row t y)) 0 d) := by
    unfold batch row; blk_ext [iblk, V, idx t]
  have eb : (show FVec Ideal S1x1x2048 .f32 from iblk m c 3 t) (ix3 0 0 d) = m ((c : Thread nD τ).loc main_arg3) (ix3 (batch (row t y)) 0 d) := by
    unfold batch row; blk_ext [iblk, V, idx t]
  rw [REF2, reference_rows, e, ew, es, eb]
  rfl

/-- The lower half's rows are the reference's. -/
theorem lower_eq (c : Dev nD) (t : Fin cfg0.N) (x : S512x2048.Idx) :
    k0_pay2 (F := Ideal) (k0_pay7 (View.ld (iblk m c 0 t) (Rect.unit ![512, 0] ![512, 2048] inb_S1024x2048_S512x2048_512_0))) (iblk m c 1 t)
        (k0_pay8 (View.ld (iblk m c 0 t) (Rect.unit ![512, 0] ![512, 2048] inb_S1024x2048_S512x2048_512_0))) (iblk m c 2 t) (iblk m c 3 t) x
      = REF2 m c (ix2 (row t ⟨512 + (x 0).val, by have : (x 0).val < 512 := (x 0).isLt; omega⟩) (x 1)) := by
  rw [lower_row]
  exact row_eq m c t ⟨512 + (x 0).val, by have : (x 0).val < 512 := (x 0).isLt; omega⟩ (x 1) _
    (fun e => View.ld_unit_apply_of _ _ _ _ _ _ (fun a => match a with | ⟨0, _⟩ => rfl | ⟨1, _⟩ => (Nat.zero_add _).symm))

/-- The upper half's rows are the reference's. -/
theorem upper_eq (c : Dev nD) (t : Fin cfg0.N) (x : S512x2048.Idx) :
    k0_pay5 (F := Ideal) (View.ld (iblk m c 0 t) (Rect.unit ![0, 0] ![512, 2048] inb_S1024x2048_S512x2048_0_0)) (iblk m c 1 t) (iblk m c 2 t) (iblk m c 3 t) x
      = REF2 m c (ix2 (row t ⟨(x 0).val, by have : (x 0).val < 512 := (x 0).isLt; omega⟩) (x 1)) := by
  rw [upper_row]
  exact row_eq m c t ⟨(x 0).val, by have : (x 0).val < 512 := (x 0).isLt; omega⟩ (x 1) _
    (fun e => View.ld_unit_apply_of _ _ _ _ _ _ (fun a => match a with | ⟨0, _⟩ => (Nat.zero_add _).symm | ⟨1, _⟩ => (Nat.zero_add _).symm))

/-- What a first point leaves in the rows' block is the reference's rows. -/
theorem firstRows_eq (c : Dev nD) (t : Fin cfg0.N) (h : t.val % 7 = 0) (y : S1024x2048.Idx) :
    firstRows m c t h y = REF2 m c (ix2 (row t (y 0)) (y 1)) := by
  unfold firstRows
  frame_out
  canon_tiles x h
  · exact (lower_eq m c t x).trans (congrArg (REF2 m c) (congrArg₂ ix2 (congrArg (row t) (Fin.ext h0.symm)) (Fin.ext h1.symm)))
  · exact (upper_eq m c t x).trans (congrArg (REF2 m c) (congrArg₂ ix2 (congrArg (row t) (Fin.ext h0.symm)) (Fin.ext h1.symm)))

/-- So are the rows that any point finds or leaves. -/
theorem rowsAt_eq (c : Dev nD) (t : Fin cfg0.N) (y : S1024x2048.Idx) : rowsAt m c t y = REF2 m c (ix2 (row t (y 0)) (y 1)) :=
  (firstRows_eq m c (start t) (start_mod t) y).trans (congrArg (fun r => REF2 m c (ix2 r (y 1))) (row_start t (y 0)))

/-- The product of a reference row with a column that a point has read is the reference's product. -/
theorem prod_eq (c : Dev nD) (t : Fin cfg0.N) (y : Fin 1024) (d : Fin 512) (A : Fin 2048 → EReal) (hA : ∀ k, A k = REF2 m c (ix2 (row t y) k)) :
    ∑ k : Fin 2048, A k * cols m c t (ix2 d k) = REF1 m c (ix2 (row t y) (col t d)) := by
  rw [REF1, reference_prods]
  exact Finset.sum_congr rfl fun k _ => congrArg₂ (· * ·) (hA k) (cols_at m c t d k)

/-- What a first point leaves in the products' block is the reference's products, -/
theorem firstProd_eq (c : Dev nD) (t : Fin cfg0.N) (h : t.val % 7 = 0) (y : S1024x512.Idx) :
    firstProd m c t h y = REF1 m c (ix2 (row t (y 0)) (col t (y 1))) := by
  unfold firstProd
  frame_out
  canon_tiles x h
  · rw [lower_prod]
    exact (prod_eq m c t ⟨512 + (x 0).val, by omega⟩ (x 1) _ (fun k => lower_eq m c t (ix2 (x 0) k))).trans
      (congrArg (REF1 m c) (congrArg₂ ix2 (congrArg (row t) (Fin.ext h0.symm)) (congrArg (col t) (Fin.ext h1.symm))))
  · rw [upper_prod]
    exact (prod_eq m c t ⟨(x 0).val, by omega⟩ (x 1) _ (fun k => upper_eq m c t (ix2 (x 0) k))).trans
      (congrArg (REF1 m c) (congrArg₂ ix2 (congrArg (row t) (Fin.ext h0.symm)) (congrArg (col t) (Fin.ext h1.symm))))

/-- and so is what a later point leaves there. -/
theorem laterProd_eq (c : Dev nD) (t : Fin cfg0.N) (h : ¬ t.val % 7 = 0) (y : S1024x512.Idx) :
    laterProd m c t h y = REF1 m c (ix2 (row t (y 0)) (col t (y 1))) := by
  unfold laterProd
  frame_out
  rw [later_prod]
  exact prod_eq m c t (y 0) (y 1) _ (fun k => rowsAt_eq m c t (ix2 (y 0) k))

/-! ## The arrays the run leaves -/

/-- The products' array after the run is the reference's, -/
theorem final_prod (c : Dev nD) : (dats m 0 c).arrAt 5 cfg0.N = REF1 m c := by
  refine (dats m 0 c).arrAt_eq_of_covers 5 _ (by decide +kernel) fun t hf y => ?_
  blk_simp
  rw [after_5, place_prod]
  unfold prodAt
  by_cases h : t.val % 7 = 0
  · rw [dif_pos h]
    exact firstProd_eq m c t h y
  · rw [dif_neg h]
    exact laterProd_eq m c t h y

/-- and so is the rows'. -/
theorem final_rows (c : Dev nD) : (dats m 0 c).arrAt 6 cfg0.N = REF2 m c := by
  refine (dats m 0 c).arrAt_eq_of_covers 6 _ (by decide +kernel) fun t hf y => ?_
  blk_simp
  rw [after_6, place_rows]
  exact rowsAt_eq m c t y

/-- The printed call terminates and keeps its arguments: it is the same text, so the same run serves it. -/
theorem frame_printed : Cert.quiescent_Norm := fun m g _ => by
  rw [printed_defs]
  exact frame (F := Bits) m g

/-- So does the call over the extended reals. -/
theorem frame_kernel : Cert.quiescent_NormIdeal := fun m g _ => frame m g

/-- And so does the reference. -/
theorem frame_reference : Cert.quiescent_NormRefIdeal := fun m g _ =>
  (θ_run Cert.NormRefIdeal.defs _ _).mono
    (fun r h => ⟨fun c => (h c).2.2, Idealize.ShloMosaic.sem_eq_zero_of_no_sems (by decide) r.2⟩)
    (Cert.NormRefIdeal.Value.run (F := Ideal) m g)

/-- From the same arguments the call and the reference leave the same two arrays. -/
theorem same_values : Cert.algebraic_NormIdeal_NormRefIdeal := by
  intro m g m' g' _ hagree
  refine ⟨fun c => REF1 m c, fun c => REF2 m c, ?_, ?_⟩
  · exact (θ_run Cert.NormIdeal.defs _ _).mono (fun r h c => ⟨(h c).1.trans (final_prod m c), (h c).2.1.trans (final_rows m c), (h c).2.2⟩)
      (run_results (F := Ideal) m g)
  · refine (θ_run Cert.NormRefIdeal.defs _ _).mono (fun r h c => ⟨(h c).1.trans ?_, (h c).2.1.trans ?_, (h c).2.2⟩)
      (Cert.NormRefIdeal.Value.run (F := Ideal) m' g')
    · obtain ⟨h0, h1, h2, h3, h4⟩ := hagree c
      rw [h0, h1, h2, h3, h4]
      exact Cert.NormRefIdeal.Read.val_main_v23_eq _ _ _ _ _
    · obtain ⟨h0, h1, h2, h3, h4⟩ := hagree c
      rw [h0, h1, h2, h3]
      exact Cert.NormRefIdeal.Read.val_main_v24_eq _ _ _ _

end Cert.NormRows
end
-- ==== Proof.RetFin.lean ====
/- The retention's closing: each head's row of 128 places normed, and gated.

   A grid point takes 512 rows and stores the eight heads one after another, each with its own norm.  The array left by
   the run is shown to be the reference's. -/
module

public import proofs.«01_k».proof.Defs
public import proofs.«01_k».proof.Proof.Gen.RetFinish.Frame
public import proofs.«01_k».proof.Proof.Gen.RetFinishIdeal.Value
public import proofs.«01_k».proof.Proof.Gen.RetFinishRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetFin

open Cert.RetFinishIdeal Cert.RetFinishIdeal.Gen

variable (m : (ℓ : Loc nD τ sig) → Buf (Elt Ideal) ℓ)

/-- One place of a head: the head's row normed, times the gate `g` through its sigmoid. -/
def headed (A : Fin 128 → EReal) (g : EReal) (d : Fin 128) : EReal :=
  A d * Ideal.rsqrt (Ideal.div (∑ l, A l * A l) (Ideal.ofBits FTy.f32 1124073472#32) + Ideal.ofBits FTy.f32 897988541#32) * (g * Ideal.logistic g)

/-- The column of lane `l` of the head that column `d` lies in. -/
def peer (d : Fin 1024) (l : Fin 128) : Fin 1024 := ⟨d.val / 128 * 128 + l.val, by have := d.isLt; have := l.isLt; omega⟩

/-- The gate's column behind column `d`. -/
def gcol (d : Fin 1024) : Fin 4096 := ⟨3072 + d.val, by have := d.isLt; omega⟩

/-- The reference, read at a place. -/
theorem reference_at (a b : FVec Ideal S8192x1024 .bf16) (p : FVec Ideal S8192x4096 .bf16) (i : S8192x1024.Idx) :
    Cert.RetFinishRefIdeal.Read.val_main_v19 (F := Ideal) a b p i
      = headed (fun l => a (ix2 (i 0) (peer (i 1) l)) + b (ix2 (i 0) (peer (i 1) l))) (p (ix2 (i 0) (gcol (i 1)))) ⟨(i 1).val % 128, Nat.mod_lt _ (by decide)⟩ := by
  rw [← Cert.RetFinishRefIdeal.Read.val_main_v19_eq]
  have hi : i = ix2 (i 0) (⟨(i 1).val / 128 * 128 + (i 1).val % 128, by have : (i 1).val < 1024 := (i 1).isLt; omega⟩ : Fin 1024) := by
    funext k
    match k with
    | ⟨0, _⟩ => rfl
    | ⟨1, _⟩ => exact Fin.ext (Nat.div_add_mod' (i 1).val 128).symm
  pointwise [headed, peer, gcol, Ideal.logistic]
  exact congrArg (· * _) (congrArg (· * _) (congrArg (fun z => a z + b z) hi))

/-- The column of lane `l` of head `h`. -/
def hcol (h : Nat) (hh : h < 8) (l : Fin 128) : Fin 1024 := ⟨h * 128 + l.val, by have := l.isLt; omega⟩

/-- What is stored for head 0, at a place. -/
theorem head0_at (g : FVec Ideal S512x1024 .bf16) (A B : FVec Ideal S512x128 .bf16) (x : S512x128.Idx) :
    k0_pay2 (F := Ideal) g A B x = headed (fun l => A (ix2 (x 0) l) + B (ix2 (x 0) l)) (g (ix2 (x 0) (hcol 0 (by decide) (x 1)))) (x 1) := by
  pointwise [k0_pay1, k0_pay2, k0_pay3, k0_pay4, k0_pay5, k0_pay6, k0_pay7, k0_pay8, k0_pay9, k0_pay10, headed, hcol]

/-- What is stored for head 1, at a place. -/
theorem head1_at (g : FVec Ideal S512x1024 .bf16) (A B : FVec Ideal S512x128 .bf16) (x : S512x128.Idx) :
    k0_pay4 (F := Ideal) (k0_pay3 (F := Ideal) g A B) x = headed (fun l => A (ix2 (x 0) l) + B (ix2 (x 0) l)) (g (ix2 (x 0) (hcol 1 (by decide) (x 1)))) (x 1) := by
  pointwise [k0_pay1, k0_pay2, k0_pay3, k0_pay4, k0_pay5, k0_pay6, k0_pay7, k0_pay8, k0_pay9, k0_pay10, headed, hcol]

/-- What is stored for head 2, at a place. -/
theorem head2_at (g : FVec Ideal S512x1024 .bf16) (A B : FVec Ideal S512x128 .bf16) (x : S512x128.Idx) :
    k0_pay5 (F := Ideal) (k0_pay1 (F := Ideal) g) A B x = headed (fun l => A (ix2 (x 0) l) + B (ix2 (x 0) l)) (g (ix2 (x 0) (hcol 2 (by decide) (x 1)))) (x 1) := by
  pointwise [k0_pay1, k0_pay2, k0_pay3, k0_pay4, k0_pay5, k0_pay6, k0_pay7, k0_pay8, k0_pay9, k0_pay10, headed, hcol]

/-- What is stored for head 3, at a place. -/
theorem head3_at (g : FVec Ideal S512x1024 .bf16) (A B : FVec Ideal S512x128 .bf16) (x : S512x128.Idx) :
    k0_pay6 (F := Ideal) (k0_pay1 (F := Ideal) g) A B x = headed (fun l => A (ix2 (x 0) l) + B (ix2 (x 0) l)) (g (ix2 (x 0) (hcol 3 (by decide) (x 1)))) (x 1) := by
  pointwise [k0_pay1, k0_pay2, k0_pay3, k0_pay4, k0_pay5, k0_pay6, k0_pay7, k0_pay8, k0_pay9, k0_pay10, headed, hcol]

/-- What is stored for head 4, at a place. -/
theorem head4_at (g : FVec Ideal S512x1024 .bf16) (A B : FVec Ideal S512x128 .bf16) (x : S512x128.Idx) :
    k0_pay7 (F := Ideal) (k0_pay1 (F := Ideal) g) A B x = headed (fun l => A (ix2 (x 0) l) + B (ix2 (x 0) l)) (g (ix2 (x 0) (hcol 4 (by decide) (x 1)))) (x 1) := by
  pointwise [k0_pay1, k0_pay2, k0_pay3, k0_pay4, k0_pay5, k0_pay6, k0_pay7, k0_pay8, k0_pay9, k0_pay10, headed, hcol]

/-- What is stored for head 5, at a place. -/
theorem head5_at (g : FVec Ideal S512x1024 .bf16) (A B : FVec Ideal S512x128 .bf16) (x : S512x128.Idx) :
    k0_pay8 (F := Ideal) (k0_pay1 (F := Ideal) g) A B x = headed (fun l => A (ix2 (x 0) l) + B (ix2 (x 0) l)) (g (ix2 (x 0) (hcol 5 (by decide) (x 1)))) (x 1) := by
  pointwise [k0_pay1, k0_pay2, k0_pay3, k0_pay4, k0_pay5, k0_pay6, k0_pay7, k0_pay8, k0_pay9, k0_pay10, headed, hcol]

/-- What is stored for head 6, at a place. -/
theorem head6_at (g : FVec Ideal S512x1024 .bf16) (A B : FVec Ideal S512x128 .bf16) (x : S512x128.Idx) :
    k0_pay9 (F := Ideal) (k0_pay1 (F := Ideal) g) A B x = headed (fun l => A (ix2 (x 0) l) + B (ix2 (x 0) l)) (g (ix2 (x 0) (hcol 6 (by decide) (x 1)))) (x 1) := by
  pointwise [k0_pay1, k0_pay2, k0_pay3, k0_pay4, k0_pay5, k0_pay6, k0_pay7, k0_pay8, k0_pay9, k0_pay10, headed, hcol]

/-- What is stored for head 7, at a place. -/
theorem head7_at (g : FVec Ideal S512x1024 .bf16) (A B : FVec Ideal S512x128 .bf16) (x : S512x128.Idx) :
    k0_pay10 (F := Ideal) (k0_pay1 (F := Ideal) g) A B x = headed (fun l => A (ix2 (x 0) l) + B (ix2 (x 0) l)) (g (ix2 (x 0) (hcol 7 (by decide) (x 1)))) (x 1) := by
  pointwise [k0_pay1, k0_pay2, k0_pay3, k0_pay4, k0_pay5, k0_pay6, k0_pay7, k0_pay8, k0_pay9, k0_pay10, headed, hcol]

/-- Where each window stands at each grid point. -/
theorem idx : ∀ t : Fin cfg0.N, win0_0.index t = ![t.val, 0] ∧ win0_1.index t = ![t.val, 0]
    ∧ win0_2.index t = ![t.val, 3] ∧ win0_3.index t = ![t.val, 0] :=
  (by decide +kernel : ∀ t : Fin grid0.N, _)

/-- The reference's array over this program's arguments. -/
abbrev REF (c : Dev nD) : FVec Ideal S8192x1024 .bf16 :=
  Cert.RetFinishRefIdeal.Read.val_main_v19 (F := Ideal) (m ((c : Thread nD τ).loc main_arg0)) (m ((c : Thread nD τ).loc main_arg1))
    (m ((c : Thread nD τ).loc main_arg2))

/-- The array row behind row `y` of the block at point `t`. -/
def row (t : Fin cfg0.N) (y : Fin 512) : Fin 8192 :=
  ⟨t.val * 512 + y.val, by have := y.isLt; have := t.isLt; have : cfg0.N = 16 := N_0; omega⟩

/-- The array place behind a block place. -/
theorem place (t : Fin cfg0.N) (y : S512x1024.Idx) : ((cfg0.win 3).blk t).view.emb y = ix2 (row t (y 0)) (y 1) := by
  unfold row
  blk_ext [idx t]

/-- The first scan's block, read at a place. -/
theorem first_at (c : Dev nD) (t : Fin cfg0.N) (r : Fin 512) (d : Fin 1024) :
    iblk m c 0 t (ix2 r d) = m ((c : Thread nD τ).loc main_arg0) (ix2 (row t r) d) := by
  unfold row
  blk_point [iblk, V, idx t]

/-- The second scan's block, read at a place. -/
theorem second_at (c : Dev nD) (t : Fin cfg0.N) (r : Fin 512) (d : Fin 1024) :
    iblk m c 1 t (ix2 r d) = m ((c : Thread nD τ).loc main_arg1) (ix2 (row t r) d) := by
  unfold row
  blk_point [iblk, V, idx t]

/-- The gate's block, read at a place. -/
theorem gate_at (c : Dev nD) (t : Fin cfg0.N) (r : Fin 512) (d : Fin 1024) :
    iblk m c 2 t (ix2 r d) = m ((c : Thread nD τ).loc main_arg2) (ix2 (row t r) (gcol d)) := by
  unfold row gcol
  blk_point [iblk, V, idx t]

/-- What is stored for head `h` at block place `x` is the reference at the array place `y` of the block. -/
theorem piece (c : Dev nD) (t : Fin cfg0.N) (h : Nat) (hh : h < 8) (x : S512x128.Idx) (y0 : Fin 512) (y1 : Fin 1024)
    (A B : FVec Ideal S512x128 .bf16) (h0 : y0.val = (x 0).val) (h1 : y1.val = h * 128 + (x 1).val)
    (hA : ∀ l, A (ix2 (x 0) l) = iblk m c 0 t (ix2 (x 0) (hcol h hh l)))
    (hB : ∀ l, B (ix2 (x 0) l) = iblk m c 1 t (ix2 (x 0) (hcol h hh l))) :
    headed (fun l => A (ix2 (x 0) l) + B (ix2 (x 0) l)) (iblk m c 2 t (ix2 (x 0) (hcol h hh (x 1)))) (x 1)
      = REF m c (ix2 (row t y0) y1) := by
  have e0 : (x 0 : Fin 512) = y0 := Fin.ext h0.symm
  have e1 : hcol h hh (x 1) = y1 := Fin.ext h1.symm
  have hx : (x 1).val < 128 := (x 1).isLt
  have e2 : (x 1 : Fin 128) = ⟨y1.val % 128, Nat.mod_lt _ (by decide)⟩ := Fin.ext (by show (x 1).val = y1.val % 128; omega)
  have e3 : ∀ l, hcol h hh l = peer y1 l := fun l => Fin.ext (by show h * 128 + l.val = y1.val / 128 * 128 + l.val; omega)
  refine Eq.trans ?_ (reference_at _ _ _ _).symm
  have f : (fun l => A (ix2 (x 0) l) + B (ix2 (x 0) l))
      = fun l => (show EReal from m ((c : Thread nD τ).loc main_arg0) (ix2 (row t y0) (peer y1 l)))
          + (show EReal from m ((c : Thread nD τ).loc main_arg1) (ix2 (row t y0) (peer y1 l))) :=
    funext fun l => by
      rw [hA, hB]
      refine congrArg₂ (fun (u v : EReal) => u + v) ?_ ?_
      · refine (first_at m c t _ _).trans ?_
        rw [e3]
        exact congrArg (fun r => m ((c : Thread nD τ).loc main_arg0) (ix2 (row t r) (peer y1 l))) e0
      · refine (second_at m c t _ _).trans ?_
        rw [e3]
        exact congrArg (fun r => m ((c : Thread nD τ).loc main_arg1) (ix2 (row t r) (peer y1 l))) e0
  have g : iblk m c 2 t (ix2 (x 0) (hcol h hh (x 1))) = m ((c : Thread nD τ).loc main_arg2) (ix2 (row t y0) (gcol y1)) := by
    refine (gate_at m c t _ _).trans ?_
    rw [e1]
    exact congrArg (fun r => m ((c : Thread nD τ).loc main_arg2) (ix2 (row t r) (gcol y1))) e0
  rw [f, g]
  exact congrArg (headed _ _) e2

/-- The array after the run is the reference's. -/
theorem final (c : Dev nD) : (dats m 0 c).arrAt 3 cfg0.N = REF m c := by
  refine (dats m 0 c).arrAt_eq_of_covers 3 _ (by decide +kernel) fun t hf y => ?_
  blk_simp
  rw [after0_3, place]
  unfold_out out0_3
  frame_out
  canon_tiles x h
  · rw [head7_at]
    exact piece m c t 7 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head6_at]
    exact piece m c t 6 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head5_at]
    exact piece m c t 5 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head4_at]
    exact piece m c t 4 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head3_at]
    exact piece m c t 3 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head2_at]
    exact piece m c t 2 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head1_at]
    exact piece m c t 1 (by decide) x (y 0) (y 1) _ _ h0 h1
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))
  · rw [head0_at]
    exact piece m c t 0 (by decide) x (y 0) (y 1) _ _ h0 (h1.trans (Nat.zero_add _).symm)
      (fun l => View.ld_unit_apply_of _ _ _ _ _ _ (fun a => match a with | ⟨0, _⟩ => (Nat.zero_add _).symm | ⟨1, _⟩ => rfl))
      (fun l => View.ld_unit_apply_of _ _ _ _ _ _ (fun a => match a with | ⟨0, _⟩ => (Nat.zero_add _).symm | ⟨1, _⟩ => rfl))

/-- The printed call terminates and keeps its arguments. -/
theorem frame_printed : Cert.quiescent_RetFinish := fun m g _ => Cert.RetFinish.Gen.frame m g

/-- So does the call over the extended reals. -/
theorem frame_kernel : Cert.quiescent_RetFinishIdeal := fun m g _ => Cert.RetFinishIdeal.Gen.frame m g

/-- And so does the reference. -/
theorem frame_reference : Cert.quiescent_RetFinishRefIdeal := fun m g _ =>
  (θ_run Cert.RetFinishRefIdeal.defs _ _).mono
    (fun r h => ⟨fun c => (h c).2, Idealize.ShloMosaic.sem_eq_zero_of_no_sems (by decide) r.2⟩)
    (Cert.RetFinishRefIdeal.Value.run (F := Ideal) m g)

/-- From the same arguments the call and the reference leave the same array. -/
theorem same_values : Cert.algebraic_RetFinishIdeal_RetFinishRefIdeal := by
  intro m g m' g' _ hagree
  refine ⟨fun c => REF m c, ?_, ?_⟩
  · exact (θ_run Cert.RetFinishIdeal.defs _ _).mono (fun r h c => ⟨(h c).1.trans (final m c), (h c).2⟩)
      (Cert.RetFinishIdeal.Value.run_blocks (F := Ideal) m g)
  · refine (θ_run Cert.RetFinishRefIdeal.defs _ _).mono (fun r h c => ⟨(h c).1.trans ?_, (h c).2⟩)
      (Cert.RetFinishRefIdeal.Value.run (F := Ideal) m' g')
    rw [(hagree c).1, (hagree c).2.1, (hagree c).2.2, Cert.RetFinishRefIdeal.Read.val_main_v19_eq]

end Cert.RetFin
end
-- ==== Proof.CtxCols.lean ====
/- The column-range product of the input projection on the 512 context rows, read at an index.

   The weight window is again placed by element: grid point (i, j) takes the rows `3488 + 1024 * j …` of the transposed
   projection, and a block of the result is 256 by 1024.  The array left by the run is shown to be the plain product with
   the sliced matrix. -/
module

public import proofs.«01_k».proof.Defs
public import proofs.«01_k».proof.Proof.Gen.CtxMm.Frame
public import proofs.«01_k».proof.Proof.Gen.CtxMmIdeal.Value
public import proofs.«01_k».proof.Proof.Gen.CtxMmRefIdeal.Read
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.CtxCols
open Cert.CtxMmIdeal Cert.CtxMmIdeal.Gen
variable (m : (ℓ : Loc nD τ sig) → Buf (Elt Ideal) ℓ)

/-- Where each window stands at each grid point. -/
theorem idx : ∀ t : Fin cfg0.N, win0_0.index t = ![(grid0.coords t 0).val, 0]
    ∧ win0_1.index t = ![3488 + 1024 * (grid0.coords t 1).val, 0]
    ∧ win0_2.index t = ![(grid0.coords t 0).val, (grid0.coords t 1).val] :=
  (by decide +kernel : ∀ t : Fin grid0.N, _)

/-- The weight window's place in its array, along each axis: the window is placed by element. -/
theorem place1 (t : Fin cfg0.N) (z : S1024x2048.Idx) (a : Fin 2) :
    ((((View.whole main_v2).slice (win0_1.rect t)).emb z) a : Nat) = win0_1.index t a + (z a : Nat) :=
  Pipeline.Window.rect_emb_val_off win0_1 t z a

/-- What grid point `t` stores at block place `y` is the plain product at the array place of `y`. -/
theorem point (c : Dev nD) (t : Fin cfg0.N) (y : S256x1024.Idx) :
    k0_pay1 (iblk m c 0 t) (iblk m c 1 t) y
      = Cert.CtxMmRefIdeal.Read.val_main_v4 (F := Ideal) (m ((c : Thread nD τ).loc main_arg0)) (m ((c : Thread nD τ).loc main_arg1))
          (((cfg0.win 2).blk t).view.emb y) := by
  rw [← Cert.CtxMmRefIdeal.Read.val_main_v4_eq]
  pointwise [k0_pay1]
  blk_point [iblk, V, idx t]
  · rw [place1, (idx t).2.1]
    show 0 + k.val = k.val
    omega
  · rw [place1, (idx t).2.1]
    show 3488 + 1024 * (grid0.coords t 1).val + (y 1).val = 3488 + ((grid0.coords t 1).val * 1024 + (y 1).val)
    omega

/-- The array after the run is the plain product with the sliced matrix. -/
theorem final (c : Dev nD) : (dats m 0 c).arrAt 2 cfg0.N
    = Cert.CtxMmRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The printed call terminates and keeps its arguments. -/
theorem frame_printed : Cert.quiescent_CtxMm := fun m g _ => Cert.CtxMm.Gen.frame m g

/-- So does the call over the extended reals. -/
theorem frame_kernel : Cert.quiescent_CtxMmIdeal := fun m g _ => Cert.CtxMmIdeal.Gen.frame m g

/-- And so does the reference. -/
theorem frame_reference : Cert.quiescent_CtxMmRefIdeal := fun m g _ =>
  (θ_run Cert.CtxMmRefIdeal.defs _ _).mono
    (fun r h => ⟨fun c => (h c).2, Idealize.ShloMosaic.sem_eq_zero_of_no_sems (by decide) r.2⟩)
    (Cert.CtxMmRefIdeal.Value.run (F := Ideal) m g)

/-- From the same arguments the call and the reference leave the same array. -/
theorem same_values : Cert.algebraic_CtxMmIdeal_CtxMmRefIdeal := by
  intro m g m' g' _ hagree
  refine ⟨fun c => Cert.CtxMmRefIdeal.Read.val_main_v4 (F := Ideal) (m ((c : Thread nD τ).loc main_arg0))
    (m ((c : Thread nD τ).loc main_arg1)), ?_, ?_⟩
  · exact (θ_run Cert.CtxMmIdeal.defs _ _).mono (fun r h c => ⟨(h c).1.trans (final m c), (h c).2⟩)
      (Cert.CtxMmIdeal.Value.run_blocks (F := Ideal) m g)
  · refine (θ_run Cert.CtxMmRefIdeal.defs _ _).mono (fun r h c => ⟨(h c).1.trans ?_, (h c).2⟩)
      (Cert.CtxMmRefIdeal.Value.run (F := Ideal) m' g')
    rw [(hagree c).1, (hagree c).2, Cert.CtxMmRefIdeal.Read.val_main_v4_eq]

end Cert.CtxCols
end
-- ==== Proof.CtxRun.lean ====
/- The norm with its modulation and first product: the call's run, for any float values.

   Every grid point takes a block of 256 rows and a block of 512 columns.  The first point of a row block's seven norms
   and modulates the rows, in two halves, keeps them in the second result's block and multiplies each half at once; the
   six points after it find the rows there and multiply them.  So the second result's block, stored into at the first
   point only, is written back at the seventh: it is carried over the points between. -/
module

public import proofs.«01_k».proof.Proof.Gen.CtxNorm.Launch
public import proofs.«01_k».proof.Proof.Gen.CtxNormIdeal.Launch
public import proofs.«01_k».proof.Proof.Gen.CtxNormIdeal.Skeleton
public import proofs.«01_k».proof.Proof.Gen.CtxNormIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.CtxRows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CtxNormIdeal Cert.CtxNormIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call finds -/

/-- The buffers as the call finds them: after the host's operations on the weight and the rows. -/
abbrev V (c : Dev nD) (b : Ref sig .tc) : Buf (Elt F) ((c : Thread nD τ).loc b) := StableHlo.after hostOps0 (fun b => m (c, b)) b

/-- The program is those operations and then the call. -/
theorem main_runs : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub (by simp only [List.Forall]; repeat' constructor) main_chain

/-- Argument 0 is as it was given. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 1 is as it was given. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 2 is as it was given. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 3 is as it was given. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Argument 4 is as it was given. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The block of window `w` at point `t`, as the call finds the window's array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The seven column blocks lie inside the weight, so no fetch of one is cut. -/
theorem uncut : ∀ (t : Fin cfg0.N) a, (cfg0.win 4).clip (cfg0.grid.coords t) a = none :=
  (by decide +kernel : ∀ (t : Fin grid0.N) a, win0_4.clip (grid0.coords t) a = none)

theorem moved (t : Fin cfg0.N) (j : (cfg0.win 4).block.Idx) : (cfg0.win 4).moved (cfg0.grid.coords t) j = true :=
  ((cfg0.win 4).moved_iff _ j).mpr fun a => by have := (j a).isLt; unfold Window.xsize; rw [uncut t a]; exact this

/-- The block of 512 columns that point `t` multiplies by. -/
def cols (c : Dev nD) (t : Fin cfg0.N) : Vec F S512x2048 .bf16 := fun j =>
  iblk m c 4 t fun a => ⟨(j a).val, ((cfg0.win 4).moved_iff _ j).mp (moved t j) a⟩

/-- Window 0's buffer holds its block at every point. -/
theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]) t d).trans
    (by unfold Dat.fetched Dat.blockOf iblk; rw [hA]; rfl)

/-- Window 1's buffer holds its block at every point. -/
theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]) t d).trans
    (by unfold Dat.fetched Dat.blockOf iblk; rw [hA]; rfl)

/-- Window 2's buffer holds its block at every point. -/
theorem before_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]) t d).trans
    (by unfold Dat.fetched Dat.blockOf iblk; rw [hA]; rfl)

/-- Window 3's buffer holds its block at every point. -/
theorem before_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]) t d).trans
    (by unfold Dat.fetched Dat.blockOf iblk; rw [hA]; rfl)

/-- And so does the weight's. -/
theorem before_4 {c : Dev nD} (dat : Dat τ (Elt F) Unit ℕ (UR sig nD τ) ℕ cfg0 c) (hA : dat.A 4 = V m c (Pipeline.arrRef spec0 4))
    (hafter : ∀ t, dat.after 4 t = cols m c t) (t : Fin cfg0.N) (d) : dat.before 4 t d = cols m c t := by
  refine (dat.before_in_eq_fetched 4 rfl (fun _ => rfl) (fun t t' _ => funext fun a => (uncut t a).trans (uncut t' a).symm)
    (fun t => by rw [hafter]; unfold Dat.blockOf cols iblk; rw [hA]) t d).trans ?_
  funext j
  unfold Dat.fetched Window.fill Dat.blockOf cols iblk
  rw [dif_pos (moved t j), hA]

/-! ## Which points are which -/

/-- A point is the first of its row block's seven. -/
abbrev isFirst (i : grid0.Coords) : Prop := k0_cond1 i = 1#1
/-- A point is one of the six after it. -/
abbrev isLater (i : grid0.Coords) : Prop := k0_cond2 i = 1#1

theorem first_iff : ∀ t : Fin cfg0.N, isFirst (grid0.coords t) ↔ t.val % 7 = 0 :=
  (by decide +kernel : ∀ t : Fin grid0.N, isFirst (grid0.coords t) ↔ t.val % 7 = 0)
theorem later_iff : ∀ t : Fin cfg0.N, isLater (grid0.coords t) ↔ ¬ t.val % 7 = 0 :=
  (by decide +kernel : ∀ t : Fin grid0.N, isLater (grid0.coords t) ↔ ¬ t.val % 7 = 0)

/-- The products' block is stored into at every point; the rows' block at a first point only. -/
theorem live_5 : ∀ t : Fin cfg0.N, cfg0.idle 5 (grid0.coords t) = false := (by decide +kernel)
theorem live_6 : ∀ t : Fin cfg0.N, t.val % 7 = 0 → cfg0.idle 6 (grid0.coords t) = false := (by decide +kernel)
theorem idle_6 : ∀ t : Fin cfg0.N, ¬ t.val % 7 = 0 → cfg0.idle 6 (grid0.coords t) = true := (by decide +kernel)

/-- Whether the rows' buffer holds nothing of this row block yet: just before a first point. -/
def unset : ℕ → Bool := fun n => n % 7 == 0
theorem unset_step : ∀ t : Fin cfg0.N,
    unset (t.val + 1) = ((cfg0.win 6).flush t || (cfg0.idle 6 (cfg0.grid.coords t) && unset t.val)) := by decide +kernel
theorem fresh_6 (t : Fin cfg0.N) : cfg0.fresh 6 t.val = unset t.val :=
  Pipeline.Cfg.fresh_tab cfg0 6 unset rfl unset_step t.val (Nat.le_of_lt t.isLt)

/-! ## The body, at a first point and at a later one -/

/-- Window 0's buffer at point `t`. -/
abbrev buf0 (t : Fin cfg0.N) : Memref sig .tc .vmem S256x2048 .f32 := win0_0.stage (cfg0.slots t 0)
abbrev whole0 (t : Fin cfg0.N) : (buf0 t).IsWhole := hstage0_0 ((cfg0.slots t 0).cast nbuf0_0)
/-- Window 1's buffer at point `t`. -/
abbrev buf1 (t : Fin cfg0.N) : Memref sig .tc .vmem S1x2048 .f32 := win0_1.stage (cfg0.slots t 1)
abbrev whole1 (t : Fin cfg0.N) : (buf1 t).IsWhole := hstage0_1 ((cfg0.slots t 1).cast nbuf0_1)
/-- Window 2's buffer at point `t`. -/
abbrev buf2 (t : Fin cfg0.N) : Memref sig .tc .vmem S1x1x2048 .f32 := win0_2.stage (cfg0.slots t 2)
abbrev whole2 (t : Fin cfg0.N) : (buf2 t).IsWhole := hstage0_2 ((cfg0.slots t 2).cast nbuf0_2)
/-- Window 3's buffer at point `t`. -/
abbrev buf3 (t : Fin cfg0.N) : Memref sig .tc .vmem S1x1x2048 .f32 := win0_3.stage (cfg0.slots t 3)
abbrev whole3 (t : Fin cfg0.N) : (buf3 t).IsWhole := hstage0_3 ((cfg0.slots t 3).cast nbuf0_3)
/-- Window 4's buffer at point `t`. -/
abbrev buf4 (t : Fin cfg0.N) : Memref sig .tc .vmem S512x2048 .bf16 := win0_4.stage (cfg0.slots t 4)
abbrev whole4 (t : Fin cfg0.N) : (buf4 t).IsWhole := hstage0_4 ((cfg0.slots t 4).cast nbuf0_4)
/-- Window 5's buffer at point `t`. -/
abbrev buf5 (t : Fin cfg0.N) : Memref sig .tc .vmem S256x512 .f32 := win0_5.stage (cfg0.slots t 5)
abbrev whole5 (t : Fin cfg0.N) : (buf5 t).IsWhole := hstage0_5 ((cfg0.slots t 5).cast nbuf0_5)
/-- Window 6's buffer at point `t`. -/
abbrev buf6 (t : Fin cfg0.N) : Memref sig .tc .vmem S256x2048 .bf16 := win0_6.stage (cfg0.slots t 6)
abbrev whole6 (t : Fin cfg0.N) : (buf6 t).IsWhole := hstage0_6 ((cfg0.slots t 6).cast nbuf0_6)

set_option maxHeartbeats 1000000 in
/-- A first point, on any whole buffers: what it stores into the products' block and into the rows' block, with the proof
    that it runs and leaves the inputs as they were. -/
noncomputable def firstRun (c : Dev nD) (i : grid0.Coords) (b0 : Memref sig .tc .vmem S256x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S256x512 .f32) (w5 : b5.IsWhole) (b6 : Memref sig .tc .vmem S256x2048 .bf16) (w6 : b6.IsWhole) (hf : isFirst i) (hl : ¬ isLater i)
    (x0 : Vec F S256x2048 .f32) (x1 : Vec F S1x2048 .f32) (x2 : Vec F S1x1x2048 .f32) (x3 : Vec F S1x1x2048 .f32) (x4 : Vec F S512x2048 .bf16) :
    Σ' (L5 : List (View.Piece (Elt F) S256x512 .f32)), { L6 : List (View.Piece (Elt F) S256x2048 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ (∃ d, owns (c : Thread nD τ) b5 fullShare d) ∗ (∃ d, owns (c : Thread nD τ) b6 fullShare d)
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ (∃ f, b5.view.loc (c : Thread nD τ) ↦[b5.view.set]{fullShare} b5.view.writes (Elt F) f L5) ∗ (∃ f, b6.view.loc (c : Thread nD τ) ↦[b6.view.set]{fullShare} b6.view.writes (Elt F) f L6)) -∗ K ⟨⟩))
          ⊢ wp frame (wpE (defs₀ (F := F)) Variants.none c none) E (cc0_norm_mod_matmul i b0 w0 b1 w1 b2 w2 b3 w3 b4 w4 b5 w5 b6 w6) K } := by
  refine ⟨?_, ?_, fun E K => ?run⟩
  case run =>
    simp only [cc0_norm_mod_matmul_eq_skeleton]; unfold cc0_norm_mod_matmul_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := w0.eq_unread hf0; obtain rfl := w1.eq_unread hf1; obtain rfl := w2.eq_unread hf2; obtain rfl := w3.eq_unread hf3; obtain rfl := w4.eq_unread hf4
    sl_exec (disch := first | sl_exact hf | sl_exact hl)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]; · iexists _; iexact H5
    iexists _; iexact H6

set_option maxHeartbeats 1000000 in
/-- A later point, on any whole buffers, with the rows' block at `x6`: what it stores into the products' block, with the
    proof that it runs and leaves the inputs and the rows as they were. -/
noncomputable def laterRun (c : Dev nD) (i : grid0.Coords) (b0 : Memref sig .tc .vmem S256x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S256x512 .f32) (w5 : b5.IsWhole) (b6 : Memref sig .tc .vmem S256x2048 .bf16) (w6 : b6.IsWhole) (hf : ¬ isFirst i) (hl : isLater i)
    (x0 : Vec F S256x2048 .f32) (x1 : Vec F S1x2048 .f32) (x2 : Vec F S1x1x2048 .f32) (x3 : Vec F S1x1x2048 .f32) (x4 : Vec F S512x2048 .bf16) (x6 : Vec F S256x2048 .bf16) :
    { L5 : List (View.Piece (Elt F) S256x512 .f32) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ (∃ d, owns (c : Thread nD τ) b5 fullShare d) ∗ owns (c : Thread nD τ) b6 fullShare x6
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b6 fullShare x6 ∗ (∃ f, b5.view.loc (c : Thread nD τ) ↦[b5.view.set]{fullShare} b5.view.writes (Elt F) f L5)) -∗ K ⟨⟩))
          ⊢ wp frame (wpE (defs₀ (F := F)) Variants.none c none) E (cc0_norm_mod_matmul i b0 w0 b1 w1 b2 w2 b3 w3 b4 w4 b5 w5 b6 w6) K } := by
  refine ⟨?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := w0.eq_unread hf0; obtain rfl := w1.eq_unread hf1; obtain rfl := w2.eq_unread hf2; obtain rfl := w3.eq_unread hf3; obtain rfl := w4.eq_unread hf4; obtain rfl := w6.eq_unread hf6
    sl_exec (disch := first | sl_exact hf | sl_exact hl)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H6]
    · iexists _; isplitr; · ipureintro; exact w6.read_unread _
      iexact H6
    iexists _; iexact H5

/-- A first point's two stores fill the products' block. -/
theorem firstCover5 (c : Dev nD) (i : grid0.Coords) (b0 : Memref sig .tc .vmem S256x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S256x512 .f32) (w5 : b5.IsWhole) (b6 : Memref sig .tc .vmem S256x2048 .bf16) (w6 : b6.IsWhole) (hf : isFirst i) (hl : ¬ isLater i)
    (x0 : Vec F S256x2048 .f32) (x1 : Vec F S1x2048 .f32) (x2 : Vec F S1x1x2048 .f32) (x3 : Vec F S1x1x2048 .f32) (x4 : Vec F S512x2048 .bf16) (y : S256x512.Idx) : ∃ pc ∈ (firstRun c i b0 w0 b1 w1 b2 w2 b3 w3 b4 w4 b5 w5 b6 w6 hf hl x0 x1 x2 x3 x4).1, y ∈ pc.1.set :=
  View.cover_of_tiledL (firstRun c i b0 w0 b1 w1 b2 w2 b3 w3 b4 w4 b5 w5 b6 w6 hf hl x0 x1 x2 x3 x4).1 S128x512.size (by sl_kernel_rfl) y

/-- A first point's two stores fill the rows' block. -/
theorem firstCover6 (c : Dev nD) (i : grid0.Coords) (b0 : Memref sig .tc .vmem S256x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S256x512 .f32) (w5 : b5.IsWhole) (b6 : Memref sig .tc .vmem S256x2048 .bf16) (w6 : b6.IsWhole) (hf : isFirst i) (hl : ¬ isLater i)
    (x0 : Vec F S256x2048 .f32) (x1 : Vec F S1x2048 .f32) (x2 : Vec F S1x1x2048 .f32) (x3 : Vec F S1x1x2048 .f32) (x4 : Vec F S512x2048 .bf16) (y : S256x2048.Idx) : ∃ pc ∈ (firstRun c i b0 w0 b1 w1 b2 w2 b3 w3 b4 w4 b5 w5 b6 w6 hf hl x0 x1 x2 x3 x4).2.1, y ∈ pc.1.set :=
  View.cover_of_tiledL (firstRun c i b0 w0 b1 w1 b2 w2 b3 w3 b4 w4 b5 w5 b6 w6 hf hl x0 x1 x2 x3 x4).2.1 S128x2048.size (by sl_kernel_rfl) y

/-- A later point's one store fills the products' block. -/
theorem laterCover5 (c : Dev nD) (i : grid0.Coords) (b0 : Memref sig .tc .vmem S256x2048 .f32) (w0 : b0.IsWhole) (b1 : Memref sig .tc .vmem S1x2048 .f32) (w1 : b1.IsWhole) (b2 : Memref sig .tc .vmem S1x1x2048 .f32) (w2 : b2.IsWhole) (b3 : Memref sig .tc .vmem S1x1x2048 .f32) (w3 : b3.IsWhole) (b4 : Memref sig .tc .vmem S512x2048 .bf16) (w4 : b4.IsWhole) (b5 : Memref sig .tc .vmem S256x512 .f32) (w5 : b5.IsWhole) (b6 : Memref sig .tc .vmem S256x2048 .bf16) (w6 : b6.IsWhole) (hf : ¬ isFirst i) (hl : isLater i)
    (x0 : Vec F S256x2048 .f32) (x1 : Vec F S1x2048 .f32) (x2 : Vec F S1x1x2048 .f32) (x3 : Vec F S1x1x2048 .f32) (x4 : Vec F S512x2048 .bf16) (x6 : Vec F S256x2048 .bf16) (y : S256x512.Idx) : ∃ pc ∈ (laterRun c i b0 w0 b1 w1 b2 w2 b3 w3 b4 w4 b5 w5 b6 w6 hf hl x0 x1 x2 x3 x4 x6).1, y ∈ pc.1.set :=
  View.cover_of_tiledL (laterRun c i b0 w0 b1 w1 b2 w2 b3 w3 b4 w4 b5 w5 b6 w6 hf hl x0 x1 x2 x3 x4 x6).1 S256x512.size (by sl_kernel_rfl) y

/-- A buffer of each result, through which its contents are read. -/
abbrev prodView : View sig .tc .vmem S256x512 .f32 := (Memref.whole cc0_stg5_0 : Memref sig .tc .vmem S256x512 .f32).view
abbrev rowView : View sig .tc .vmem S256x2048 .bf16 := (Memref.whole cc0_stg6_0 : Memref sig .tc .vmem S256x2048 .bf16).view

/-- What a first point leaves in the products' block, -/
def firstProd (c : Dev nD) (t : Fin cfg0.N) (h : t.val % 7 = 0) : Vec F S256x512 .f32 :=
  prodView.read (Elt F) (prodView.writes (Elt F) prodView.junk (firstRun c (grid0.coords t) (buf0 t) (whole0 t) (buf1 t) (whole1 t) (buf2 t) (whole2 t) (buf3 t) (whole3 t) (buf4 t) (whole4 t) (buf5 t) (whole5 t) (buf6 t) (whole6 t) ((first_iff t).mpr h) (fun e => (later_iff t).mp e h) (iblk m c 0 t) (iblk m c 1 t) (iblk m c 2 t) (iblk m c 3 t) (cols m c t)).1)

/-- and in the rows' block. -/
def firstRows (c : Dev nD) (t : Fin cfg0.N) (h : t.val % 7 = 0) : Vec F S256x2048 .bf16 :=
  rowView.read (Elt F) (rowView.writes (Elt F) rowView.junk (firstRun c (grid0.coords t) (buf0 t) (whole0 t) (buf1 t) (whole1 t) (buf2 t) (whole2 t) (buf3 t) (whole3 t) (buf4 t) (whole4 t) (buf5 t) (whole5 t) (buf6 t) (whole6 t) ((first_iff t).mpr h) (fun e => (later_iff t).mp e h) (iblk m c 0 t) (iblk m c 1 t) (iblk m c 2 t) (iblk m c 3 t) (cols m c t)).2.1)

/-- The first point of the seven that `t` is one of. -/
def start (t : Fin cfg0.N) : Fin cfg0.N := ⟨t.val - t.val % 7, Nat.lt_of_le_of_lt (Nat.sub_le _ _) t.isLt⟩

theorem start_mod (t : Fin cfg0.N) : (start t).val % 7 = 0 := by unfold start; dsimp only; omega

theorem start_of (t : Fin cfg0.N) (h : t.val % 7 = 0) : start t = t := Fin.ext (by unfold start; dsimp only; omega)

theorem start_pred (t : Fin cfg0.N) (h : ¬ t.val % 7 = 0) (h' : t.val - 1 < cfg0.N) : start ⟨t.val - 1, h'⟩ = start t :=
  Fin.ext (by unfold start; dsimp only; omega)

/-- The rows that the block holds after point `t`: those of its seven's first point. -/
def rowsAt (c : Dev nD) (t : Fin cfg0.N) : Vec F S256x2048 .bf16 := firstRows m c (start t) (start_mod t)

/-- At a first point they are what that point stored. -/
theorem rowsAt_first (c : Dev nD) (t : Fin cfg0.N) (h : t.val % 7 = 0) : rowsAt m c t = firstRows m c t h := by
  unfold rowsAt
  congr 1
  exact start_of t h

/-- At a later point they are those of the point before. -/
theorem rowsAt_pred (c : Dev nD) (t : Fin cfg0.N) (h : ¬ t.val % 7 = 0) (h' : t.val - 1 < cfg0.N) :
    rowsAt m c ⟨t.val - 1, h'⟩ = rowsAt m c t := by
  unfold rowsAt
  congr 1
  exact start_pred t h h'

/-- What a later point leaves in the products' block. -/
def laterProd (c : Dev nD) (t : Fin cfg0.N) (h : ¬ t.val % 7 = 0) : Vec F S256x512 .f32 :=
  prodView.read (Elt F) (prodView.writes (Elt F) prodView.junk (laterRun c (grid0.coords t) (buf0 t) (whole0 t) (buf1 t) (whole1 t) (buf2 t) (whole2 t) (buf3 t) (whole3 t) (buf4 t) (whole4 t) (buf5 t) (whole5 t) (buf6 t) (whole6 t) (fun e => h ((first_iff t).mp e)) ((later_iff t).mpr h) (iblk m c 0 t) (iblk m c 1 t) (iblk m c 2 t) (iblk m c 3 t) (cols m c t) (rowsAt m c t)).1)

/-- What any point leaves there. -/
def prodAt (c : Dev nD) (t : Fin cfg0.N) : Vec F S256x512 .f32 :=
  if h : t.val % 7 = 0 then firstProd m c t h else laterProd m c t h

/-! ## The whole call -/

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols m c t
    | ⟨5, _⟩ => prodAt m c t
    | ⟨6, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = cols m c t := by dsimp only [dats]
theorem after_5 (c : Dev nD) (t : Fin cfg0.N) : (dats m 0 c).after 5 t = prodAt m c t := by dsimp only [dats]
theorem after_6 (c : Dev nD) (t : Fin cfg0.N) : (dats m 0 c).after 6 t = rowsAt m c t := by dsimp only [dats]
theorem found_0 (c : Dev nD) (t : Fin cfg0.N) (d) : (dats m 0 c).before 0 t d = iblk m c 0 t := before_0 m (dats m 0 c) (A_eq m c 0) (after_0 m c) t d
theorem found_1 (c : Dev nD) (t : Fin cfg0.N) (d) : (dats m 0 c).before 1 t d = iblk m c 1 t := before_1 m (dats m 0 c) (A_eq m c 1) (after_1 m c) t d
theorem found_2 (c : Dev nD) (t : Fin cfg0.N) (d) : (dats m 0 c).before 2 t d = iblk m c 2 t := before_2 m (dats m 0 c) (A_eq m c 2) (after_2 m c) t d
theorem found_3 (c : Dev nD) (t : Fin cfg0.N) (d) : (dats m 0 c).before 3 t d = iblk m c 3 t := before_3 m (dats m 0 c) (A_eq m c 3) (after_3 m c) t d
theorem found_4 (c : Dev nD) (t : Fin cfg0.N) (d) : (dats m 0 c).before 4 t d = cols m c t := before_4 m (dats m 0 c) (A_eq m c 4) (after_4 m c) t d

/-- The rows are carried over the points that do not store them. -/
theorem carried (c : Dev nD) (t : Fin cfg0.N) (h0 : t.val ≠ 0) (hi : cfg0.idle 6 (grid0.coords t) = true) (_ : cfg0.fresh 6 t.val = false) :
    (dats m 0 c).after 6 t = (dats m 0 c).after 6 ⟨t.val - 1, by omega⟩ := by
  have h : ¬ t.val % 7 = 0 := fun e => by rw [live_6 t e] at hi; exact absurd hi Bool.false_ne_true
  rw [after_6, after_6, rowsAt_pred m c t h]

/-- So a later point finds them. -/
theorem found_6 (c : Dev nD) (t : Fin cfg0.N) (h : ¬ t.val % 7 = 0) (d) : (dats m 0 c).before 6 t d = rowsAt m c t := by
  rw [Dat.before_out_traj _ 6 rfl (fun _ _ => rfl) (carried m c) t.val t rfl d,
    if_neg (by rw [fresh_6 t]; unfold unset; simpa using h), after_6, rowsAt_pred m c t h]

/-- At a later point the rows' buffer is handed back as it was found, whether or not it is then written back. -/
theorem leaves_6 (c : Dev nD) (t : Fin cfg0.N) (h : ¬ t.val % 7 = 0) :
    owns (c : Thread nD τ) (buf6 t) fullShare (rowsAt m c t) ⊢ (dats m 0 c).leavesExact 6 t := by
  unfold Dat.leavesExact
  rw [idle_6 t h]
  cases (cfg0.win 6).flush t
  · dsimp only
    iintro H
    iexists (rowsAt m c t)
    rw [found_6 m c t h]
    iexact H
  · dsimp only
    rw [after_6]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl]
  by_cases h : t.val % 7 = 0
  ·
    rw [show (dats m 0 c).leavesExact 0 t = owns (c : Thread nD τ) (buf0 t) fullShare ((dats m 0 c).after 0 t) from by unfold Dat.leavesExact; rw [show cfg0.idle 0 (cfg0.grid.coords t) = false from rfl],
      show (dats m 0 c).leavesExact 1 t = owns (c : Thread nD τ) (buf1 t) fullShare ((dats m 0 c).after 1 t) from by unfold Dat.leavesExact; rw [show cfg0.idle 1 (cfg0.grid.coords t) = false from rfl],
      show (dats m 0 c).leavesExact 2 t = owns (c : Thread nD τ) (buf2 t) fullShare ((dats m 0 c).after 2 t) from by unfold Dat.leavesExact; rw [show cfg0.idle 2 (cfg0.grid.coords t) = false from rfl],
      show (dats m 0 c).leavesExact 3 t = owns (c : Thread nD τ) (buf3 t) fullShare ((dats m 0 c).after 3 t) from by unfold Dat.leavesExact; rw [show cfg0.idle 3 (cfg0.grid.coords t) = false from rfl],
      show (dats m 0 c).leavesExact 4 t = owns (c : Thread nD τ) (buf4 t) fullShare ((dats m 0 c).after 4 t) from by unfold Dat.leavesExact; rw [show cfg0.idle 4 (cfg0.grid.coords t) = false from rfl],
      show (dats m 0 c).leavesExact 5 t = owns (c : Thread nD τ) (buf5 t) fullShare ((dats m 0 c).after 5 t) from by unfold Dat.leavesExact; rw [show cfg0.idle 5 (cfg0.grid.coords t) = false from live_5 t],
      after_0, after_1, after_2, after_3, after_4, after_5, show (dats m 0 c).leavesExact 6 t = owns (c : Thread nD τ) (buf6 t) fullShare ((dats m 0 c).after 6 t) from by unfold Dat.leavesExact; rw [show cfg0.idle 6 (cfg0.grid.coords t) = false from live_6 t h], after_6]
    rw [show prodAt m c t = firstProd m c t h from dif_pos h, rowsAt_first m c t h]
    unfold firstProd firstRows
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t) (buf0 t) (whole0 t) (buf1 t) (whole1 t) (buf2 t) (whole2 t) (buf3 t) (whole3 t) (buf4 t) (whole4 t) (buf5 t) (whole5 t) (buf6 t) (whole6 t) ((first_iff t).mpr h) (fun e => (later_iff t).mp e h) (iblk m c 0 t) (iblk m c 1 t) (iblk m c 2 t) (iblk m c 3 t) (cols m c t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (firstCover5 c _ _ _ _ _ _ _ _ _ _ _ _ _ _ _ _ _ _ _ _ _ _)
    unfold owns; iexists _; isplitr
    swap; · iexact H6
    ipureintro; exact View.read_writes_of_cover _ _ _ _ _ (firstCover6 c _ _ _ _ _ _ _ _ _ _ _ _ _ _ _ _ _ _ _ _ _ _)
  ·
    rw [show (dats m 0 c).leavesExact 0 t = owns (c : Thread nD τ) (buf0 t) fullShare ((dats m 0 c).after 0 t) from by unfold Dat.leavesExact; rw [show cfg0.idle 0 (cfg0.grid.coords t) = false from rfl],
      show (dats m 0 c).leavesExact 1 t = owns (c : Thread nD τ) (buf1 t) fullShare ((dats m 0 c).after 1 t) from by unfold Dat.leavesExact; rw [show cfg0.idle 1 (cfg0.grid.coords t) = false from rfl],
      show (dats m 0 c).leavesExact 2 t = owns (c : Thread nD τ) (buf2 t) fullShare ((dats m 0 c).after 2 t) from by unfold Dat.leavesExact; rw [show cfg0.idle 2 (cfg0.grid.coords t) = false from rfl],
      show (dats m 0 c).leavesExact 3 t = owns (c : Thread nD τ) (buf3 t) fullShare ((dats m 0 c).after 3 t) from by unfold Dat.leavesExact; rw [show cfg0.idle 3 (cfg0.grid.coords t) = false from rfl],
      show (dats m 0 c).leavesExact 4 t = owns (c : Thread nD τ) (buf4 t) fullShare ((dats m 0 c).after 4 t) from by unfold Dat.leavesExact; rw [show cfg0.idle 4 (cfg0.grid.coords t) = false from rfl],
      show (dats m 0 c).leavesExact 5 t = owns (c : Thread nD τ) (buf5 t) fullShare ((dats m 0 c).after 5 t) from by unfold Dat.leavesExact; rw [show cfg0.idle 5 (cfg0.grid.coords t) = false from live_5 t],
      after_0, after_1, after_2, after_3, after_4, after_5]
    rw [show prodAt m c t = laterProd m c t h from dif_neg h]
    simp only [found_6 m c t h]
    unfold laterProd
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((laterRun c (grid0.coords t) (buf0 t) (whole0 t) (buf1 t) (whole1 t) (buf2 t) (whole2 t) (buf3 t) (whole3 t) (buf4 t) (whole4 t) (buf5 t) (whole5 t) (buf6 t) (whole6 t) (fun e => h ((first_iff t).mp e)) ((later_iff t).mpr h) (iblk m c 0 t) (iblk m c 1 t) (iblk m c 2 t) (iblk m c 3 t) (cols m c t) (rowsAt m c t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H6, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (laterCover5 c _ _ _ _ _ _ _ _ _ _ _ _ _ _ _ _ _ _ _ _ _ _ _)
    iapply (leaves_6 m c t h)
    iexact H6

/-- The body's table names this body. -/
theorem defs₀_row (t : Fin cfg0.N) : defs₀ (F := F) .tc cfg0.body (cfg0.bodyArgs t (cfg0.slots t)) = bodyAt0 t := by
  unfold defs₀; rw [Defs.onTc_tc]

/-- So every point meets its obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program terminates, with each window's array at what the points leave and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_runs m) (hA := A_eq m) (hΦ := fun _ _ => rfl)

/-- The same, without the counters. -/
theorem run_arrays : θ_run defs (onTc (τ := τ) (main (F := F))) (s₀ m ρ) (Pipeline.FramePost cfgs (dats m) 0 (V m)) :=
  (θ_run defs _ _).mono (fun _ h => h.1) (run_quiescent m ρ)

/-- Read at the results and at the arguments: the two arrays are what the points leave, the arguments are unchanged. -/
theorem run_results : θ_run defs (onTc (τ := τ) (main (F := F))) ⟨m, fun _ => 0, ρ⟩ (fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5, (h c).1 6,
      ((h c).2 main_arg0 (Pipeline.mem_restRefs_of main_arg0 (by decide) (by decide))).trans (V_arg0 m c),
      ((h c).1 1).trans (((dats m 0 c).arrAt_in 1 rfl _).trans ((A_eq m c 1).trans (V_arg1 m c))),
      ((h c).1 2).trans (((dats m 0 c).arrAt_in 2 rfl _).trans ((A_eq m c 2).trans (V_arg2 m c))),
      ((h c).1 3).trans (((dats m 0 c).arrAt_in 3 rfl _).trans ((A_eq m c 3).trans (V_arg3 m c))),
      ((h c).2 main_arg4 (Pipeline.mem_restRefs_of main_arg4 (by decide) (by decide))).trans (V_arg4 m c)⟩) (run_arrays m ρ)

/-- The program terminates, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2.2) (run_results m ρ))
    ((θ_run defs _ _).mono (fun _ h => h.2) (run_quiescent m ρ))

/-! ## The printed program is the same text -/

/-- The printed program's body is this one's, -/
theorem printed_body : @Cert.CtxNorm.defs₀ F _ _ = @Cert.CtxNormIdeal.defs₀ F _ _ := by
  unfold Cert.CtxNorm.defs₀ Cert.CtxNormIdeal.defs₀
  congr 1
  funext l a
  match l, a with
  | ⟨0, _⟩, a => rfl

/-- and so is its whole table. -/
theorem printed_defs : @Cert.CtxNorm.defs F _ _ = @Cert.CtxNormIdeal.defs F _ _ := by
  unfold Cert.CtxNorm.defs Cert.CtxNormIdeal.defs
  exact congrArg (Pipeline.defs (pcfgs (F := F))) (printed_body (F := F))

end Cert.CtxRows

end
-- ==== Proof.CtxRows.lean ====
/- The norm with its modulation and first product on the 512 context rows, over the extended reals.

   The rows' array is shown to be the reference's normed and modulated rows, the products' array to be the product of
   those rows with the first 3584 columns of the weight. -/
module

public import proofs.«01_k».proof.Defs
public import proofs.«01_k».proof.Proof.CtxRun
public import proofs.«01_k».proof.Proof.Gen.CtxNormRefIdeal.Read
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxRows

open Cert.CtxNormIdeal Cert.CtxNormIdeal.Gen Cert.RowNorm

/-! ## The body, read at a place -/

/-- The upper half's rows. -/
theorem upper_row (x : Vec Ideal S128x2048 .f32) (g : Vec Ideal S1x2048 .f32) (s b : Vec Ideal S1x1x2048 .f32) (j : S128x2048.Idx) :
    k0_pay5 (F := Ideal) x g s b j
      = modulated (fun e => x (ix2 (j 0) e)) (g (ix2 0 (j 1))) (s (ix3 0 0 (j 1))) (b (ix3 0 0 (j 1))) (j 1) := by
  pointwise [k0_pay5, modulated, normed]

/-- The lower half's rows. -/
theorem lower_row (x : Vec Ideal S128x2048 .f32) (g : Vec Ideal S1x2048 .f32) (s b : Vec Ideal S1x1x2048 .f32) (j : S128x2048.Idx) :
    k0_pay2 (F := Ideal) (k0_pay7 x) g (k0_pay8 x) s b j
      = modulated (fun e => x (ix2 (j 0) e)) (g (ix2 0 (j 1))) (s (ix3 0 0 (j 1))) (b (ix3 0 0 (j 1))) (j 1) := by
  pointwise [k0_pay2, k0_pay7, k0_pay8, modulated, normed]

/-- The upper half's products. -/
theorem upper_prod (w : Vec Ideal S512x2048 .bf16) (x : Vec Ideal S128x2048 .f32) (g : Vec Ideal S1x2048 .f32) (s b : Vec Ideal S1x1x2048 .f32) (j : S128x512.Idx) :
    k0_pay6 (F := Ideal) (k0_pay1 w) x g s b j = ∑ k : Fin 2048, k0_pay5 (F := Ideal) x g s b (ix2 (j 0) k) * w (ix2 (j 1) k) := by
  unfold k0_pay6
  generalize k0_pay5 (F := Ideal) x g s b = p
  pointwise [k0_pay1]

/-- The lower half's products. -/
theorem lower_prod (w : Vec Ideal S512x2048 .bf16) (p : FVec Ideal S128x2048 .f32) (g : Vec Ideal S1x2048 .f32) (q : FVec Ideal S128 .f32) (s b : Vec Ideal S1x1x2048 .f32) (j : S128x512.Idx) :
    k0_pay3 (F := Ideal) w p g q s b j = ∑ k : Fin 2048, k0_pay2 (F := Ideal) p g q s b (ix2 (j 0) k) * w (ix2 (j 1) k) := by
  unfold k0_pay3
  generalize k0_pay2 (F := Ideal) p g q s b = p
  pointwise [k0_pay1]

/-- A later point's products. -/
theorem later_prod (w : Vec Ideal S512x2048 .bf16) (x : Vec Ideal S256x2048 .bf16) (j : S256x512.Idx) :
    k0_pay4 (F := Ideal) w x j = ∑ k : Fin 2048, x (ix2 (j 0) k) * w (ix2 (j 1) k) := by
  pointwise [k0_pay4, k0_pay1]

/-! ## The reference, read at a place -/

/-- The batch of an array row. -/
def batch (r : Fin 512) : Fin 2 := ⟨r.val / 256, by have := r.isLt; omega⟩

/-- The place of an array row within its batch. -/
def within (r : Fin 512) : Fin 256 := ⟨r.val % 256, Nat.mod_lt _ (by decide)⟩

/-- The reference's rows. -/
theorem reference_rows (x : FVec Ideal S2x256x2048 .f32) (g : FVec Ideal S1x2048 .f32) (s b : FVec Ideal S2x1x2048 .f32) (i : S512x2048.Idx) :
    Cert.CtxNormRefIdeal.Read.val_main_v24 (F := Ideal) x g s b i
      = modulated (fun e => x (ix3 (batch (i 0)) (within (i 0)) e)) (g (ix2 0 (i 1))) (s (ix3 (batch (i 0)) 0 (i 1))) (b (ix3 (batch (i 0)) 0 (i 1))) (i 1) := by
  rw [← Cert.CtxNormRefIdeal.Read.val_main_v24_eq]
  pointwise [modulated, normed, batch, within]

/-- A column among the products', as one of the weight's. -/
def wide (d : Fin 3584) : Fin 7584 := ⟨d.val, by have := d.isLt; omega⟩

/-- The reference's products are those of its rows. -/
theorem reference_prods (x : FVec Ideal S2x256x2048 .f32) (g : FVec Ideal S1x2048 .f32) (s b : FVec Ideal S2x1x2048 .f32) (w : FVec Ideal S1x2048x7584 .f32)
    (i : S512x3584.Idx) :
    Cert.CtxNormRefIdeal.Read.val_main_v23 (F := Ideal) x g s b w i
      = ∑ k : Fin 2048, Cert.CtxNormRefIdeal.Read.val_main_v24 (F := Ideal) x g s b (ix2 (i 0) k) * w (ix3 0 k (wide (i 1))) := by
  open Cert.CtxNormRefIdeal.Read in
  unfold val_main_v23 val_main_v22 val_main_v21 val_main_v24
  generalize Cert.CtxNormRefIdeal.Read.val_main_v20 (F := Ideal) x g s b = p
  pointwise [wide]

/-! ## What the points hold -/

variable (m : (ℓ : Loc nD τ sig) → Buf (Elt Ideal) ℓ)

/-- The reference's arrays over this program's arguments. -/
abbrev REF1 (c : Dev nD) : FVec Ideal S512x3584 .f32 :=
  Cert.CtxNormRefIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
abbrev REF2 (c : Dev nD) : FVec Ideal S512x2048 .bf16 :=
  Cert.CtxNormRefIdeal.Read.val_main_v24 (F := Ideal) (m ((c : Thread nD τ).loc main_arg0)) (m ((c : Thread nD τ).loc main_arg1))
    (m ((c : Thread nD τ).loc main_arg2)) (m ((c : Thread nD τ).loc main_arg3))

/-- Where each window stands at each grid point. -/
theorem idx : ∀ t : Fin cfg0.N, win0_0.index t = ![t.val / 7, 0] ∧ win0_1.index t = ![0, 0]
    ∧ win0_2.index t = ![t.val / 7, 0, 0] ∧ win0_3.index t = ![t.val / 7, 0, 0] ∧ win0_4.index t = ![t.val % 7, 0]
    ∧ win0_5.index t = ![t.val / 7, t.val % 7] ∧ win0_6.index t = ![t.val / 7, 0] :=
  (by decide +kernel : ∀ t : Fin grid0.N, _)

theorem lt14 (t : Fin cfg0.N) : t.val < 14 := lt_of_lt_of_eq t.isLt N_0

/-- The array row behind row `y` of the block at point `t`, and the array column behind column `d`. -/
def row (t : Fin cfg0.N) (y : Fin 256) : Fin 512 := ⟨t.val / 7 * 256 + y.val, by have := y.isLt; have := lt14 t; omega⟩
def col (t : Fin cfg0.N) (d : Fin 512) : Fin 3584 := ⟨t.val % 7 * 512 + d.val, by have := d.isLt; omega⟩

theorem row_start (t : Fin cfg0.N) (y : Fin 256) : row (start t) y = row t y := by
  unfold row start
  exact Fin.ext (by show (t.val - t.val % 7) / 7 * 256 + y.val = t.val / 7 * 256 + y.val; omega)

theorem place_prod (t : Fin cfg0.N) (y : S256x512.Idx) : ((cfg0.win 5).blk t).view.emb y = ix2 (row t (y 0)) (col t (y 1)) := by
  unfold row col
  blk_ext [idx t]

theorem place_rows (t : Fin cfg0.N) (y : S256x2048.Idx) : ((cfg0.win 6).blk t).view.emb y = ix2 (row t (y 0)) (y 1) := by
  unfold row
  blk_ext [idx t]

/-- The weight's block, read at a place. -/
theorem cols_at (c : Dev nD) (t : Fin cfg0.N) (d : Fin 512) (k : Fin 2048) :
    cols m c t (ix2 d k) = m ((c : Thread nD τ).loc main_arg4) (ix3 0 k (wide (col t d))) := by
  unfold cols wide col
  blk_point [iblk, V, idx t]

/-- The modulated formula over what a point has read is the reference's row at the place behind it. -/
theorem row_eq (c : Dev nD) (t : Fin cfg0.N) (y : Fin 256) (d : Fin 2048) (A : Fin 2048 → EReal)
    (hA : ∀ e, A e = (show FVec Ideal S256x2048 .f32 from iblk m c 0 t) (ix2 y e)) :
    modulated A ((show FVec Ideal S1x2048 .f32 from iblk m c 1 t) (ix2 0 d)) ((show FVec Ideal S1x1x2048 .f32 from iblk m c 2 t) (ix3 0 0 d))
        ((show FVec Ideal S1x1x2048 .f32 from iblk m c 3 t) (ix3 0 0 d)) d
      = REF2 m c (ix2 (row t y) d) := by
  have e : A = fun e => m ((c : Thread nD τ).loc main_arg0) (ix3 (batch (row t y)) (within (row t y)) e) :=
    funext fun e => (hA e).trans (by unfold batch within row; blk_point [iblk, V, idx t])
  have ew : (show FVec Ideal S1x2048 .f32 from iblk m c 1 t) (ix2 0 d) = m ((c : Thread nD τ).loc main_arg1) (ix2 0 d) := by blk_ext [iblk, V, idx t]
  have es : (show FVec Ideal S1x1x2048 .f32 from iblk m c 2 t) (ix3 0 0 d) = m ((c : Thread nD τ).loc main_arg2) (ix3 (batch (row t y)) 0 d) := by
    unfold batch row; blk_ext [iblk, V, idx t]
  have eb : (show FVec Ideal S1x1x2048 .f32 from iblk m c 3 t) (ix3 0 0 d) = m ((c : Thread nD τ).loc main_arg3) (ix3 (batch (row t y)) 0 d) := by
    unfold batch row; blk_ext [iblk, V, idx t]
  rw [REF2, reference_rows, e, ew, es, eb]
  rfl

/-- The lower half's rows are the reference's. -/
theorem lower_eq (c : Dev nD) (t : Fin cfg0.N) (x : S128x2048.Idx) :
    k0_pay2 (F := Ideal) (k0_pay7 (View.ld (iblk m c 0 t) (Rect.unit ![128, 0] ![128, 2048] inb_S256x2048_S128x2048_128_0))) (iblk m c 1 t)
        (k0_pay8 (View.ld (iblk m c 0 t) (Rect.unit ![128, 0] ![128, 2048] inb_S256x2048_S128x2048_128_0))) (iblk m c 2 t) (iblk m c 3 t) x
      = REF2 m c (ix2 (row t ⟨128 + (x 0).val, by have : (x 0).val < 128 := (x 0).isLt; omega⟩) (x 1)) := by
  rw [lower_row]
  exact row_eq m c t ⟨128 + (x 0).val, by have : (x 0).val < 128 := (x 0).isLt; omega⟩ (x 1) _
    (fun e => View.ld_unit_apply_of _ _ _ _ _ _ (fun a => match a with | ⟨0, _⟩ => rfl | ⟨1, _⟩ => (Nat.zero_add _).symm))

/-- The upper half's rows are the reference's. -/
theorem upper_eq (c : Dev nD) (t : Fin cfg0.N) (x : S128x2048.Idx) :
    k0_pay5 (F := Ideal) (View.ld (iblk m c 0 t) (Rect.unit ![0, 0] ![128, 2048] inb_S256x2048_S128x2048_0_0)) (iblk m c 1 t) (iblk m c 2 t) (iblk m c 3 t) x
      = REF2 m c (ix2 (row t ⟨(x 0).val, by have : (x 0).val < 128 := (x 0).isLt; omega⟩) (x 1)) := by
  rw [upper_row]
  exact row_eq m c t ⟨(x 0).val, by have : (x 0).val < 128 := (x 0).isLt; omega⟩ (x 1) _
    (fun e => View.ld_unit_apply_of _ _ _ _ _ _ (fun a => match a with | ⟨0, _⟩ => (Nat.zero_add _).symm | ⟨1, _⟩ => (Nat.zero_add _).symm))

/-- What a first point leaves in the rows' block is the reference's rows. -/
theorem firstRows_eq (c : Dev nD) (t : Fin cfg0.N) (h : t.val % 7 = 0) (y : S256x2048.Idx) :
    firstRows m c t h y = REF2 m c (ix2 (row t (y 0)) (y 1)) := by
  unfold firstRows
  frame_out
  canon_tiles x h
  · exact (lower_eq m c t x).trans (congrArg (REF2 m c) (congrArg₂ ix2 (congrArg (row t) (Fin.ext h0.symm)) (Fin.ext h1.symm)))
  · exact (upper_eq m c t x).trans (congrArg (REF2 m c) (congrArg₂ ix2 (congrArg (row t) (Fin.ext h0.symm)) (Fin.ext h1.symm)))

/-- So are the rows that any point finds or leaves. -/
theorem rowsAt_eq (c : Dev nD) (t : Fin cfg0.N) (y : S256x2048.Idx) : rowsAt m c t y = REF2 m c (ix2 (row t (y 0)) (y 1)) :=
  (firstRows_eq m c (start t) (start_mod t) y).trans (congrArg (fun r => REF2 m c (ix2 r (y 1))) (row_start t (y 0)))

/-- The product of a reference row with a column that a point has read is the reference's product. -/
theorem prod_eq (c : Dev nD) (t : Fin cfg0.N) (y : Fin 256) (d : Fin 512) (A : Fin 2048 → EReal) (hA : ∀ k, A k = REF2 m c (ix2 (row t y) k)) :
    ∑ k : Fin 2048, A k * cols m c t (ix2 d k) = REF1 m c (ix2 (row t y) (col t d)) := by
  rw [REF1, reference_prods]
  exact Finset.sum_congr rfl fun k _ => congrArg₂ (· * ·) (hA k) (cols_at m c t d k)

/-- What a first point leaves in the products' block is the reference's products, -/
theorem firstProd_eq (c : Dev nD) (t : Fin cfg0.N) (h : t.val % 7 = 0) (y : S256x512.Idx) :
    firstProd m c t h y = REF1 m c (ix2 (row t (y 0)) (col t (y 1))) := by
  unfold firstProd
  frame_out
  canon_tiles x h
  · rw [lower_prod]
    exact (prod_eq m c t ⟨128 + (x 0).val, by omega⟩ (x 1) _ (fun k => lower_eq m c t (ix2 (x 0) k))).trans
      (congrArg (REF1 m c) (congrArg₂ ix2 (congrArg (row t) (Fin.ext h0.symm)) (congrArg (col t) (Fin.ext h1.symm))))
  · rw [upper_prod]
    exact (prod_eq m c t ⟨(x 0).val, by omega⟩ (x 1) _ (fun k => upper_eq m c t (ix2 (x 0) k))).trans
      (congrArg (REF1 m c) (congrArg₂ ix2 (congrArg (row t) (Fin.ext h0.symm)) (congrArg (col t) (Fin.ext h1.symm))))

/-- and so is what a later point leaves there. -/
theorem laterProd_eq (c : Dev nD) (t : Fin cfg0.N) (h : ¬ t.val % 7 = 0) (y : S256x512.Idx) :
    laterProd m c t h y = REF1 m c (ix2 (row t (y 0)) (col t (y 1))) := by
  unfold laterProd
  frame_out
  rw [later_prod]
  exact prod_eq m c t (y 0) (y 1) _ (fun k => rowsAt_eq m c t (ix2 (y 0) k))

/-! ## The arrays the run leaves -/

/-- The products' array after the run is the reference's, -/
theorem final_prod (c : Dev nD) : (dats m 0 c).arrAt 5 cfg0.N = REF1 m c := by
  refine (dats m 0 c).arrAt_eq_of_covers 5 _ (by decide +kernel) fun t hf y => ?_
  blk_simp
  rw [after_5, place_prod]
  unfold prodAt
  by_cases h : t.val % 7 = 0
  · rw [dif_pos h]
    exact firstProd_eq m c t h y
  · rw [dif_neg h]
    exact laterProd_eq m c t h y

/-- and so is the rows'. -/
theorem final_rows (c : Dev nD) : (dats m 0 c).arrAt 6 cfg0.N = REF2 m c := by
  refine (dats m 0 c).arrAt_eq_of_covers 6 _ (by decide +kernel) fun t hf y => ?_
  blk_simp
  rw [after_6, place_rows]
  exact rowsAt_eq m c t y

/-- The printed call terminates and keeps its arguments: it is the same text, so the same run serves it. -/
theorem frame_printed : Cert.quiescent_CtxNorm := fun m g _ => by
  rw [printed_defs]
  exact frame (F := Bits) m g

/-- So does the call over the extended reals. -/
theorem frame_kernel : Cert.quiescent_CtxNormIdeal := fun m g _ => frame m g

/-- And so does the reference. -/
theorem frame_reference : Cert.quiescent_CtxNormRefIdeal := fun m g _ =>
  (θ_run Cert.CtxNormRefIdeal.defs _ _).mono
    (fun r h => ⟨fun c => (h c).2.2, Idealize.ShloMosaic.sem_eq_zero_of_no_sems (by decide) r.2⟩)
    (Cert.CtxNormRefIdeal.Value.run (F := Ideal) m g)

/-- From the same arguments the call and the reference leave the same two arrays. -/
theorem same_values : Cert.algebraic_CtxNormIdeal_CtxNormRefIdeal := by
  intro m g m' g' _ hagree
  refine ⟨fun c => REF1 m c, fun c => REF2 m c, ?_, ?_⟩
  · exact (θ_run Cert.CtxNormIdeal.defs _ _).mono (fun r h c => ⟨(h c).1.trans (final_prod m c), (h c).2.1.trans (final_rows m c), (h c).2.2⟩)
      (run_results (F := Ideal) m g)
  · refine (θ_run Cert.CtxNormRefIdeal.defs _ _).mono (fun r h c => ⟨(h c).1.trans ?_, (h c).2.1.trans ?_, (h c).2.2⟩)
      (Cert.CtxNormRefIdeal.Value.run (F := Ideal) m' g')
    · obtain ⟨h0, h1, h2, h3, h4⟩ := hagree c
      rw [h0, h1, h2, h3, h4]
      exact Cert.CtxNormRefIdeal.Read.val_main_v23_eq _ _ _ _ _
    · obtain ⟨h0, h1, h2, h3, h4⟩ := hagree c
      rw [h0, h1, h2, h3]
      exact Cert.CtxNormRefIdeal.Read.val_main_v24_eq _ _ _ _

end Cert.CtxRows
end
-- ==== Proof.Finite.lean ====
/- Real values among the extended reals: a real minus itself is zero, and sums and products of reals are real. -/
module

public import Idealize.ShloMosaic.Lib.StableHlo
public import Idealize.ShloMosaic.Lib.Pipeline.ValueKit
public import Idealize.ShloMosaic.Lib.Pointwise

@[expose] public section

noncomputable section

open Idealize.ShloMosaic

namespace Cert.Finite

/-- `x` is a real number. -/
def Fin' (x : EReal) : Prop := ∃ r : ℝ, x = (r : EReal)

/-- What has a magnitude below infinity is real. -/
theorem of_abs {x : EReal} (h : max x (-x) < ⊤) : Fin' x := by
  induction x with
  | bot => exact absurd h (by simp)
  | top => exact absurd h (by simp)
  | coe r => exact ⟨r, rfl⟩

/-- What a test for a magnitude below infinity lets through is real. -/
theorem of_cmp {x : EReal} (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  exact of_abs ((Ideal.cmp_olt_eq_one _ _).mp h)

theorem add {x y : EReal} : Fin' x → Fin' y → Fin' (x + y)
  | ⟨r, hr⟩, ⟨s, hs⟩ => ⟨r + s, by rw [hr, hs]; rfl⟩

theorem sub {x y : EReal} : Fin' x → Fin' y → Fin' (x - y)
  | ⟨r, hr⟩, ⟨s, hs⟩ => ⟨r - s, by rw [hr, hs]; rfl⟩

theorem mul {x y : EReal} : Fin' x → Fin' y → Fin' (x * y)
  | ⟨r, hr⟩, ⟨s, hs⟩ => ⟨r * s, by rw [hr, hs]; rfl⟩

theorem sum {ι : Type} (s : Finset ι) (f : ι → EReal) (h : ∀ i, Fin' (f i)) : Fin' (∑ i ∈ s, f i) := by
  classical
  induction s using Finset.induction with
  | empty => exact ⟨0, by simp⟩
  | insert a t ha ih => rw [Finset.sum_insert ha]; exact add (h a) ih

theorem logistic {x : EReal} : Fin' x → Fin' (Ideal.logistic x)
  | ⟨r, hr⟩ => ⟨(1 + Real.exp (-r))⁻¹, by rw [hr]; exact Ideal.logistic_coe r⟩

/-- A real minus itself. -/
theorem sub_self {x : EReal} : Fin' x → x - x = 0
  | ⟨r, hr⟩ => by rw [hr, ← EReal.coe_sub, _root_.sub_self]; rfl

end Cert.Finite
end
-- ==== Proof.AdaMod.lean ====
/- The modulation, read at an index.

   The kernel multiplies the gated conditioning by the weight in three parts: each is split into a rounded part and what
   the rounding leaves, and the product of the two remainders is dropped.  Over the extended reals nothing is rounded, so
   both remainders are a value minus itself, which is zero where the value is finite; that is the claim's precondition. -/
module

public import proofs.«01_k».proof.Defs
public import proofs.«01_k».proof.Proof.Gen.Ada.Frame
public import proofs.«01_k».proof.Proof.Gen.AdaIdeal.Value
public import proofs.«01_k».proof.Proof.Gen.AdaRefIdeal.Read
public import proofs.«01_k».proof.Proof.Gen.Pre_finite_ada
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaMod

open Cert.AdaIdeal Cert.AdaIdeal.Gen Cert.Finite

/-- One place of the modulation. -/
def mod (s w : Fin 2048 → EReal) (b : EReal) : EReal := (∑ k, s k * Ideal.logistic (s k) * w k) + b

/-- The reference, read at a place. -/
theorem reference_at (s : FVec Ideal S8x2048 .f32) (w : FVec Ideal S1x2048x12288 .f32) (b : FVec Ideal S1x12288 .f32) (i : S8x12288.Idx) :
    Cert.AdaRefIdeal.Read.val_main_v6 (F := Ideal) s w b i
      = mod (fun k => s (ix2 (i 0) k)) (fun k => w (ix3 0 k (i 1))) (b (ix2 0 (i 1))) := by
  rw [← Cert.AdaRefIdeal.Read.val_main_v6_eq]
  pointwise [mod, Ideal.logistic]

/-- What a grid point stores, at a place. -/
theorem stored_at (s : Vec Ideal S8x2048 .f32) (w : Vec Ideal S2048x1024 .f32) (b : Vec Ideal S1x1024 .f32) (j : S8x1024.Idx)
    (hs : ∀ j, Fin' (s j)) (hw : ∀ j, Fin' (w j)) :
    k0_pay1 (F := Ideal) s w b j
      = mod (fun k => s (ix2 (j 0) k)) (fun k => w (ix2 k (j 1))) (b (ix2 0 (j 1))) := by
  have e : ∀ k, w (ix2 k (j 1)) - w (ix2 k (j 1)) = 0 := fun k => Finite.sub_self (hw _)
  have e' : ∀ k, s (ix2 (j 0) k) * Ideal.logistic (s (ix2 (j 0) k)) - s (ix2 (j 0) k) * Ideal.logistic (s (ix2 (j 0) k)) = 0 :=
    fun k => Finite.sub_self (mul (hs _) (logistic (hs _)))
  pointwise [k0_pay1, mod]
  simp only [e, e', mul_zero, zero_mul, Finset.sum_const_zero, add_zero]

variable (m : (ℓ : Loc nD τ sig) → Buf (Elt Ideal) ℓ)

/-- Where each window stands at each grid point. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The precondition, read at a place. -/
theorem finite_args (hm : Cert.Pre_AdaIdeal_finite_ada m) (c : Dev nD) :
    (∀ i : S8x2048.Idx, Fin' (m ((c : Thread nD τ).loc main_arg0) i)) ∧ (∀ i : S1x2048x12288.Idx, Fin' (m ((c : Thread nD τ).loc main_arg1) i)) :=
  ⟨fun i => of_cmp (congrFun (hm c).1 i), fun i => of_cmp (congrFun (hm c).2 i)⟩

/-- The reference's array over this program's arguments. -/
abbrev REF (c : Dev nD) : FVec Ideal S8x12288 .f32 :=
  Cert.AdaRefIdeal.Read.val_main_v6 (F := Ideal) (m ((c : Thread nD τ).loc main_arg0)) (m ((c : Thread nD τ).loc main_arg1))
    (m ((c : Thread nD τ).loc main_arg2))

/-- The column that a block's column stands for at point `t`. -/
def col (t : Fin cfg0.N) (d : Fin 1024) : Fin 12288 :=
  ⟨t.val * 1024 + d.val, by have h : t.val < 12 := t.isLt; have := d.isLt; omega⟩

/-- The conditioning that a point reads is the whole array. -/
theorem cond_at (c : Dev nD) (t : Fin cfg0.N) (j : S8x2048.Idx) :
    (iblk m c 0 t : FVec Ideal S8x2048 .f32) j = m ((c : Thread nD τ).loc main_arg0) j := by
  blk_ext [iblk, V, idx t]

/-- The weight that a point reads. -/
theorem weight_at (c : Dev nD) (t : Fin cfg0.N) (k : Fin 2048) (d : Fin 1024) :
    (iblk m c 1 t : FVec Ideal S2048x1024 .f32) (ix2 k d) = m ((c : Thread nD τ).loc main_arg1) (ix3 0 k (col t d)) := by
  unfold col
  blk_point [iblk, V, idx t]

/-- The bias that a point reads. -/
theorem bias_at (c : Dev nD) (t : Fin cfg0.N) (d : Fin 1024) :
    (iblk m c 2 t : FVec Ideal S1x1024 .f32) (ix2 0 d) = m ((c : Thread nD τ).loc main_arg2) (ix2 0 (col t d)) := by
  unfold col
  blk_point [iblk, V, idx t]

/-- The array place behind a place of the block at point `t`. -/
theorem place (t : Fin cfg0.N) (y : S8x1024.Idx) : ((cfg0.win 3).blk t).view.emb y = ix2 (y 0) (col t (y 1)) := by
  unfold col
  blk_ext [idx t]

/-- The array after the run is the reference. -/
theorem final (hm : Cert.Pre_AdaIdeal_finite_ada m) (c : Dev nD) : (dats m 0 c).arrAt 3 cfg0.N = REF m c := by
  obtain ⟨hs, hw⟩ := finite_args m hm c
  refine (dats m 0 c).arrAt_eq_of_covers 3 _ (by decide +kernel) fun t hf y => ?_
  blk_simp
  rw [after0_3]
  frame_out
  refine (stored_at _ _ _ _ (fun j => ?_) (fun j => ?_)).trans ?_
  · exact (congrArg Fin' (cond_at m c t j)).mpr (hs _)
  · have e := weight_at m c t (j 0) (j 1)
    rw [show j = ix2 (j 0) (j 1) from Shape.idx_ext₂ rfl rfl]
    exact (congrArg Fin' e).mpr (hw _)
  · refine Eq.trans ?_ ((congrArg (REF m c) (place t y)).trans (reference_at _ _ _ _)).symm
    have e0 : (fun k => (iblk m c 0 t : FVec Ideal S8x2048 .f32) (ix2 (y 0) k)) = fun k => m ((c : Thread nD τ).loc main_arg0) (ix2 (y 0) k) :=
      funext fun k => cond_at m c t _
    have e1 : (fun k => (iblk m c 1 t : FVec Ideal S2048x1024 .f32) (ix2 k (y 1))) = fun k => m ((c : Thread nD τ).loc main_arg1) (ix3 0 k (col t (y 1))) :=
      funext fun k => weight_at m c t k (y 1)
    exact (congrArg (fun f => mod f _ _) e0).trans ((congrArg (fun f => mod _ f _) e1).trans (congrArg (mod _ _) (bias_at m c t (y 1))))

/-- The printed call terminates and keeps its arguments. -/
theorem frame_printed : Cert.quiescent_Ada := fun m g _ => Cert.Ada.Gen.frame m g

/-- So does the call over the extended reals. -/
theorem frame_kernel : Cert.quiescent_AdaIdeal := fun m g _ => Cert.AdaIdeal.Gen.frame m g

/-- And with finite arguments in particular. -/
theorem frame_kernel_finite : Cert.quiescent_AdaIdeal_pre_finite_ada := fun m g _ => Cert.AdaIdeal.Gen.frame m g

/-- And so does the reference. -/
theorem frame_reference : Cert.quiescent_AdaRefIdeal := fun m g _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m g)

/-- And with finite arguments in particular. -/
theorem frame_reference_finite : Cert.quiescent_AdaRefIdeal_pre_finite_ada := fun m g _ => frame_reference m g trivial

/-- From the same finite arguments the call and the reference leave the same array. -/
theorem same_values : Cert.algebraic_AdaIdeal_AdaRefIdeal_pre_finite_ada := by
  intro m g m' g' hm hagree
  refine ⟨fun c => REF m c, ?_, ?_⟩
  · exact (θ_run Cert.AdaIdeal.defs _ _).mono (fun r h c => ⟨(h c).1.trans (final m hm c), (h c).2⟩)
      (Cert.AdaIdeal.Value.run_blocks (F := Ideal) m g)
  · refine (θ_run Cert.AdaRefIdeal.defs _ _).mono (fun r h c => ⟨(h c).1.trans ?_, (h c).2⟩)
      (Cert.AdaRefIdeal.Value.run (F := Ideal) m' g')
    obtain ⟨h0, h1, h2⟩ := hagree c
    rw [h0, h1, h2, Cert.AdaRefIdeal.Read.val_main_v6_eq]

end Cert.AdaMod
end
-- ==== Proof.RwFin.lean ====
/- The closing of the delta-rule scan, read at an index.

   The kernel sums the lanes of a head by products with a matrix of zeros and ones, which the host forms, and splits each
   left operand into a rounded part and what the rounding leaves.  Over the extended reals the remainder is a value minus
   itself, which is zero where the value is finite; that is the claim's precondition. -/
module

public import proofs.«01_k».proof.Defs
public import proofs.«01_k».proof.Proof.Gen.RwFinish.Frame
public import proofs.«01_k».proof.Proof.Gen.RwFinishIdeal.Value
public import proofs.«01_k».proof.Proof.Gen.RwFinishRefIdeal.Read
public import proofs.«01_k».proof.Proof.Gen.Pre_finite_rwfin
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RwFin

open Cert.RwFinishIdeal Cert.RwFinishIdeal.Gen Cert.Finite

/-- Lane `l` of the head that column `d` lies in. -/
def peer (d : Fin 1024) (l : Fin 64) : Fin 1024 := ⟨d.val / 64 * 64 + l.val, by have := d.isLt; have := l.isLt; omega⟩

/-- One where lane `l` lies in head `h`, zero elsewhere. -/
def mark (l : Fin 1024) (h : Fin 128) : EReal := if l.val / 64 = h.val then 1 else 0

/-- The sum over the lanes of the head that column `d` lies in. -/
def headsum (y : Fin 1024 → EReal) (d : Fin 1024) : EReal := ∑ l, y (peer d l)

/-- The mean over a head: a multiplication by the reciprocal of 64. -/
def mean (y : Fin 1024 → EReal) (d : Fin 1024) : EReal := headsum y d * Ideal.ofBits FTy.f32 0x3C800000#32

/-- A row less its heads' means. -/
def centred (y : Fin 1024 → EReal) (d : Fin 1024) : EReal := y d - mean y d

/-- One place of the result. -/
def closed (y : Fin 1024 → EReal) (w b u g : EReal) (d : Fin 1024) : EReal :=
  (centred y d * Ideal.rsqrt (mean (fun l => centred y l * centred y l) d + Ideal.ofBits FTy.f32 0x3A27C5AC#32) * w + b + u) * g

theorem closed_congr {y y' : Fin 1024 → EReal} {w w' b b' u u' g g' : EReal} {d : Fin 1024} (hy : y = y') (hw : w = w') (hb : b = b')
    (hu : u = u') (hg : g = g') : closed y w b u g d = closed y' w' b' u' g' d := by rw [hy, hw, hb, hu, hg]

theorem mark_fin (l : Fin 1024) (h : Fin 128) : Fin' (mark l h) := by
  unfold mark
  split
  · exact ⟨1, rfl⟩
  · exact ⟨0, rfl⟩

/-- Summed over all lanes, the marks of a head leave the head's lanes. -/
theorem sum_mark (y : Fin 1024 → EReal) (d : Fin 1024) (h : Fin 128) (hd : h.val = d.val / 64) :
    ∑ l, y l * mark l h = headsum y d := by
  have hdl : d.val / 64 < 16 := by have := d.isLt; omega
  have e : ∑ l, y l * mark l h = ∑ p : Fin 16 × Fin 64, y (finProdFinEquiv p) * mark (finProdFinEquiv p) h :=
    (Equiv.sum_comp (finProdFinEquiv (m := 16) (n := 64)) fun l : Fin 1024 => y l * mark l h).symm
  have v : ∀ (a : Fin 16) (b : Fin 64), (finProdFinEquiv (a, b) : Fin (16 * 64)).val = b.val + 64 * a.val := fun a b => rfl
  rw [e, Fintype.sum_prod_type, Finset.sum_eq_single (⟨d.val / 64, hdl⟩ : Fin 16)]
  · refine Finset.sum_congr rfl fun b _ => ?_
    have hb := b.isLt
    have e1 : (finProdFinEquiv ((⟨d.val / 64, hdl⟩ : Fin 16), b) : Fin 1024) = peer d b :=
      Fin.ext ((v _ b).trans (by show b.val + 64 * (d.val / 64) = d.val / 64 * 64 + b.val; omega))
    have e2 : mark (peer d b) h = 1 := if_pos (by show (d.val / 64 * 64 + b.val) / 64 = h.val; omega)
    rw [e1, e2, mul_one]
  · intro a _ ha
    refine Finset.sum_eq_zero fun b _ => ?_
    have hb := b.isLt
    have e2 : mark (finProdFinEquiv (a, b) : Fin 1024) h = 0 := if_neg fun hh => ha (Fin.ext (by
      have hv := v a b
      show a.val = d.val / 64
      have : ((finProdFinEquiv (a, b) : Fin (16 * 64)).val) / 64 = h.val := hh
      omega))
    rw [e2, mul_zero]
  · exact fun hn => absurd (Finset.mem_univ _) hn

/-- Brought back to the lanes, a head's value stands at each of its lanes. -/
theorem mark_back (S : Fin 128 → EReal) (d : Fin 1024) :
    ∑ h, S h * mark d h = S ⟨d.val / 64, by have := d.isLt; omega⟩ := by
  rw [Finset.sum_eq_single (⟨d.val / 64, by have := d.isLt; omega⟩ : Fin 128)]
  · rw [mark, if_pos rfl, mul_one]
  · intro h _ hh
    rw [mark, if_neg fun e => hh (Fin.ext e.symm), mul_zero]
  · exact fun hn => absurd (Finset.mem_univ _) hn

/-- The kernel's sum over a head, as it is computed, is the sum over the head's lanes. -/
theorem split_sum (y : Fin 1024 → EReal) (d : Fin 1024) (hy : ∀ l, Fin' (y l)) :
    ∑ h, (∑ l, y l * mark l h + ∑ l, (y l - y l) * mark l h) * mark d h
      + ∑ h, ((∑ l, y l * mark l h + ∑ l, (y l - y l) * mark l h) - (∑ l, y l * mark l h + ∑ l, (y l - y l) * mark l h)) * mark d h
      = headsum y d := by
  have e0 : ∀ l, y l - y l = 0 := fun l => Finite.sub_self (hy l)
  have e1 : ∀ h, (∑ l, y l * mark l h) - (∑ l, y l * mark l h) = 0 := fun h =>
    Finite.sub_self (Finite.sum _ _ fun l => mul (hy l) (mark_fin l h))
  simp only [e0, zero_mul, Finset.sum_const_zero, add_zero, e1]
  exact (mark_back _ d).trans (sum_mark y d _ rfl)

theorem headsum_fin (y : Fin 1024 → EReal) (d : Fin 1024) (hy : ∀ l, Fin' (y l)) : Fin' (headsum y d) :=
  Finite.sum _ _ fun l => hy _

theorem r64 : Ideal.ofBits FTy.f32 0x3C800000#32 = ((1 / 64 : ℝ) : EReal) := by
  simp [Ideal.ofBits, Ideal.ieee]
  rw [← EReal.coe_mul]
  norm_num

theorem v64 : Ideal.ofBits FTy.f32 0x42800000#32 = ((64 : ℝ) : EReal) := by
  simp [Ideal.ofBits, Ideal.ieee]
  rw [← EReal.coe_mul]
  norm_num

/-- A division by 64 is a multiplication by its reciprocal. -/
theorem div64 (x : EReal) : Ideal.div x (Ideal.ofBits FTy.f32 0x42800000#32) = x * Ideal.ofBits FTy.f32 0x3C800000#32 := by
  rw [v64, r64, Ideal.div_coe (by norm_num)]

theorem centred_fin (y : Fin 1024 → EReal) (d : Fin 1024) (hy : ∀ l, Fin' (y l)) : Fin' (centred y d) :=
  sub (hy d) (mul (headsum_fin y d hy) ⟨_, r64⟩)

/-- The reference, read at a place. -/
theorem reference_at (a b : FVec Ideal S8192x1024 .bf16) (u g : FVec Ideal S8192x1024 .f32) (w s : FVec Ideal S1x1024 .f32) (i : S8192x1024.Idx) :
    Cert.RwFinishRefIdeal.Read.val_main_v33 (F := Ideal) a b u g w s i
      = closed (fun d => a (ix2 (i 0) d) + b (ix2 (i 0) d)) (w (ix2 0 (i 1))) (s (ix2 0 (i 1))) (u i) (g i) (i 1) := by
  rw [← Cert.RwFinishRefIdeal.Read.val_main_v33_eq]
  have eq : ∀ l : Fin 64, ((i 1).val / 64 * 64 + l.val) / 64 * 64 = (i 1).val / 64 * 64 := fun l => by
    have := l.isLt
    omega
  pointwise [closed, centred, mean, headsum, peer, div64]
  all_goals simp only [eq]

variable (y0 y1 : Vec Ideal S512x1024 .bf16) (e : Vec Ideal S1024x128 .bf16) (f : Vec Ideal S128x1024 .bf16)

/-- Row `r` of the two blocks' sum. -/
def both (r : Fin 512) (d : Fin 1024) : EReal := y0 (ix2 r d) + y1 (ix2 r d)

/-- The centred row, at a place. -/
theorem centred_at (he : ∀ l h, e (ix2 l h) = mark l h) (hf : ∀ l h, f (ix2 h l) = mark l h)
    (h0 : ∀ j, Fin' (y0 j)) (h1 : ∀ j, Fin' (y1 j)) (r : Fin 512) (d : Fin 1024) :
    k0_pay4 (F := Ideal) y0 y1 e f (ix2 r d) = centred (both y0 y1 r) d := by
  have es := split_sum (both y0 y1 r) d fun l => add (h0 _) (h1 _)
  unfold centred mean
  rw [← es]
  pointwise [k0_pay4, k0_pay2, k0_pay3, both]
  simp only [he, hf]

/-- The sum of the squared centred row over a head, at a place. -/
theorem squares_at (he : ∀ l h, e (ix2 l h) = mark l h) (hf : ∀ l h, f (ix2 h l) = mark l h)
    (h0 : ∀ j, Fin' (y0 j)) (h1 : ∀ j, Fin' (y1 j)) (r : Fin 512) (d : Fin 1024) :
    k0_pay5 (F := Ideal) y0 y1 e f (ix2 r d) = headsum (fun l => centred (both y0 y1 r) l * centred (both y0 y1 r) l) d := by
  have ec := centred_at y0 y1 e f he hf h0 h1 r
  have hc := fun l => centred_fin (both y0 y1 r) l fun d => add (h0 _) (h1 _)
  have es := split_sum (fun l => centred (both y0 y1 r) l * centred (both y0 y1 r) l) d fun l => mul (hc l) (hc l)
  unfold k0_pay5
  generalize k0_pay4 (F := Ideal) y0 y1 e f = Y at ec
  rw [← es]
  pointwise [k0_pay2, k0_pay3]
  simp only [he, hf, ec]

/-- What a grid point stores, at a place. -/
theorem stored_at (he : ∀ l h, e (ix2 l h) = mark l h) (hf : ∀ l h, f (ix2 h l) = mark l h)
    (h0 : ∀ j, Fin' (y0 j)) (h1 : ∀ j, Fin' (y1 j)) (w s : Vec Ideal S1x1024 .f32) (u g : Vec Ideal S512x1024 .f32) (r : Fin 512) (d : Fin 1024) :
    k0_pay1 (F := Ideal) (k0_pay4 y0 y1 e f) (k0_pay5 y0 y1 e f) (Scalar.ofBits .f32 0x3C800000#32) w s u g (ix2 r d)
      = closed (both y0 y1 r) (w (ix2 0 d)) (s (ix2 0 d)) (u (ix2 r d)) (g (ix2 r d)) d := by
  have ec := centred_at y0 y1 e f he hf h0 h1 r d
  have es := squares_at y0 y1 e f he hf h0 h1 r d
  generalize k0_pay4 (F := Ideal) y0 y1 e f = Y at ec ⊢
  generalize k0_pay5 (F := Ideal) y0 y1 e f = Z at es ⊢
  unfold closed mean
  rw [← ec, ← es]
  pointwise [k0_pay1]

variable (m : (ℓ : Loc nD τ sig) → Buf (Elt Ideal) ℓ)

/-- Where each window stands at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The precondition, read at a place. -/
theorem finite_args (hm : Cert.Pre_RwFinishIdeal_finite_rwfin m) (c : Dev nD) :
    (∀ i : S8192x1024.Idx, Fin' (m ((c : Thread nD τ).loc main_arg0) i)) ∧ (∀ i : S8192x1024.Idx, Fin' (m ((c : Thread nD τ).loc main_arg1) i)) :=
  ⟨fun i => of_cmp (congrFun (hm c).1 i), fun i => of_cmp (congrFun (hm c).2 i)⟩

/-- The reference's array over this program's arguments. -/
abbrev REF (c : Dev nD) : FVec Ideal S8192x1024 .bf16 :=
  Cert.RwFinishRefIdeal.Read.val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The array row behind a block's row at point `t`. -/
def row (t : Fin cfg0.N) (y : Fin 512) : Fin 8192 :=
  ⟨t.val * 512 + y.val, by have h : t.val < 16 := t.isLt; have := y.isLt; omega⟩

/-- The host's rounding quotient of each lane's number by 64. -/
def heads : IVec S1024 32 :=
  select
    (andi
      (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

/-- The matrix that the host forms: one where a lane lies in a head. -/
def marks : FVec Ideal S1024x128 .bf16 :=
  uitofp .bf16 (cmpi .eq
    (broadcastInDim S1024x128 ![0, 1] bcast_S1024x1_S1024x128_0_1 (broadcastInDim S1024x1 ![0] bcast_S1024_S1024x1_0 heads))
    (broadcastInDim S1024x128 ![0, 1] bcast_S1x128_S1024x128_0_1 (broadcastInDim S1x128 ![1] bcast_S128_S1x128_1 (iotaInDim S128 32 0))))

theorem V_main_v8 (c : Dev nD) : V m c main_v8 = marks := by
  show StableHlo.after (hostOps0 ++ (hostOps0_1 ++ hostOps0_2)) _ (Proc.devRef .tc main_v8) = _
  simp only [hostOps0, hostOps0_1, hostOps0_2, List.cons_append, List.nil_append]
  after_results
  rfl

theorem V_main_v9 (c : Dev nD) : V m c main_v9 = (transpose S128x1024 [1, 0] marks transposes_S1024x128_S128x1024_1_0 : FVec Ideal S128x1024 .bf16) := by
  show StableHlo.after (hostOps0 ++ (hostOps0_1 ++ hostOps0_2)) _ (Proc.devRef .tc main_v9) = _
  simp only [hostOps0, hostOps0_1, hostOps0_2, List.cons_append, List.nil_append]
  after_results
  rfl

/-- The quotient is the head's number. -/
theorem heads_at : ∀ l : Fin 1024, heads (ix1 l) = BitVec.ofNat 32 (l.val / 64) := by
  decide +kernel

/-- The host's matrix holds the marks. -/
theorem marks_eq (l : Fin 1024) (h : Fin 128) : marks (ix2 l h) = mark l h := by
  have eh := heads_at l
  unfold marks
  generalize heads = H at eh ⊢
  pointwise [mark]
  rw [eh]
  show (((IntOp.cmpi .eq (BitVec.ofNat 32 (l.val / 64)) (BitVec.ofNat 32 h.val)).toNat : ℝ) : EReal) = _
  by_cases e : l.val / 64 = h.val
  · rw [if_pos e, e]
    simp [IntOp.cmpi]
  · have hl := l.isLt
    have hh := h.isLt
    have ne : ¬ BitVec.ofNat 32 (l.val / 64) = BitVec.ofNat 32 h.val := fun q => e (by
      have := congrArg BitVec.toNat q
      simp only [BitVec.toNat_ofNat] at this
      omega)
    rw [if_neg e]
    simp [IntOp.cmpi, ne]

/-- The matrix of marks that a point reads. -/
theorem marks_at (c : Dev nD) (t : Fin cfg0.N) (l : Fin 1024) (h : Fin 128) :
    (iblk m c 6 t : FVec Ideal S1024x128 .bf16) (ix2 l h) = mark l h := by
  refine Eq.trans (Eq.trans ?_ (congrFun (V_main_v8 m c) (ix2 l h))) (marks_eq l h)
  show V m c main_v8 _ = _
  exact congrArg (V m c main_v8) (by blk_ext [idx t])

/-- The same matrix turned. -/
theorem turned_at (c : Dev nD) (t : Fin cfg0.N) (l : Fin 1024) (h : Fin 128) :
    (iblk m c 7 t : FVec Ideal S128x1024 .bf16) (ix2 h l) = mark l h := by
  refine Eq.trans (Eq.trans ?_ (congrFun (V_main_v9 m c) (ix2 h l))) ?_
  · show V m c main_v9 _ = _
    exact congrArg (V m c main_v9) (by blk_ext [idx t])
  · refine Eq.trans ?_ (marks_eq l h)
    generalize marks = M
    pointwise

/-- The array place behind a place of the block at point `t`. -/
theorem place (t : Fin cfg0.N) (r : Fin 512) (d : Fin 1024) : ((cfg0.win 8).blk t).view.emb (ix2 r d) = ix2 (row t r) d := by
  unfold row
  blk_ext [idx t]

theorem fst_at (c : Dev nD) (t : Fin cfg0.N) (r : Fin 512) (d : Fin 1024) :
    (iblk m c 0 t : FVec Ideal S512x1024 .bf16) (ix2 r d) = m ((c : Thread nD τ).loc main_arg0) (ix2 (row t r) d) := by
  unfold row
  blk_point [iblk, V, idx t]

theorem snd_at (c : Dev nD) (t : Fin cfg0.N) (r : Fin 512) (d : Fin 1024) :
    (iblk m c 1 t : FVec Ideal S512x1024 .bf16) (ix2 r d) = m ((c : Thread nD τ).loc main_arg1) (ix2 (row t r) d) := by
  unfold row
  blk_point [iblk, V, idx t]

theorem bonus_at (c : Dev nD) (t : Fin cfg0.N) (r : Fin 512) (d : Fin 1024) :
    (iblk m c 2 t : FVec Ideal S512x1024 .f32) (ix2 r d) = m ((c : Thread nD τ).loc main_arg2) (ix2 (row t r) d) := by
  unfold row
  blk_point [iblk, V, idx t]

theorem gate_at (c : Dev nD) (t : Fin cfg0.N) (r : Fin 512) (d : Fin 1024) :
    (iblk m c 3 t : FVec Ideal S512x1024 .f32) (ix2 r d) = m ((c : Thread nD τ).loc main_arg3) (ix2 (row t r) d) := by
  unfold row
  blk_point [iblk, V, idx t]

theorem weight_at (c : Dev nD) (t : Fin cfg0.N) (d : Fin 1024) :
    (iblk m c 4 t : FVec Ideal S1x1024 .f32) (ix2 0 d) = m ((c : Thread nD τ).loc main_arg4) (ix2 0 d) := by
  blk_point [iblk, V, idx t]

theorem shift_at (c : Dev nD) (t : Fin cfg0.N) (d : Fin 1024) :
    (iblk m c 5 t : FVec Ideal S1x1024 .f32) (ix2 0 d) = m ((c : Thread nD τ).loc main_arg5) (ix2 0 d) := by
  blk_point [iblk, V, idx t]

/-- The array after the run is the reference. -/
theorem final (hm : Cert.Pre_RwFinishIdeal_finite_rwfin m) (c : Dev nD) : (dats m 0 c).arrAt 8 cfg0.N = REF m c := by
  obtain ⟨hs, hw⟩ := finite_args m hm c
  refine (dats m 0 c).arrAt_eq_of_covers 8 _ (by decide +kernel) fun t hf y => ?_
  blk_simp
  rw [after0_8]
  unfold out0_8
  frame_out
  have hy : y = ix2 (y 0 : Fin 512) (y 1 : Fin 1024) := Shape.idx_ext₂ rfl rfl
  have b0 : ∀ j : S512x1024.Idx, Fin' ((iblk m c 0 t : FVec Ideal S512x1024 .bf16) j) := fun j => by
    rw [show j = ix2 (j 0) (j 1) from Shape.idx_ext₂ rfl rfl]
    exact (congrArg Fin' (fst_at m c t (j 0) (j 1))).mpr (hs _)
  have b1 : ∀ j : S512x1024.Idx, Fin' ((iblk m c 1 t : FVec Ideal S512x1024 .bf16) j) := fun j => by
    rw [show j = ix2 (j 0) (j 1) from Shape.idx_ext₂ rfl rfl]
    exact (congrArg Fin' (snd_at m c t (j 0) (j 1))).mpr (hw _)
  rw [hy]
  refine (stored_at _ _ _ _ (marks_at m c t) (turned_at m c t) b0 b1 _ _ _ _ (y 0) (y 1)).trans ?_
  refine Eq.trans ?_ ((congrArg (REF m c) (place t (y 0) (y 1))).trans (reference_at _ _ _ _ _ _ _)).symm
  have eb : both (iblk m c 0 t) (iblk m c 1 t) (y 0) = fun d => (show EReal from m ((c : Thread nD τ).loc main_arg0) (ix2 (row t (y 0)) d))
      + (show EReal from m ((c : Thread nD τ).loc main_arg1) (ix2 (row t (y 0)) d)) :=
    funext fun d => congrArg₂ (fun a b : EReal => a + b) (fst_at m c t (y 0) d) (snd_at m c t (y 0) d)
  have e4 := weight_at m c t (y 1)
  have e5 := shift_at m c t (y 1)
  have e2 := bonus_at m c t (y 0) (y 1)
  have e3 := gate_at m c t (y 0) (y 1)
  exact closed_congr eb e4 e5 e2 e3

/-- The printed call terminates and keeps its arguments. -/
theorem frame_printed : Cert.quiescent_RwFinish := fun m g _ => Cert.RwFinish.Gen.frame m g

/-- So does the call over the extended reals. -/
theorem frame_kernel : Cert.quiescent_RwFinishIdeal := fun m g _ => Cert.RwFinishIdeal.Gen.frame m g

/-- And with finite arguments in particular. -/
theorem frame_kernel_finite : Cert.quiescent_RwFinishIdeal_pre_finite_rwfin := fun m g _ => Cert.RwFinishIdeal.Gen.frame m g

/-- And so does the reference. -/
theorem frame_reference : Cert.quiescent_RwFinishRefIdeal := fun m g _ =>
  (θ_run Cert.RwFinishRefIdeal.defs _ _).mono
    (fun r h => ⟨fun c => (h c).2, Idealize.ShloMosaic.sem_eq_zero_of_no_sems (by decide) r.2⟩)
    (Cert.RwFinishRefIdeal.Value.run (F := Ideal) m g)

/-- And with finite arguments in particular. -/
theorem frame_reference_finite : Cert.quiescent_RwFinishRefIdeal_pre_finite_rwfin := fun m g _ => frame_reference m g trivial

/-- From the same finite arguments the call and the reference leave the same array. -/
theorem same_values : Cert.algebraic_RwFinishIdeal_RwFinishRefIdeal_pre_finite_rwfin := by
  intro m g m' g' hm hagree
  refine ⟨fun c => REF m c, ?_, ?_⟩
  · exact (θ_run Cert.RwFinishIdeal.defs _ _).mono (fun r h c => ⟨(h c).1.trans (final m hm c), (h c).2⟩)
      (Cert.RwFinishIdeal.Value.run_blocks (F := Ideal) m g)
  · refine (θ_run Cert.RwFinishRefIdeal.defs _ _).mono (fun r h c => ⟨(h c).1.trans ?_, (h c).2⟩)
      (Cert.RwFinishRefIdeal.Value.run (F := Ideal) m' g')
    obtain ⟨h0, h1, h2, h3, h4, h5⟩ := hagree c
    rw [h0, h1, h2, h3, h4, h5, Cert.RwFinishRefIdeal.Read.val_main_v33_eq]

end Cert.RwFin
end
-- ==== Proof.Prep.lean ====
/- The preparation of the delta-rule scan: the value and the gate, read at an index.

   The kernel mixes each token with its two neighbours.  Within a block the neighbours come from rotations of the block's
   rows; at a block's first and last row they come from the blocks beside it, or are zero at the sequence's ends.  The gate
   is a product in three parts of rounded values and what the rounding leaves; over the extended reals the remainder is a
   value minus itself, which is zero where the value is finite.  That is the claim's precondition. -/
module

public import proofs.«01_k».proof.Defs
public import proofs.«01_k».proof.Proof.Gen.Prep.Frame
public import proofs.«01_k».proof.Proof.Gen.PrepIdeal.Value
public import proofs.«01_k».proof.Proof.Gen.PrepRefIdeal.Read
public import proofs.«01_k».proof.Proof.Gen.Pre_finite_prep
public import proofs.«01_k».proof.Proof.Finite
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.PrepVal

open Cert.PrepIdeal Cert.PrepIdeal.Gen Cert.Finite

/-- Row `s` of a sequence with a row of zeros put before it and one after it. -/
def padded (P : FVec Ideal S2x4096x3584 .f32) (b : Fin 2) (s : ℕ) (d : Fin 3584) : EReal :=
  if h : 1 ≤ s ∧ s - 1 < 4096 then P (ix3 b ⟨s - 1, h.2⟩ d) else 0

/-- Outside the sequence it is zero. -/
theorem padded_out (P : FVec Ideal S2x4096x3584 .f32) (b : Fin 2) (s : ℕ) (d : Fin 3584) (h : ¬ (1 ≤ s ∧ s - 1 < 4096)) : padded P b s d = 0 := dif_neg h

/-- A token mixed with its two neighbours, by one weight each. -/
def mix (P : FVec Ideal S2x4096x3584 .f32) (w0 w1 w2 : EReal) (b : Fin 2) (s : Fin 4096) (d : Fin 3584) : EReal :=
  padded P b s.val d * w0 + padded P b (s.val + 1) d * w1 + padded P b (s.val + 2) d * w2

/-- The column of the wider array at the same place. -/
def wide (d : Fin 3488) : Fin 3584 := ⟨d.val, by have := d.isLt; omega⟩

theorem zero32 : Ideal.ofBits FTy.f32 0x00000000#32 = 0 := by
  simp [Ideal.ofBits, Ideal.ieee]

/-- The reference's mixture, read at a place. -/
theorem ref_mix (P : FVec Ideal S2x4096x3584 .f32) (W : FVec Ideal S1x3x3488 .f32) (b : Fin 2) (s : Fin 4096) (d : Fin 3488) :
    Cert.PrepRefIdeal.Read.val_main_v21 (F := Ideal) P W (ix3 b s d)
      = mix P (W (ix3 0 0 d)) (W (ix3 0 1 d)) (W (ix3 0 2 d)) b s (wide d) := by
  have hs := s.isLt
  unfold mix wide
  pointwise [Cert.PrepRefIdeal.Read.val_main_v21, Cert.PrepRefIdeal.Read.val_main_v20, Cert.PrepRefIdeal.Read.val_main_v19, Cert.PrepRefIdeal.Read.val_main_v18,
    Cert.PrepRefIdeal.Read.val_main_v17, Cert.PrepRefIdeal.Read.val_main_v16, Cert.PrepRefIdeal.Read.val_main_v15, Cert.PrepRefIdeal.Read.val_main_v14,
    Cert.PrepRefIdeal.Read.val_main_v13, Cert.PrepRefIdeal.Read.val_main_v12, Cert.PrepRefIdeal.Read.val_main_v11, Cert.PrepRefIdeal.Read.val_main_v10,
    Cert.PrepRefIdeal.Read.val_main_v9, Cert.PrepRefIdeal.Read.val_main_v8, Cert.PrepRefIdeal.Read.val_main_v7, Cert.PrepRefIdeal.Read.val_main_v6,
    Cert.PrepRefIdeal.Read.val_main_v5, Cert.PrepRefIdeal.Read.val_main_v4, Cert.PrepRefIdeal.Read.val_main_v3, Cert.PrepRefIdeal.Read.val_main_v2,
    Cert.PrepRefIdeal.Read.val_main_v1, Cert.PrepRefIdeal.Read.val_main_v0, Cert.PrepRefIdeal.Read.val_main_call0_v0, padded]
  have e0 : (FloatOps.sitofp (F := Ideal) FTy.f32 (Cert.PrepRefIdeal.Read.val_main_c (F := Ideal) (Shape.Idx.first Cert.PrepRefIdeal.Gen.h_S_)) : EReal) = 0 := by
    show (((0#32 : BitVec 32).toInt : ℝ) : EReal) = 0
    simp
  have e2 : 2 + s.val = s.val + 2 := Nat.add_comm _ _
  have e3 : 1 ≤ s.val + 2 := by omega
  simp only [e0, e2, e3, true_and, Nat.add_sub_cancel, hs, dite_true, Fin.eta]

/-- A choice by a row's number. -/
theorem row_first : ∀ r : Fin 256, IntOp.cmpi .eq (BitVec.ofNat 32 r.val) 0#32 = if r.val = 0 then 1#1 else 0#1 := by decide +kernel

theorem row_last : ∀ r : Fin 256, IntOp.cmpi .eq (BitVec.ofNat 32 r.val) 255#32 = if r.val = 255 then 1#1 else 0#1 := by decide +kernel

/-- A choice by a block's number. -/
theorem block_later : ∀ n : Fin 16, Scalar.cmpi .sgt (BitVec.ofNat 32 n.val) 0#32 = if 0 < n.val then 1#1 else 0#1 := by decide +kernel

theorem block_earlier : ∀ n : Fin 16, Scalar.cmpi .slt (BitVec.ofNat 32 n.val) 15#32 = if n.val < 15 then 1#1 else 0#1 := by decide +kernel

theorem choose (p : Prop) [Decidable p] (a b : EReal) : Scalar.select (if p then 1#1 else 0#1) a b = if p then a else b := by
  by_cases h : p
  · rw [if_pos h, if_pos h]; rfl
  · rw [if_neg h, if_neg h]; rfl

/-- The kernel's mixture over the blocks that a point reads, at a place. -/
theorem block_mix (i : grid0.Coords) (x : Vec Ideal S1x256x3584 .f32) (u v : Vec Ideal S1x1x3584 .f32) (w : Vec Ideal S3x3584 .f32) (r : Fin 256) (d : Fin 3584) :
    k0_pay2 (F := Ideal) i x u v w (ix2 r d)
      = (if r.val = 0 then (if 0 < (i 1).val then u (ix3 0 0 d) else 0) else x (ix3 0 ⟨r.val - 1, by have := r.isLt; omega⟩ d)) * w (ix2 0 d)
        + x (ix3 0 r d) * w (ix2 1 d)
        + (if h : r.val = 255 then (if (i 1).val < 15 then v (ix3 0 0 d) else 0) else x (ix3 0 ⟨r.val + 1, by have := r.isLt; omega⟩ d)) * w (ix2 2 d) := by
  have hr := r.isLt
  have e1 := row_first r
  have e2 := row_last r
  have e3 := block_later (i 1)
  have e4 := block_earlier (i 1)
  pointwise [k0_pay2]
  rw [e1, e2, e3, e4]
  simp only [choose]
  congr 1
  · congr 2
    by_cases h : r.val = 0
    · rw [if_pos h, if_pos h]
    · rw [if_neg h, if_neg h]
      exact congrArg (fun j => x (ix3 0 j d)) (Fin.ext (by show (r.val + 256 - 1) % 256 = r.val - 1; omega))
  · congr 1
    by_cases h : r.val = 255
    · rw [if_pos h, dif_pos h]
    · rw [if_neg h, dif_neg h]
      exact congrArg (fun j => x (ix3 0 j d)) (Fin.ext (by show (r.val + 256 - 255) % 256 = r.val + 1; omega))

variable (m : (ℓ : Loc nD τ sig) → Buf (Elt Ideal) ℓ)

/-- Where each window that these results depend on stands at each grid point. -/
theorem idx : ∀ t : Fin cfg0.N, win0_0.index t = ![t.val / 16, t.val % 16 * 32 - 1, 0] ∧ win0_1.index t = ![t.val / 16, t.val % 16, 0]
    ∧ win0_2.index t = ![t.val / 16, min ((t.val % 16 + 1) * 32) 511, 0] ∧ win0_3.index t = ![0, 0] ∧ win0_6.index t = ![0, 0, 0]
    ∧ win0_20.index t = ![t.val / 16, t.val % 16, 0] ∧ win0_22.index t = ![t.val / 16, t.val % 16, 0] :=
  (by decide +kernel : ∀ t : Fin grid0.N, _)

theorem coord : ∀ t : Fin cfg0.N, ((cfg0.grid.coords t) 1).val = t.val % 16 :=
  (by decide +kernel : ∀ t : Fin grid0.N, _)

/-- The sequence and the token behind a block's row at point `t`. -/
def seq (t : Fin cfg0.N) : Fin 2 := ⟨t.val / 16, by have h : t.val < 32 := t.isLt; omega⟩

def tok (t : Fin cfg0.N) (r : Fin 256) : Fin 4096 := ⟨t.val % 16 * 256 + r.val, by have := r.isLt; omega⟩

theorem rows_at (c : Dev nD) (t : Fin cfg0.N) (r : Fin 256) (d : Fin 3584) :
    (View.ld (iblk m c 1 t : FVec Ideal S1x256x3584 .f32) r0_0) (ix3 0 r d) = m ((c : Thread nD τ).loc main_arg0) (ix3 (seq t) (tok t r) d) := by
  unfold seq tok
  blk_point [iblk, V_main_arg0, idx t]

theorem above_at (c : Dev nD) (t : Fin cfg0.N) (h : 0 < t.val % 16) (d : Fin 3584) :
    (View.ld (iblk m c 0 t : FVec Ideal S1x8x3584 .f32) r0_1) (ix3 0 0 d)
      = m ((c : Thread nD τ).loc main_arg0) (ix3 (seq t) ⟨t.val % 16 * 256 - 1, by omega⟩ d) := by
  unfold seq
  blk_point [iblk, V_main_arg0, idx t]

theorem below_at (c : Dev nD) (t : Fin cfg0.N) (h : t.val % 16 < 15) (d : Fin 3584) :
    (View.ld (iblk m c 2 t : FVec Ideal S1x8x3584 .f32) r0_2) (ix3 0 0 d)
      = m ((c : Thread nD τ).loc main_arg0) (ix3 (seq t) ⟨t.val % 16 * 256 + 256, by omega⟩ d) := by
  unfold seq
  blk_point [iblk, V_main_arg0, idx t]

/-- The array of weights that the host forms: the model's, with columns of zeros after it. -/
theorem V_main_v1 (c : Dev nD) : V m c main_v1
    = pad S3x3584 ![0, 0] ![0, 96] ![0, 0] (shapeCast S3x3488 (m ((c : Thread nD τ).loc main_arg1) : FVec Ideal S1x3x3488 .f32) shapeCasts_S1x3x3488_S3x3488)
        (sitofp (F := Ideal) .f32 (constantI S_ 32 0#32)) pads_S3x3488_S3x3584_000_0960 h_S_ := by
  show StableHlo.after (List.flatten [hostOps0, hostOps0_1, hostOps0_2, hostOps0_3, hostOps0_4, hostOps0_5, hostOps0_6]) _ (Proc.devRef .tc main_v1) = _
  simp only [hostOps0, hostOps0_1, hostOps0_2, hostOps0_3, hostOps0_4, hostOps0_5, hostOps0_6, List.flatten_cons, List.flatten_nil, List.append_nil, List.cons_append, List.nil_append]
  after_results
  rfl

/-- The gate's matrix with rows of zeros after it. -/
def tall (G : FVec Ideal S1x160x1024 .f32) : FVec Ideal S256x1024 .f32 :=
  Host.scatter scatter_S256x1024_S1_S160x1024_01_n_0_0 (fun _ b => b) (broadcastInDim S256x1024 ![] bcast_S_S256x1024 (constant S_ .f32 0x00000000#32))
    (broadcastInDim S1 ![] bcast_S_S1 (constantI S_ 32 0#32)) (shapeCast S160x1024 G shapeCasts_S1x160x1024_S160x1024)

/-- The stack of a matrix and what rounding leaves of it. -/
def stack (T : FVec Ideal S256x1024 .f32) : FVec Ideal S2x256x1024 .bf16 :=
  concatenate S2x256x1024 0 [⟨S1x256x1024, broadcastInDim S1x256x1024 ![1, 2] bcast_S256x1024_S1x256x1024_1_2 (truncf .bf16 T bitsLt_bf16_f32)⟩,
    ⟨S1x256x1024, broadcastInDim S1x256x1024 ![1, 2] bcast_S256x1024_S1x256x1024_1_2
      (truncf .bf16 (subf T (extf .f32 (truncf .bf16 T bitsLt_bf16_f32 : FVec Ideal S256x1024 .bf16) bitsLt_bf16_f32)) bitsLt_bf16_f32 : FVec Ideal S256x1024 .bf16)⟩]
    concatenates_S1x256x1024_S1x256x1024_S2x256x1024_d0

theorem V_main_v62 (c : Dev nD) : V m c main_v62 = stack (tall (m ((c : Thread nD τ).loc main_arg6))) := by
  show StableHlo.after (List.flatten [hostOps0, hostOps0_1, hostOps0_2, hostOps0_3, hostOps0_4, hostOps0_5, hostOps0_6]) _ (Proc.devRef .tc main_v62) = _
  simp only [hostOps0, hostOps0_1, hostOps0_2, hostOps0_3, hostOps0_4, hostOps0_5, hostOps0_6, List.flatten_cons, List.flatten_nil, List.append_nil, List.cons_append, List.nil_append]
  after_results
  rfl

theorem stack_fst (T : FVec Ideal S256x1024 .f32) (k : Fin 256) (d : Fin 1024) : stack T (ix3 0 k d) = T (ix2 k d) := by
  pointwise [stack]

theorem stack_snd (T : FVec Ideal S256x1024 .f32) (k : Fin 256) (d : Fin 1024) : stack T (ix3 1 k d) = T (ix2 k d) - T (ix2 k d) := by
  pointwise [stack]

/-- Where the host's update of a row lands. -/
theorem lands (G : IVec S1 32) (hG : ∀ j, G j = 0#32) (j : S160x1024.Idx) (k : Fin 256) (d : Fin 1024) :
    scatter_S256x1024_S1_S160x1024_01_n_0_0.resultIdx? j G = some (ix2 k d) ↔ (j 0).val = k.val ∧ (j 1).val = d.val := by
  have e0 : scatter_S256x1024_S1_S160x1024_01_n_0_0.start j G 0 = 0 := by
    unfold ScatterDims.start
    rw [dif_pos (by decide : (0 : Fin 2) ∈ scatter_S256x1024_S1_S160x1024_01_n_0_0.scatterDimsToOperandDims), hG]
    rfl
  have e1 : scatter_S256x1024_S1_S160x1024_01_n_0_0.start j G 1 = 0 := by
    unfold ScatterDims.start
    rw [dif_neg (by decide : ¬ (1 : Fin 2) ∈ scatter_S256x1024_S1_S160x1024_01_n_0_0.scatterDimsToOperandDims)]
  have w0 : scatter_S256x1024_S1_S160x1024_01_n_0_0.window j 0 = (j 0).val := rfl
  have w1 : scatter_S256x1024_S1_S160x1024_01_n_0_0.window j 1 = (j 1).val := rfl
  refine (Idealize.ShloMosaic.Routing.resultIdx?_ix2 (R := 256) (C := 1024) scatter_S256x1024_S1_S160x1024_01_n_0_0 j G k d).trans ?_
  rw [e0, e1, w0, w1]
  omega

/-- The gate's matrix with rows of zeros after it, at a place. -/
theorem tall_at (G : FVec Ideal S1x160x1024 .f32) (k : Fin 256) (d : Fin 1024) :
    tall G (ix2 k d) = if h : k.val < 160 then G (ix3 0 ⟨k.val, h⟩ d) else 0 := by
  have hl := lands (broadcastInDim S1 ![] bcast_S_S1 (constantI S_ 32 0#32)) (fun _ => rfl)
  unfold tall
  by_cases h : k.val < 160
  · rw [dif_pos h]
    refine (Idealize.ShloMosaic.Routing.scatter_set_hit _ _ _ _ _ (G (ix3 0 ⟨k.val, h⟩ d)) (fun j hj => ?_) (ix2 ⟨k.val, h⟩ d) ((hl _ k d).2 ⟨rfl, rfl⟩))
    obtain ⟨a, b⟩ := (hl j k d).1 hj
    obtain rfl : j = ix2 ⟨k.val, h⟩ d := Shape.idx_ext₂ a b
    pointwise
  · rw [dif_neg h]
    refine (Idealize.ShloMosaic.Routing.scatter_set_miss _ _ _ _ _ fun j hj => h ?_).trans zero32
    have a := ((hl j k d).1 hj).1
    have : (j 0).val < 160 := (j 0).isLt
    omega

/-- The mixture that a point computes. -/
theorem tile_mix (c : Dev nD) (t : Fin cfg0.N) (r : Fin 256) (d : Fin 3584) (w : Vec Ideal S3x3584 .f32) :
    k0_pay2 (F := Ideal) (cfg0.grid.coords t) (View.ld (iblk m c 1 t : FVec Ideal S1x256x3584 .f32) r0_0)
        (View.ld (iblk m c 0 t : FVec Ideal S1x8x3584 .f32) r0_1) (View.ld (iblk m c 2 t : FVec Ideal S1x8x3584 .f32) r0_2) w (ix2 r d)
      = mix (m ((c : Thread nD τ).loc main_arg0)) (w (ix2 0 d)) (w (ix2 1 d)) (w (ix2 2 d)) (seq t) (tok t r) d := by
  have hr := r.isLt
  have ht : t.val % 16 < 16 := Nat.mod_lt _ (by decide)
  have hc : ((cfg0.grid.coords t) 1).val = t.val % 16 := coord t
  refine (block_mix (cfg0.grid.coords t) _ _ _ w r d).trans ?_
  unfold mix
  have pin : ∀ (s : ℕ) (h : s < 4096), padded (m ((c : Thread nD τ).loc main_arg0)) (seq t) (s + 1) d
      = m ((c : Thread nD τ).loc main_arg0) (ix3 (seq t) ⟨s, h⟩ d) := fun s h => dif_pos ⟨by omega, by omega⟩
  have e1 := rows_at m c t
  have p1 : (if r.val = 0 then (if 0 < ((cfg0.grid.coords t) 1).val then (View.ld (iblk m c 0 t : FVec Ideal S1x8x3584 .f32) r0_1) (ix3 0 0 d) else 0)
      else (View.ld (iblk m c 1 t : FVec Ideal S1x256x3584 .f32) r0_0) (ix3 0 ⟨r.val - 1, by omega⟩ d) : EReal)
      = padded (m ((c : Thread nD τ).loc main_arg0)) (seq t) (tok t r).val d := by
    by_cases h : r.val = 0
    · rw [if_pos h, hc]
      by_cases h' : 0 < t.val % 16
      · rw [if_pos h', above_at m c t h' d, ← pin]
        exact congrArg (fun s => padded _ _ s d) (by show t.val % 16 * 256 - 1 + 1 = t.val % 16 * 256 + r.val; omega)
      · rw [if_neg h']
        refine (padded_out _ _ _ _ (fun q : 1 ≤ (tok t r).val ∧ (tok t r).val - 1 < 4096 => ?_)).symm
        have q1 : 1 ≤ t.val % 16 * 256 + r.val := q.1
        omega
    · rw [if_neg h, e1]
      refine (pin (t.val % 16 * 256 + (r.val - 1)) (by omega)).symm.trans ?_
      exact congrArg (fun s => padded _ _ s d) (by show t.val % 16 * 256 + (r.val - 1) + 1 = t.val % 16 * 256 + r.val; omega)
  have p2 : ((View.ld (iblk m c 1 t : FVec Ideal S1x256x3584 .f32) r0_0) (ix3 0 r d) : EReal)
      = padded (m ((c : Thread nD τ).loc main_arg0)) (seq t) ((tok t r).val + 1) d := (e1 r d).trans (pin _ _).symm
  have p3 : (if h : r.val = 255 then (if ((cfg0.grid.coords t) 1).val < 15 then (View.ld (iblk m c 2 t : FVec Ideal S1x8x3584 .f32) r0_2) (ix3 0 0 d) else 0)
      else (View.ld (iblk m c 1 t : FVec Ideal S1x256x3584 .f32) r0_0) (ix3 0 ⟨r.val + 1, by omega⟩ d) : EReal)
      = padded (m ((c : Thread nD τ).loc main_arg0)) (seq t) ((tok t r).val + 2) d := by
    by_cases h : r.val = 255
    · rw [dif_pos h, hc]
      by_cases h' : t.val % 16 < 15
      · rw [if_pos h', below_at m c t h' d, ← pin]
        exact congrArg (fun s => padded _ _ s d) (by show t.val % 16 * 256 + 256 + 1 = t.val % 16 * 256 + r.val + 2; omega)
      · rw [if_neg h']
        refine (padded_out _ _ _ _ (fun q : 1 ≤ (tok t r).val + 2 ∧ (tok t r).val + 2 - 1 < 4096 => ?_)).symm
        have q1 : t.val % 16 * 256 + r.val + 2 - 1 < 4096 := q.2
        omega
    · rw [dif_neg h, e1]
      refine (pin (t.val % 16 * 256 + (r.val + 1)) (by omega)).symm.trans ?_
      exact congrArg (fun s => padded _ _ s d) (by show t.val % 16 * 256 + (r.val + 1) + 1 = t.val % 16 * 256 + r.val + 2; omega)
  exact congrArg₂ (fun a b : EReal => a + b) (congrArg₂ (fun a b : EReal => a * w (ix2 0 d) + b * w (ix2 1 d)) p1 p2) (congrArg (fun a : EReal => a * w (ix2 2 d)) p3)

/-- A whole array read through the window that covers it. -/
theorem ld_weights (x : Vec Ideal S3x3584 .f32) (k : Fin 3) (d : Fin 3584) : (View.ld x r0_3) (ix2 k d) = x (ix2 k d) := by
  pointwise

theorem ld_fst (x : Vec Ideal S2x256x1024 .bf16) (k : Fin 256) (d : Fin 1024) : (View.ld x r0_13) (ix3 0 k d) = x (ix3 0 k d) := by
  pointwise

theorem ld_snd (x : Vec Ideal S2x256x1024 .bf16) (k : Fin 256) (d : Fin 1024) : (View.ld x r0_14) (ix3 0 k d) = x (ix3 1 k d) := by
  pointwise

/-- The weights with columns of zeros after them, at a place. -/
theorem broad_at (W : FVec Ideal S1x3x3488 .f32) (z : FVec Ideal S_ .f32) (hz : ∀ j, z j = (0 : EReal)) (k : Fin 3) (d : Fin 3584) :
    pad S3x3584 ![0, 0] ![0, 96] ![0, 0] (shapeCast S3x3488 W shapeCasts_S1x3x3488_S3x3488) z pads_S3x3488_S3x3584_000_0960 h_S_ (ix2 k d)
      = if h : d.val < 3488 then W (ix3 0 k ⟨d.val, h⟩) else (0 : EReal) := by
  pointwise [hz]

/-- The host's weights, at a place. -/
theorem weights_at (c : Dev nD) (t : Fin cfg0.N) (k : Fin 3) (d : Fin 3584) :
    (View.ld (iblk m c 3 t : FVec Ideal S3x3584 .f32) r0_3) (ix2 k d)
      = if h : d.val < 3488 then m ((c : Thread nD τ).loc main_arg1) (ix3 0 k ⟨d.val, h⟩) else (0 : EReal) := by
  refine (ld_weights _ k d).trans (Eq.trans (Eq.trans ?_ (congrFun (V_main_v1 m c) (ix2 k d))) (broad_at _ _ (fun j => ?_) k d))
  · show V m c main_v1 _ = _
    exact congrArg (V m c main_v1) (by blk_ext [idx t])
  · show (((0#32 : BitVec 32).toInt : ℝ) : EReal) = 0
    simp

theorem gates_at (c : Dev nD) (t : Fin cfg0.N) (k : Fin 256) (d : Fin 1024) :
    (View.ld (iblk m c 6 t : FVec Ideal S2x256x1024 .bf16) r0_13) (ix3 0 k d) = tall (m ((c : Thread nD τ).loc main_arg6)) (ix2 k d) := by
  refine (ld_fst _ k d).trans (Eq.trans (Eq.trans ?_ (congrFun (V_main_v62 m c) (ix3 0 k d))) (stack_fst _ k d))
  show V m c main_v62 _ = _
  exact congrArg (V m c main_v62) (by blk_ext [idx t])

theorem rests_at (c : Dev nD) (t : Fin cfg0.N) (k : Fin 256) (d : Fin 1024) :
    (View.ld (iblk m c 6 t : FVec Ideal S2x256x1024 .bf16) r0_14) (ix3 0 k d)
      = tall (m ((c : Thread nD τ).loc main_arg6)) (ix2 k d) - tall (m ((c : Thread nD τ).loc main_arg6)) (ix2 k d) := by
  refine (ld_snd _ k d).trans (Eq.trans (Eq.trans ?_ (congrFun (V_main_v62 m c) (ix3 1 k d))) (stack_snd _ k d))
  show V m c main_v62 _ = _
  exact congrArg (V m c main_v62) (by blk_ext [idx t])

/-- The gate's product as the kernel computes it, in three parts. -/
theorem parts (M : FVec Ideal S256x3584 .f32) (g0 g1 : Vec Ideal S1x256x1024 .bf16) (r : Fin 256) (d : Fin 1024) :
    k0_pay1 (F := Ideal) (k0_pay67 (k0_pay7 M)) (k0_pay68 g0) g1 (ix3 0 r d)
      = ∑ k : Fin 256, Ideal.logistic (M (ix2 r ⟨3328 + k.val, by have := k.isLt; omega⟩)) * g0 (ix3 0 k d)
        + (∑ k : Fin 256, Ideal.logistic (M (ix2 r ⟨3328 + k.val, by have := k.isLt; omega⟩)) * g1 (ix3 0 k d)
          + ∑ k : Fin 256, (Ideal.logistic (M (ix2 r ⟨3328 + k.val, by have := k.isLt; omega⟩)) - Ideal.logistic (M (ix2 r ⟨3328 + k.val, by have := k.isLt; omega⟩))) * g0 (ix3 0 k d)) := by
  pointwise [k0_pay1, k0_pay67, k0_pay68, k0_pay7]

/-- The reference's gate, read at a place. -/
theorem ref_gate (P : FVec Ideal S2x4096x3584 .f32) (W : FVec Ideal S1x3x3488 .f32) (G : FVec Ideal S1x160x1024 .f32) (b : Fin 2) (s : Fin 4096) (d : Fin 1024) :
    Cert.PrepRefIdeal.Read.val_main_v31 (F := Ideal) P W G (ix3 b s d)
      = ∑ k : Fin 160, Ideal.logistic (Cert.PrepRefIdeal.Read.val_main_v21 (F := Ideal) P W (ix3 b s ⟨3328 + k.val, by have := k.isLt; omega⟩)) * G (ix3 0 k d) := by
  unfold Cert.PrepRefIdeal.Read.val_main_v31 Cert.PrepRefIdeal.Read.val_main_v29 Cert.PrepRefIdeal.Read.val_main_v27 Cert.PrepRefIdeal.Read.val_main_v25
    Cert.PrepRefIdeal.Read.val_main_v24 Cert.PrepRefIdeal.Read.val_main_v23
  generalize Cert.PrepRefIdeal.Read.val_main_v21 (F := Ideal) P W = R
  pointwise [Cert.PrepRefIdeal.Read.val_main_v30, Cert.PrepRefIdeal.Read.val_main_v28, Cert.PrepRefIdeal.Read.val_main_v26, Cert.PrepRefIdeal.Read.val_main_cst, Cert.PrepRefIdeal.Read.val_main_cst_0, Ideal.logistic]

/-- A sum over 256 rows, of which those after the first 160 add nothing. -/
theorem sum_rows (f : Fin 256 → EReal) (g : Fin 160 → EReal) (h0 : ∀ (k : Fin 256) (h : k.val < 160), f k = g ⟨k.val, h⟩) (h1 : ∀ k : Fin 256, ¬ k.val < 160 → f k = 0) :
    ∑ k, f k = ∑ k, g k := by
  have e := Fin.sum_univ_add (M := EReal) (a := 160) (b := 96) f
  refine e.trans ?_
  rw [Finset.sum_eq_zero (s := (Finset.univ : Finset (Fin 96))) fun k _ => h1 _ (by show ¬ 160 + k.val < 160; omega), add_zero]
  exact Finset.sum_congr rfl fun k _ => h0 _ (by show k.val < 160; exact k.isLt)

/-- Over finite values the three parts are one product. -/
theorem parts_sum (σ : Fin 256 → EReal) (T g0 g1 : Fin 256 → EReal) (hσ : ∀ k, Fin' (σ k)) (hT : ∀ k, Fin' (T k)) (h0 : ∀ k, g0 k = T k) (h1 : ∀ k, g1 k = T k - T k) :
    ∑ k, σ k * g0 k + (∑ k, σ k * g1 k + ∑ k, (σ k - σ k) * g0 k) = ∑ k, σ k * T k := by
  have e0 : ∀ k, T k - T k = 0 := fun k => Finite.sub_self (hT k)
  have e1 : ∀ k, σ k - σ k = 0 := fun k => Finite.sub_self (hσ k)
  simp only [h0, h1, e0, e1, mul_zero, zero_mul, Finset.sum_const_zero, add_zero]

theorem zero_fin : Fin' (0 : EReal) := ⟨0, rfl⟩

/-- The logistic function is finite everywhere, at the infinities too. -/
theorem logistic_fin (x : EReal) : Fin' (Ideal.logistic x) := by
  induction x using EReal.rec with
  | bot => exact ⟨0, Ideal.logistic_bot⟩
  | top => exact ⟨1, Ideal.logistic_top⟩
  | coe r => exact logistic ⟨r, rfl⟩

/-- The precondition, read at a place. -/
theorem finite_args (hm : Cert.Pre_PrepIdeal_finite_prep m) (c : Dev nD) (i : S1x160x1024.Idx) : Fin' (m ((c : Thread nD τ).loc main_arg6) i) :=
  of_cmp (congrFun (hm c) i)

/-- The reference's two arrays over this program's arguments. -/
abbrev REFV (c : Dev nD) : FVec Ideal S2x4096x1024 .bf16 :=
  Cert.PrepRefIdeal.Read.val_main_v32 (F := Ideal) (m ((c : Thread nD τ).loc main_arg0)) (m ((c : Thread nD τ).loc main_arg1))

abbrev REFG (c : Dev nD) : FVec Ideal S2x4096x1024 .f32 :=
  Cert.PrepRefIdeal.Read.val_main_v31 (F := Ideal) (m ((c : Thread nD τ).loc main_arg0)) (m ((c : Thread nD τ).loc main_arg1)) (m ((c : Thread nD τ).loc main_arg6))

/-- The mixture that a point computes, over the arguments. -/
abbrev tile (c : Dev nD) (t : Fin cfg0.N) : FVec Ideal S256x3584 .f32 :=
  k0_pay2 (F := Ideal) (cfg0.grid.coords t) (View.ld (iblk m c 1 t : FVec Ideal S1x256x3584 .f32) r0_0)
    (View.ld (iblk m c 0 t : FVec Ideal S1x8x3584 .f32) r0_1) (View.ld (iblk m c 2 t : FVec Ideal S1x8x3584 .f32) r0_2)
    (View.ld (iblk m c 3 t : FVec Ideal S3x3584 .f32) r0_3)

/-- In the model's columns it is the reference's mixture. -/
theorem tile_ref (c : Dev nD) (t : Fin cfg0.N) (r : Fin 256) (d : Fin 3488) :
    tile m c t (ix2 r (wide d)) = Cert.PrepRefIdeal.Read.val_main_v21 (F := Ideal) (m ((c : Thread nD τ).loc main_arg0)) (m ((c : Thread nD τ).loc main_arg1)) (ix3 (seq t) (tok t r) d) := by
  have e : ∀ k : Fin 3, (View.ld (iblk m c 3 t : FVec Ideal S3x3584 .f32) r0_3) (ix2 k (wide d)) = m ((c : Thread nD τ).loc main_arg1) (ix3 0 k d) :=
    fun k => (weights_at m c t k (wide d)).trans (dif_pos d.isLt)
  refine (tile_mix m c t r (wide d) _).trans (Eq.trans ?_ (ref_mix _ _ _ _ _).symm)
  rw [e, e, e]

/-- The value that a point stores, at a place. -/
theorem value_at (c : Dev nD) (t : Fin cfg0.N) (r : Fin 256) (d : Fin 1024) :
    k0_pay16 (F := Ideal) (tile m c t) (ix3 0 r d) = REFV m c (ix3 (seq t) (tok t r) d) := by
  have hd := d.isLt
  have e := tile_ref m c t r ⟨1024 + d.val, by omega⟩
  have er : REFV m c (ix3 (seq t) (tok t r) d) = Cert.PrepRefIdeal.Read.val_main_v21 (F := Ideal) (m ((c : Thread nD τ).loc main_arg0)) (m ((c : Thread nD τ).loc main_arg1))
      (ix3 (seq t) (tok t r) ⟨1024 + d.val, by omega⟩) := by
    unfold REFV Cert.PrepRefIdeal.Read.val_main_v32 Cert.PrepRefIdeal.Read.val_main_v22
    generalize Cert.PrepRefIdeal.Read.val_main_v21 (F := Ideal) _ _ = R
    generalize seq t = a
    generalize tok t r = b
    pointwise
  rw [er, ← e]
  unfold wide
  generalize tile m c t = M
  pointwise [k0_pay16, k0_pay4]

/-- The gate that a point stores, at a place. -/
theorem gate_at (hm : Cert.Pre_PrepIdeal_finite_prep m) (c : Dev nD) (t : Fin cfg0.N) (r : Fin 256) (d : Fin 1024) :
    k0_pay1 (F := Ideal) (k0_pay67 (k0_pay7 (tile m c t))) (k0_pay68 (View.ld (iblk m c 6 t : FVec Ideal S2x256x1024 .bf16) r0_13))
        (View.ld (iblk m c 6 t : FVec Ideal S2x256x1024 .bf16) r0_14) (ix3 0 r d)
      = REFG m c (ix3 (seq t) (tok t r) d) := by
  have h6 := finite_args m hm c
  have hT : ∀ k : Fin 256, Fin' (tall (m ((c : Thread nD τ).loc main_arg6)) (ix2 k d)) := fun k => by
    rw [tall_at]
    split
    · exact h6 _
    · exact zero_fin
  refine (parts (tile m c t) _ _ r d).trans ((parts_sum _ (fun k => tall (m ((c : Thread nD τ).loc main_arg6)) (ix2 k d)) _ _
    (fun k => logistic_fin _) hT (fun k => gates_at m c t k d) (fun k => rests_at m c t k d)).trans ?_)
  refine Eq.trans (sum_rows _ _ (fun k h => ?_) fun k h => ?_) (ref_gate _ _ _ _ _ _).symm
  · rw [tall_at, dif_pos h, ← tile_ref m c t r ⟨3328 + k.val, by omega⟩]
    rfl
  · rw [tall_at, dif_neg h, mul_zero]

/-- The array place behind a place of the block at point `t`. -/
theorem place_value (t : Fin cfg0.N) (r : Fin 256) (d : Fin 1024) : ((cfg0.win 20).blk t).view.emb (ix3 0 r d) = ix3 (seq t) (tok t r) d := by
  unfold seq tok
  blk_ext [idx t]

theorem place_gate (t : Fin cfg0.N) (r : Fin 256) (d : Fin 1024) : ((cfg0.win 22).blk t).view.emb (ix3 0 r d) = ix3 (seq t) (tok t r) d := by
  unfold seq tok
  blk_ext [idx t]

/-- The array of values after the run is the reference's. -/
theorem final_value (c : Dev nD) : (dats m 0 c).arrAt 20 cfg0.N = REFV m c := by
  refine (dats m 0 c).arrAt_eq_of_covers 20 _ (by decide +kernel) fun t hf y => ?_
  blk_simp
  rw [after0_20]
  unfold out0_20
  frame_out
  have hy : y = ix3 (0 : Fin 1) (y 1 : Fin 256) (y 2 : Fin 1024) :=
    (eq_ix3 (n0 := 1) (n1 := 256) (n2 := 1024) y).trans (congrArg (fun a : Fin 1 => ix3 a (y 1 : Fin 256) (y 2 : Fin 1024)) (Subsingleton.elim _ _))
  rw [hy]
  exact (value_at m c t (y 1) (y 2)).trans (congrArg (REFV m c) (place_value t (y 1) (y 2))).symm

/-- And the array of gates. -/
theorem final_gate (hm : Cert.Pre_PrepIdeal_finite_prep m) (c : Dev nD) : (dats m 0 c).arrAt 22 cfg0.N = REFG m c := by
  refine (dats m 0 c).arrAt_eq_of_covers 22 _ (by decide +kernel) fun t hf y => ?_
  blk_simp
  rw [after0_22]
  unfold out0_22
  frame_out
  have hy : y = ix3 (0 : Fin 1) (y 1 : Fin 256) (y 2 : Fin 1024) :=
    (eq_ix3 (n0 := 1) (n1 := 256) (n2 := 1024) y).trans (congrArg (fun a : Fin 1 => ix3 a (y 1 : Fin 256) (y 2 : Fin 1024)) (Subsingleton.elim _ _))
  rw [hy]
  exact (gate_at m hm c t (y 1) (y 2)).trans (congrArg (REFG m c) (place_gate t (y 1) (y 2))).symm

/-- The printed call terminates and keeps its arguments. -/
theorem frame_printed : Cert.quiescent_Prep := fun m g _ => Cert.Prep.Gen.frame m g

/-- So does the call over the extended reals. -/
theorem frame_kernel : Cert.quiescent_PrepIdeal := fun m g _ => Cert.PrepIdeal.Gen.frame m g

/-- And with finite arguments in particular. -/
theorem frame_kernel_finite : Cert.quiescent_PrepIdeal_pre_finite_prep := fun m g _ => Cert.PrepIdeal.Gen.frame m g

/-- And so does the reference. -/
theorem frame_reference : Cert.quiescent_PrepRefIdeal := fun m g _ =>
  (θ_run Cert.PrepRefIdeal.defs _ _).mono
    (fun r h => ⟨fun c => (h c).2.2, Idealize.ShloMosaic.sem_eq_zero_of_no_sems (by decide) r.2⟩)
    (Cert.PrepRefIdeal.Value.run (F := Ideal) m g)

/-- And with finite arguments in particular. -/
theorem frame_reference_finite : Cert.quiescent_PrepRefIdeal_pre_finite_prep := fun m g _ => frame_reference m g trivial

/-- From the same finite arguments the call and the reference leave the same arrays. -/
theorem same_values : Cert.algebraic_PrepIdeal_PrepRefIdeal_pre_finite_prep := by
  intro m g m' g' hm hagree
  refine ⟨fun c => REFV m c, fun c => REFG m c, ?_, ?_⟩
  · refine (θ_run Cert.PrepIdeal.defs _ _).mono (fun r h c => ?_) (Cert.PrepIdeal.Value.run_blocks (F := Ideal) m g)
    obtain ⟨_, _, _, _, _, _, _, _, _, _, hv, _, hg, hrest⟩ := h c
    exact ⟨hv.trans (final_value m c), hg.trans (final_gate m hm c), hrest⟩
  · refine (θ_run Cert.PrepRefIdeal.defs _ _).mono (fun r h c => ⟨(h c).1.trans ?_, (h c).2.1.trans ?_, (h c).2.2⟩)
      (Cert.PrepRefIdeal.Value.run (F := Ideal) m' g')
    · obtain ⟨h0, h1, h2, h3, h4, h5, h6, h7, h8, h9⟩ := hagree c
      rw [h0, h1, Cert.PrepRefIdeal.Read.val_main_v32_eq]
    · obtain ⟨h0, h1, h2, h3, h4, h5, h6, h7, h8, h9⟩ := hagree c
      rw [h0, h1, h6, Cert.PrepRefIdeal.Read.val_main_v31_eq]

end Cert.PrepVal
end
-- ==== Proof.lean ====
module

public import proofs.«01_k».proof.Defs
public import proofs.«01_k».proof.Proof.Mm
public import proofs.«01_k».proof.Proof.Down
public import proofs.«01_k».proof.Proof.OutProj
public import proofs.«01_k».proof.Proof.FfnUp
public import proofs.«01_k».proof.Proof.NormRows
public import proofs.«01_k».proof.Proof.RetFin
public import proofs.«01_k».proof.Proof.CtxCols
public import proofs.«01_k».proof.Proof.CtxRows
public import proofs.«01_k».proof.Proof.AdaMod
public import proofs.«01_k».proof.Proof.RwFin
public import proofs.«01_k».proof.Proof.Prep

@[expose] public section

noncomputable section

namespace Cert.Proof

/-- Every claim, in the order in which they are stated. -/
theorem claim : Cert.Claim := ⟨
  Cert.Kernel.Gen.facts, Cert.KernelIdeal.Gen.facts, Cert.ReferenceIdeal.Gen.facts,
  Cert.Norm.Gen.facts, Cert.NormIdeal.Gen.facts, Cert.NormRefIdeal.Gen.facts,
  Cert.OutProj.Gen.facts, Cert.OutProjIdeal.Gen.facts, Cert.OutProjRefIdeal.Gen.facts,
  Cert.FfnUp.Gen.facts, Cert.FfnUpIdeal.Gen.facts, Cert.FfnUpRefIdeal.Gen.facts,
  Cert.Down.Gen.facts, Cert.DownIdeal.Gen.facts, Cert.DownRefIdeal.Gen.facts,
  Cert.RetFinish.Gen.facts, Cert.RetFinishIdeal.Gen.facts, Cert.RetFinishRefIdeal.Gen.facts,
  Cert.CtxMm.Gen.facts, Cert.CtxMmIdeal.Gen.facts, Cert.CtxMmRefIdeal.Gen.facts,
  Cert.CtxNorm.Gen.facts, Cert.CtxNormIdeal.Gen.facts, Cert.CtxNormRefIdeal.Gen.facts,
  Cert.Ada.Gen.facts, Cert.AdaIdeal.Gen.facts, Cert.AdaRefIdeal.Gen.facts,
  Cert.RwFinish.Gen.facts, Cert.RwFinishIdeal.Gen.facts, Cert.RwFinishRefIdeal.Gen.facts,
  Cert.Prep.Gen.facts, Cert.PrepIdeal.Gen.facts, Cert.PrepRefIdeal.Gen.facts,
  Cert.Pre_finite_ada.Gen.facts, Cert.Pre_finite_rwfin.Gen.facts, Cert.Pre_finite_prep.Gen.facts,
  Cert.Mm.frame_printed, Cert.Mm.frame_kernel, Cert.Mm.frame_reference,
  Cert.NormRows.frame_printed, Cert.NormRows.frame_kernel, Cert.NormRows.frame_reference,
  Cert.OutRows.frame_printed, Cert.OutRows.frame_kernel, Cert.OutRows.frame_reference,
  Cert.Ffn.frame_printed, Cert.Ffn.frame_kernel, Cert.Ffn.frame_reference,
  Cert.DownProj.frame_printed, Cert.DownProj.frame_kernel, Cert.DownProj.frame_reference,
  Cert.RetFin.frame_printed, Cert.RetFin.frame_kernel, Cert.RetFin.frame_reference,
  Cert.CtxCols.frame_printed, Cert.CtxCols.frame_kernel, Cert.CtxCols.frame_reference,
  Cert.CtxRows.frame_printed, Cert.CtxRows.frame_kernel, Cert.CtxRows.frame_reference,
  Cert.AdaMod.frame_printed, Cert.AdaMod.frame_kernel, Cert.AdaMod.frame_kernel_finite, Cert.AdaMod.frame_reference, Cert.AdaMod.frame_reference_finite,
  Cert.RwFin.frame_printed, Cert.RwFin.frame_kernel, Cert.RwFin.frame_kernel_finite, Cert.RwFin.frame_reference, Cert.RwFin.frame_reference_finite,
  Cert.PrepVal.frame_printed, Cert.PrepVal.frame_kernel, Cert.PrepVal.frame_kernel_finite, Cert.PrepVal.frame_reference, Cert.PrepVal.frame_reference_finite,
  trivial, Cert.Mm.same_values, trivial, Cert.NormRows.same_values, trivial, Cert.OutRows.same_values, trivial, Cert.Ffn.same_values, trivial, Cert.DownProj.same_values,
  trivial, Cert.RetFin.same_values, trivial, Cert.CtxCols.same_values, trivial, Cert.CtxRows.same_values,
  trivial, Cert.AdaMod.same_values, trivial, Cert.RwFin.same_values,
  trivial, Cert.PrepVal.same_values⟩

end Cert.Proof

end
